-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v15)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v15) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v97_0)) (v1 : (c : Dev Cert.Kernel3Ideal.nD) → Buf (Elt Ideal) ((c.tc : Thread Cert.Kernel3Ideal.nD Cert.Kernel3Ideal.τ).loc Cert.Kernel3Ideal.main_v97_1)) (v2 : (c : Dev Cert.Kernel3Ideal.nD) → Buf (Elt Ideal) ((c.tc : Thread Cert.Kernel3Ideal.nD Cert.Kernel3Ideal.τ).loc Cert.Kernel3Ideal.main_v97_2)) (v3 : (c : Dev Cert.Kernel3Ideal.nD) → Buf (Elt Ideal) ((c.tc : Thread Cert.Kernel3Ideal.nD Cert.Kernel3Ideal.τ).loc Cert.Kernel3Ideal.main_v97_3)) (v4 : (c : Dev Cert.Kernel3Ideal.nD) → Buf (Elt Ideal) ((c.tc : Thread Cert.Kernel3Ideal.nD Cert.Kernel3Ideal.τ).loc Cert.Kernel3Ideal.main_v97_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v97_0) = v0 c
          ∧ r.2.mem ((c.tc : Thread Cert.Kernel3Ideal.nD Cert.Kernel3Ideal.τ).loc Cert.Kernel3Ideal.main_v97_1) = v1 c
          ∧ r.2.mem ((c.tc : Thread Cert.Kernel3Ideal.nD Cert.Kernel3Ideal.τ).loc Cert.Kernel3Ideal.main_v97_2) = v2 c
          ∧ r.2.mem ((c.tc : Thread Cert.Kernel3Ideal.nD Cert.Kernel3Ideal.τ).loc Cert.Kernel3Ideal.main_v97_3) = v3 c
          ∧ r.2.mem ((c.tc : Thread Cert.Kernel3Ideal.nD Cert.Kernel3Ideal.τ).loc Cert.Kernel3Ideal.main_v97_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v137) = v0 c
          ∧ r.2.mem ((c.tc : Thread Cert.Reference3Ideal.nD Cert.Reference3Ideal.τ).loc Cert.Reference3Ideal.main_v142) = v1 c
          ∧ r.2.mem ((c.tc : Thread Cert.Reference3Ideal.nD Cert.Reference3Ideal.τ).loc Cert.Reference3Ideal.main_v148) = v2 c
          ∧ r.2.mem ((c.tc : Thread Cert.Reference3Ideal.nD Cert.Reference3Ideal.τ).loc Cert.Reference3Ideal.main_v171) = v3 c
          ∧ r.2.mem ((c.tc : Thread Cert.Reference3Ideal.nD Cert.Reference3Ideal.τ).loc Cert.Reference3Ideal.main_v179) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_scores.lean ====
abbrev S2x16384x8x64 : Shape := ⟨4, ![2, 16384, 8, 64]⟩
abbrev S2x16384x8x32 : Shape := ⟨4, ![2, 16384, 8, 32]⟩
abbrev S2x256x8x64 : Shape := ⟨4, ![2, 256, 8, 64]⟩
abbrev S2x256x32 : Shape := ⟨3, ![2, 256, 32]⟩
abbrev S2x16384x32 : Shape := ⟨3, ![2, 16384, 32]⟩
abbrev S_ : Shape := ⟨0, ![]⟩

class Facts : Prop where
  bcast_S_S2x16384x8x64 : S_.BroadcastsInDim S2x16384x8x64 (![] : Fin 0 → Fin S2x16384x8x64.rank)
  reducesTo_S2x16384x8x64_S_d0_1_2_3 : S2x16384x8x64.ReducesTo [0, 1, 2, 3] S_
  h_S_ : 0 < S_.numel
  bcast_S_S2x16384x8x32 : S_.BroadcastsInDim S2x16384x8x32 (![] : Fin 0 → Fin S2x16384x8x32.rank)
  reducesTo_S2x16384x8x32_S_d0_1_2_3 : S2x16384x8x32.ReducesTo [0, 1, 2, 3] S_
  bcast_S_S2x256x8x64 : S_.BroadcastsInDim S2x256x8x64 (![] : Fin 0 → Fin S2x256x8x64.rank)
  reducesTo_S2x256x8x64_S_d0_1_2_3 : S2x256x8x64.ReducesTo [0, 1, 2, 3] S_
  bcast_S_S2x256x32 : S_.BroadcastsInDim S2x256x32 (![] : Fin 0 → Fin S2x256x32.rank)
  reducesTo_S2x256x32_S_d0_1_2 : S2x256x32.ReducesTo [0, 1, 2] S_
  bcast_S_S2x16384x32 : S_.BroadcastsInDim S2x16384x32 (![] : Fin 0 → Fin S2x16384x32.rank)
  reducesTo_S2x16384x32_S_d0_1_2 : S2x16384x32.ReducesTo [0, 1, 2] S_

variable [Facts]

def fn_part1 {F : FTy → Type} [FloatOps F] (main_arg5 : FVec F S2x16384x8x64 .f32) (main_arg6 : FVec F S2x16384x32 .f32) (main_v13 : IVec S_ 1) (main_v16 : IVec S2x256x32 1) : IVec S_ 1 :=
  let main_c_5 : IVec S_ 1 := constantI S_ 1 1#1
  let main_v17 : IVec S_ 1 := (fun x v => Host.reduce IntOp.andi x v reducesTo_S2x256x32_S_d0_1_2 h_S_) main_v16 main_c_5
  let main_v18 : IVec S_ 1 := andi main_v13 main_v17
  let main_v19 : FVec F S2x16384x8x64 .f32 := Host.absf main_arg5
  let main_cst_6 : FVec F S_ .f32 := constant S_ .f32 0x7F800000#32
  let main_v20 : FVec F S2x16384x8x64 .f32 := broadcastInDim S2x16384x8x64 ![] bcast_S_S2x16384x8x64 main_cst_6
  let main_v21 : IVec S2x16384x8x64 1 := cmpf .olt main_v19 main_v20
  let main_c_7 : IVec S_ 1 := constantI S_ 1 1#1
  let main_v22 : IVec S_ 1 := (fun x v => Host.reduce IntOp.andi x v reducesTo_S2x16384x8x64_S_d0_1_2_3 h_S_) main_v21 main_c_7
  let main_v23 : IVec S_ 1 := andi main_v18 main_v22
  let main_v24 : FVec F S2x16384x32 .f32 := Host.absf main_arg6
  let main_cst_8 : FVec F S_ .f32 := constant S_ .f32 0x7F800000#32
  let main_v25 : FVec F S2x16384x32 .f32 := broadcastInDim S2x16384x32 ![] bcast_S_S2x16384x32 main_cst_8
  let main_v26 : IVec S2x16384x32 1 := cmpf .olt main_v24 main_v25
  let main_c_9 : IVec S_ 1 := constantI S_ 1 1#1
  let main_v27 : IVec S_ 1 := (fun x v => Host.reduce IntOp.andi x v reducesTo_S2x16384x32_S_d0_1_2 h_S_) main_v26 main_c_9
  let main_v28 : IVec S_ 1 := andi main_v23 main_v27
  main_v28

def fn {F : FTy → Type} [FloatOps F] (main_arg0 : FVec F S2x16384x8x64 .f32) (main_arg1 : FVec F S2x16384x8x32 .f32) (main_arg2 : FVec F S2x256x8x64 .f32) (main_arg3 : FVec F S2x256x32 .f32) (main_arg4 : FVec F S2x256x8x64 .f32) (main_arg5 : FVec F S2x16384x8x64 .f32) (main_arg6 : FVec F S2x16384x32 .f32) (main_arg7 : FVec F S2x16384x8x64 .f32) : IVec S_ 1 :=
  let main_v0 : FVec F S2x16384x8x64 .f32 := Host.absf main_arg0
  let main_cst : FVec F S_ .f32 := constant S_ .f32 0x7F800000#32
  let main_v1 : FVec F S2x16384x8x64 .f32 := broadcastInDim S2x16384x8x64 ![] bcast_S_S2x16384x8x64 main_cst
  let main_v2 : IVec S2x16384x8x64 1 := cmpf .olt main_v0 main_v1
  let main_c : IVec S_ 1 := constantI S_ 1 1#1
  let main_v3 : IVec S_ 1 := (fun x v => Host.reduce IntOp.andi x v reducesTo_S2x16384x8x64_S_d0_1_2_3 h_S_) main_v2 main_c
  let main_v4 : FVec F S2x16384x8x32 .f32 := Host.absf main_arg1
  let main_cst_0 : FVec F S_ .f32 := constant S_ .f32 0x7F800000#32
  let main_v5 : FVec F S2x16384x8x32 .f32 := broadcastInDim S2x16384x8x32 ![] bcast_S_S2x16384x8x32 main_cst_0
  let main_v6 : IVec S2x16384x8x32 1 := cmpf .olt main_v4 main_v5
  let main_c_1 : IVec S_ 1 := constantI S_ 1 1#1
  let main_v7 : IVec S_ 1 := (fun x v => Host.reduce IntOp.andi x v reducesTo_S2x16384x8x32_S_d0_1_2_3 h_S_) main_v6 main_c_1
  let main_v8 : IVec S_ 1 := andi main_v3 main_v7
  let main_v9 : FVec F S2x256x8x64 .f32 := Host.absf main_arg2
  let main_cst_2 : FVec F S_ .f32 := constant S_ .f32 0x7F800000#32
  let main_v10 : FVec F S2x256x8x64 .f32 := broadcastInDim S2x256x8x64 ![] bcast_S_S2x256x8x64 main_cst_2
  let main_v11 : IVec S2x256x8x64 1 := cmpf .olt main_v9 main_v10
  let main_c_3 : IVec S_ 1 := constantI S_ 1 1#1
  let main_v12 : IVec S_ 1 := (fun x v => Host.reduce IntOp.andi x v reducesTo_S2x256x8x64_S_d0_1_2_3 h_S_) main_v11 main_c_3
  let main_v13 : IVec S_ 1 := andi main_v8 main_v12
  let main_v14 : FVec F S2x256x32 .f32 := Host.absf main_arg3
  let main_cst_4 : FVec F S_ .f32 := constant S_ .f32 0x7F800000#32
  let main_v15 : FVec F S2x256x32 .f32 := broadcastInDim S2x256x32 ![] bcast_S_S2x256x32 main_cst_4
  let main_v16 : IVec S2x256x32 1 := cmpf .olt main_v14 main_v15
  fn_part1 (F := F) main_arg5 main_arg6 main_v13 main_v16
-- ==== Kernel.lean ====
abbrev S2x16384x8x64 : Shape := ⟨4, ![2, 16384, 8, 64]⟩
abbrev S2x16384x8x32 : Shape := ⟨4, ![2, 16384, 8, 32]⟩
abbrev S2x256x8x64 : Shape := ⟨4, ![2, 256, 8, 64]⟩
abbrev S2x256x32 : Shape := ⟨3, ![2, 256, 32]⟩
abbrev S2x16384x32 : Shape := ⟨3, ![2, 16384, 32]⟩
abbrev S_ : Shape := ⟨0, ![]⟩
abbrev S2x16384x8x96 : Shape := ⟨4, ![2, 16384, 8, 96]⟩
abbrev S2x16384x8x128 : Shape := ⟨4, ![2, 16384, 8, 128]⟩
abbrev S2x16384x1024 : Shape := ⟨3, ![2, 16384, 1024]⟩
abbrev S2x256x1x32 : Shape := ⟨4, ![2, 256, 1, 32]⟩
abbrev S2x256x8x32 : Shape := ⟨4, ![2, 256, 8, 32]⟩
abbrev S2x256x8x96 : Shape := ⟨4, ![2, 256, 8, 96]⟩
abbrev S2x256x8x128 : Shape := ⟨4, ![2, 256, 8, 128]⟩
abbrev S2x256x1024 : Shape := ⟨3, ![2, 256, 1024]⟩
abbrev S2x1x256x8x64 : Shape := ⟨5, ![2, 1, 256, 8, 64]⟩
abbrev S2x8x1x64x256 : Shape := ⟨5, ![2, 8, 1, 64, 256]⟩
abbrev S2x8x1x1x256 : Shape := ⟨5, ![2, 8, 1, 1, 256]⟩
abbrev S2x8x1x15x256 : Shape := ⟨5, ![2, 8, 1, 15, 256]⟩
abbrev S2x8x1x80x256 : Shape := ⟨5, ![2, 8, 1, 80, 256]⟩
abbrev S2x16384x1x32 : Shape := ⟨4, ![2, 16384, 1, 32]⟩
abbrev S2x32x512x8x64 : Shape := ⟨5, ![2, 32, 512, 8, 64]⟩
abbrev S2x8x32x64x512 : Shape := ⟨5, ![2, 8, 32, 64, 512]⟩
abbrev S2x8x32x1x512 : Shape := ⟨5, ![2, 8, 32, 1, 512]⟩
abbrev S2x8x32x15x512 : Shape := ⟨5, ![2, 8, 32, 15, 512]⟩
abbrev S2x8x32x80x512 : Shape := ⟨5, ![2, 8, 32, 80, 512]⟩
abbrev S2x16384x512 : Shape := ⟨3, ![2, 16384, 512]⟩
abbrev S1x4096x256 : Shape := ⟨3, ![1, 4096, 256]⟩
abbrev S1x256x256 : Shape := ⟨3, ![1, 256, 256]⟩
abbrev S1x2x1x80x256 : Shape := ⟨5, ![1, 2, 1, 80, 256]⟩
abbrev S1x16384x256 : Shape := ⟨3, ![1, 16384, 256]⟩
abbrev S1x2x32x80x512 : Shape := ⟨5, ![1, 2, 32, 80, 512]⟩
abbrev S1x4096x128 : Shape := ⟨3, ![1, 4096, 128]⟩
abbrev S2x1x4096 : Shape := ⟨3, ![2, 1, 4096]⟩
abbrev S2x80x4096 : Shape := ⟨3, ![2, 80, 4096]⟩
abbrev S128x4096 : Shape := ⟨2, ![128, 4096]⟩
abbrev S4096x128 : Shape := ⟨2, ![4096, 128]⟩
abbrev S1x256x128 : Shape := ⟨3, ![1, 256, 128]⟩
abbrev S256x128 : Shape := ⟨2, ![256, 128]⟩
abbrev S1x1x1x80x256 : Shape := ⟨5, ![1, 1, 1, 80, 256]⟩
abbrev S80x256 : Shape := ⟨2, ![80, 256]⟩
abbrev S256x4096 : Shape := ⟨2, ![256, 4096]⟩
abbrev S4096 : Shape := ⟨1, ![4096]⟩
abbrev S1x4096 : Shape := ⟨2, ![1, 4096]⟩
abbrev S80x4096 : Shape := ⟨2, ![80, 4096]⟩
abbrev S1x80x4096 : Shape := ⟨3, ![1, 80, 4096]⟩
abbrev S1x1x4096 : Shape := ⟨3, ![1, 1, 4096]⟩
abbrev S1x512x128 : Shape := ⟨3, ![1, 512, 128]⟩
abbrev S512x128 : Shape := ⟨2, ![512, 128]⟩
abbrev S512x4096 : Shape := ⟨2, ![512, 4096]⟩
abbrev S1x1x1x80x512 : Shape := ⟨5, ![1, 1, 1, 80, 512]⟩
abbrev S80x512 : Shape := ⟨2, ![80, 512]⟩
abbrev S1 : Shape := ⟨1, ![1]⟩
abbrev S1x1x1 : Shape := ⟨3, ![1, 1, 1]⟩
abbrev S64x4096 : Shape := ⟨2, ![64, 4096]⟩

abbrev nBuf : Space → Nat
  | .hbm => 54
  | .vmem => 16
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x32, .f32⟩
  | .hbm, ⟨2, _⟩ => ⟨S2x256x8x64, .f32⟩
  | .hbm, ⟨3, _⟩ => ⟨S2x256x32, .f32⟩
  | .hbm, ⟨4, _⟩ => ⟨S2x256x8x64, .f32⟩
  | .hbm, ⟨5, _⟩ => ⟨S2x16384x8x64, .f32⟩
  | .hbm, ⟨6, _⟩ => ⟨S2x16384x32, .f32⟩
  | .hbm, ⟨7, _⟩ => ⟨S2x16384x8x64, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S2x16384x8x96, .f32⟩
  | .hbm, ⟨14, _⟩ => ⟨S2x16384x8x96, .f32⟩
  | .hbm, ⟨15, _⟩ => ⟨S2x16384x8x96, .f32⟩
  | .hbm, ⟨16, _⟩ => ⟨S_, .i32⟩
  | .hbm, ⟨17, _⟩ => ⟨S_, .f32⟩
  | .hbm, ⟨18, _⟩ => ⟨S2x16384x8x128, .f32⟩
  | .hbm, ⟨19, _⟩ => ⟨S2x16384x1024, .f32⟩
  | .hbm, ⟨20, _⟩ => ⟨S2x16384x1024, .bf16⟩
  | .hbm, ⟨21, _⟩ => ⟨S2x256x1x32, .f32⟩
  | .hbm, ⟨22, _⟩ => ⟨S2x256x8x32, .f32⟩
  | .hbm, ⟨23, _⟩ => ⟨S2x256x8x96, .f32⟩
  | .hbm, ⟨24, _⟩ => ⟨S_, .i32⟩
  | .hbm, ⟨25, _⟩ => ⟨S_, .f32⟩
  | .hbm, ⟨26, _⟩ => ⟨S2x256x8x128, .f32⟩
  | .hbm, ⟨27, _⟩ => ⟨S2x256x1024, .f32⟩
  | .hbm, ⟨28, _⟩ => ⟨S2x256x1024, .bf16⟩
  | .hbm, ⟨29, _⟩ => ⟨S2x1x256x8x64, .f32⟩
  | .hbm, ⟨30, _⟩ => ⟨S2x8x1x64x256, .f32⟩
  | .hbm, ⟨31, _⟩ => ⟨S_, .f32⟩
  | .hbm, ⟨32, _⟩ => ⟨S2x8x1x1x256, .f32⟩
  | .hbm, ⟨33, _⟩ => ⟨S_, .f32⟩
  | .hbm, ⟨34, _⟩ => ⟨S2x8x1x15x256, .f32⟩
  | .hbm, ⟨35, _⟩ => ⟨S2x8x1x80x256, .f32⟩
  | .hbm, ⟨36, _⟩ => ⟨S2x8x1x80x256, .bf16⟩
  | .hbm, ⟨37, _⟩ => ⟨S2x16384x1x32, .f32⟩
  | .hbm, ⟨38, _⟩ => ⟨S2x16384x8x32, .f32⟩
  | .hbm, ⟨39, _⟩ => ⟨S2x16384x8x96, .f32⟩
  | .hbm, ⟨40, _⟩ => ⟨S_, .i32⟩
  | .hbm, ⟨41, _⟩ => ⟨S_, .f32⟩
  | .hbm, ⟨42, _⟩ => ⟨S2x16384x8x128, .f32⟩
  | .hbm, ⟨43, _⟩ => ⟨S2x16384x1024, .f32⟩
  | .hbm, ⟨44, _⟩ => ⟨S2x16384x1024, .bf16⟩
  | .hbm, ⟨45, _⟩ => ⟨S2x32x512x8x64, .f32⟩
  | .hbm, ⟨46, _⟩ => ⟨S2x8x32x64x512, .f32⟩
  | .hbm, ⟨47, _⟩ => ⟨S_, .f32⟩
  | .hbm, ⟨48, _⟩ => ⟨S2x8x32x1x512, .f32⟩
  | .hbm, ⟨49, _⟩ => ⟨S_, .f32⟩
  | .hbm, ⟨50, _⟩ => ⟨S2x8x32x15x512, .f32⟩
  | .hbm, ⟨51, _⟩ => ⟨S2x8x32x80x512, .f32⟩
  | .hbm, ⟨52, _⟩ => ⟨S2x8x32x80x512, .bf16⟩
  | .hbm, ⟨53, _⟩ => ⟨S2x16384x512, .bf16⟩
  | .local _ .vmem, ⟨0, _⟩ => ⟨S1x4096x256, .bf16⟩
  | .local _ .vmem, ⟨1, _⟩ => ⟨S1x4096x256, .bf16⟩
  | .local _ .vmem, ⟨2, _⟩ => ⟨S1x256x256, .bf16⟩
  | .local _ .vmem, ⟨3, _⟩ => ⟨S1x256x256, .bf16⟩
  | .local _ .vmem, ⟨4, _⟩ => ⟨S1x2x1x80x256, .bf16⟩
  | .local _ .vmem, ⟨5, _⟩ => ⟨S1x2x1x80x256, .bf16⟩
  | .local _ .vmem, ⟨6, _⟩ => ⟨S1x16384x256, .bf16⟩
  | .local _ .vmem, ⟨7, _⟩ => ⟨S1x16384x256, .bf16⟩
  | .local _ .vmem, ⟨8, _⟩ => ⟨S1x2x32x80x512, .bf16⟩
  | .local _ .vmem, ⟨9, _⟩ => ⟨S1x2x32x80x512, .bf16⟩
  | .local _ .vmem, ⟨10, _⟩ => ⟨S1x4096x128, .bf16⟩
  | .local _ .vmem, ⟨11, _⟩ => ⟨S1x4096x128, .bf16⟩
  | .local _ .vmem, ⟨12, _⟩ => ⟨S2x1x4096, .f32⟩
  | .local _ .vmem, ⟨13, _⟩ => ⟨S2x80x4096, .f32⟩
  | .local _ .vmem, ⟨14, _⟩ => ⟨S128x4096, .f32⟩
  | .local _ .vmem, ⟨15, _⟩ => ⟨S2x1x4096, .f32⟩
  | _, _ => ⟨S2x16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_call1_v0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_4 : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_cst_6 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 4], ![false, false, false]⟩

@[reducible] def k0_t1_loop : Scf.Loop 32 :=
  let c0_i32 : BitVec 32 := 0#32
  let c8_i32 : BitVec 32 := 8#32
  let v50 : BitVec 32 := Scalar.addi c0_i32 c8_i32
  let c1_i32 : BitVec 32 := 1#32
  ⟨c0_i32, v50, c1_i32⟩
def k0_mult1 (k0_t1 : Fin k0_t1_loop.trips) : BitVec 32 :=
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let c0_i32_68 : BitVec 32 := 0#32
  let v95 : BitVec 32 := Scalar.addi v94 c0_i32_68
  let c512_i32 : BitVec 32 := 512#32
  let v96 : BitVec 32 := Scalar.muli v95 c512_i32
  v96
def k0_off1 (k0_t1 : Fin k0_t1_loop.trips) (c0_i32_68 : BitVec 32) : Fin 3 → Nat :=
  let c0_69 : Index := 0#32
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let v95 : BitVec 32 := Scalar.addi v94 c0_i32_68
  let c512_i32 : BitVec 32 := 512#32
  let v96 : BitVec 32 := Scalar.muli v95 c512_i32
  let v97 : BitVec 32 := v96
  let v98 : Index := Scalar.indexCast v97
  let c0_70 : Index := 0#32
  ![0, v98.toNat, 0]
def k0_off2 (k0_t1 : Fin k0_t1_loop.trips) (c0_i32_68 : BitVec 32) : Fin 5 → Nat :=
  let c0_81 : Index := 0#32
  let c0_82 : Index := 0#32
  let c1_i32_79 : BitVec 32 := 1#32
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let v95 : BitVec 32 := Scalar.addi v94 c0_i32_68
  let v113 : BitVec 32 := Scalar.muli c1_i32_79 v95
  let c0_i32_80 : BitVec 32 := 0#32
  let v114 : BitVec 32 := Scalar.addi v113 c0_i32_80
  let v115 : Index := Scalar.indexCast v114
  let c0_83 : Index := 0#32
  let c0_84 : Index := 0#32
  ![0, 0, v115.toNat, 0, 0]
def k0_mult2 (k0_t1 : Fin k0_t1_loop.trips) : BitVec 32 :=
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let c0_i32_98 : BitVec 32 := 0#32
  let v137 : BitVec 32 := Scalar.addi v94 c0_i32_98
  let c512_i32_99 : BitVec 32 := 512#32
  let v138 : BitVec 32 := Scalar.muli v137 c512_i32_99
  v138
def k0_off3 (k0_t1 : Fin k0_t1_loop.trips) (c0_i32_98 : BitVec 32) : Fin 3 → Nat :=
  let c0_100 : Index := 0#32
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let v137 : BitVec 32 := Scalar.addi v94 c0_i32_98
  let c512_i32_99 : BitVec 32 := 512#32
  let v138 : BitVec 32 := Scalar.muli v137 c512_i32_99
  let v139 : BitVec 32 := v138
  let v140 : Index := Scalar.indexCast v139
  let c128_101 : Index := 128#32
  ![0, v140.toNat, 128]
def k0_off4 (k0_t1 : Fin k0_t1_loop.trips) (c0_i32_98 : BitVec 32) : Fin 5 → Nat :=
  let c0_112 : Index := 0#32
  let c1_113 : Index := 1#32
  let c1_i32_110 : BitVec 32 := 1#32
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let v137 : BitVec 32 := Scalar.addi v94 c0_i32_98
  let v155 : BitVec 32 := Scalar.muli c1_i32_110 v137
  let c0_i32_111 : BitVec 32 := 0#32
  let v156 : BitVec 32 := Scalar.addi v155 c0_i32_111
  let v157 : Index := Scalar.indexCast v156
  let c0_114 : Index := 0#32
  let c0_115 : Index := 0#32
  ![0, 1, v157.toNat, 0, 0]
def k0_mult3 (k0_t1 : Fin k0_t1_loop.trips) : BitVec 32 :=
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let c1_i32_129 : BitVec 32 := 1#32
  let v179 : BitVec 32 := Scalar.addi v94 c1_i32_129
  let c512_i32_130 : BitVec 32 := 512#32
  let v180 : BitVec 32 := Scalar.muli v179 c512_i32_130
  v180
def k0_mult4 (k0_t1 : Fin k0_t1_loop.trips) : BitVec 32 :=
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let c1_i32_160 : BitVec 32 := 1#32
  let v221 : BitVec 32 := Scalar.addi v94 c1_i32_160
  let c512_i32_161 : BitVec 32 := 512#32
  let v222 : BitVec 32 := Scalar.muli v221 c512_i32_161
  v222
def k0_mult5 (k0_t1 : Fin k0_t1_loop.trips) : BitVec 32 :=
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let c2_i32 : BitVec 32 := 2#32
  let v263 : BitVec 32 := Scalar.addi v94 c2_i32
  let c512_i32_191 : BitVec 32 := 512#32
  let v264 : BitVec 32 := Scalar.muli v263 c512_i32_191
  v264
def k0_mult6 (k0_t1 : Fin k0_t1_loop.trips) : BitVec 32 :=
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let c2_i32_221 : BitVec 32 := 2#32
  let v305 : BitVec 32 := Scalar.addi v94 c2_i32_221
  let c512_i32_222 : BitVec 32 := 512#32
  let v306 : BitVec 32 := Scalar.muli v305 c512_i32_222
  v306
def k0_mult7 (k0_t1 : Fin k0_t1_loop.trips) : BitVec 32 :=
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let c3_i32 : BitVec 32 := 3#32
  let v347 : BitVec 32 := Scalar.addi v94 c3_i32
  let c512_i32_252 : BitVec 32 := 512#32
  let v348 : BitVec 32 := Scalar.muli v347 c512_i32_252
  v348
def k0_mult8 (k0_t1 : Fin k0_t1_loop.trips) : BitVec 32 :=
  let c0_i32_67 : BitVec 32 := 0#32
  let c4_i32 : BitVec 32 := 4#32
  let c0_i32 : BitVec 32 := 0#32
  let c1_i32 : BitVec 32 := 1#32
  let arg13 : BitVec 32 := Scf.iv c0_i32 c1_i32 k0_t1
  let v93 : BitVec 32 := Scalar.muli c4_i32 arg13
  let v94 : BitVec 32 := Scalar.addi c0_i32_67 v93
  let c3_i32_282 : BitVec 32 := 3#32
  let v389 : BitVec 32 := Scalar.addi v94 c3_i32_282
  let c512_i32_283 : BitVec 32 := 512#32
  let v390 : BitVec 32 := Scalar.muli v389 c512_i32_283
  v390
@[reducible] def k0_t2_loop : Scf.Loop 32 :=
  let c0_i32_84 : BitVec 32 := 0#32
  let c32_i32 : BitVec 32 := 32#32
  let v111 : BitVec 32 := Scalar.addi c0_i32_84 c32_i32
  let c1_i32_85 : BitVec 32 := 1#32
  ⟨c0_i32_84, v111, c1_i32_85⟩
def k0_mult9 (k0_t2 : Fin k0_t2_loop.trips) : BitVec 32 :=
  let c0_i32_84 : BitVec 32 := 0#32
  let c1_i32_85 : BitVec 32 := 1#32
  let arg13 : BitVec 32 := Scf.iv c0_i32_84 c1_i32_85 k0_t2
  let c512_i32 : BitVec 32 := 512#32
  let v112 : BitVec 32 := Scalar.muli arg13 c512_i32
  v112
def k0_off5 (k0_t2 : Fin k0_t2_loop.trips) : Fin 3 → Nat :=
  let c0_87 : Index := 0#32
  let c0_i32_84 : BitVec 32 := 0#32
  let c1_i32_85 : BitVec 32 := 1#32
  let arg13 : BitVec 32 := Scf.iv c0_i32_84 c1_i32_85 k0_t2
  let c512_i32 : BitVec 32 := 512#32
  let v112 : BitVec 32 := Scalar.muli arg13 c512_i32
  let v113 : BitVec 32 := v112
  let v114 : Index := Scalar.indexCast v113
  let c0_88 : Index := 0#32
  ![0, v114.toNat, 0]
def k0_off6 (k0_t2 : Fin k0_t2_loop.trips) : Fin 5 → Nat :=
  let c0_91 : Index := 0#32
  let c0_92 : Index := 0#32
  let c1_i32_89 : BitVec 32 := 1#32
  let c0_i32_84 : BitVec 32 := 0#32
  let c1_i32_85 : BitVec 32 := 1#32
  let arg13 : BitVec 32 := Scf.iv c0_i32_84 c1_i32_85 k0_t2
  let v117 : BitVec 32 := Scalar.muli c1_i32_89 arg13
  let c0_i32_90 : BitVec 32 := 0#32
  let v118 : BitVec 32 := Scalar.addi v117 c0_i32_90
  let v119 : Index := Scalar.indexCast v118
  let c0_93 : Index := 0#32
  let c0_94 : Index := 0#32
  ![0, 0, v119.toNat, 0, 0]
@[reducible] def k0_t3_loop : Scf.Loop 32 :=
  let c0_i32_84 : BitVec 32 := 0#32
  let c32_i32 : BitVec 32 := 32#32
  let v111 : BitVec 32 := Scalar.addi c0_i32_84 c32_i32
  let c1_i32_85 : BitVec 32 := 1#32
  ⟨c0_i32_84, v111, c1_i32_85⟩
def k0_mult10 (k0_t3 : Fin k0_t3_loop.trips) : BitVec 32 :=
  let c0_i32_84 : BitVec 32 := 0#32
  let c1_i32_85 : BitVec 32 := 1#32
  let arg13 : BitVec 32 := Scf.iv c0_i32_84 c1_i32_85 k0_t3
  let c512_i32 : BitVec 32 := 512#32
  let v112 : BitVec 32 := Scalar.muli arg13 c512_i32
  v112
def k0_off7 (k0_t3 : Fin k0_t3_loop.trips) : Fin 3 → Nat :=
  let c0_87 : Index := 0#32
  let c0_i32_84 : BitVec 32 := 0#32
  let c1_i32_85 : BitVec 32 := 1#32
  let arg13 : BitVec 32 := Scf.iv c0_i32_84 c1_i32_85 k0_t3
  let c512_i32 : BitVec 32 := 512#32
  let v112 : BitVec 32 := Scalar.muli arg13 c512_i32
  let v113 : BitVec 32 := v112
  let v114 : Index := Scalar.indexCast v113
  let c128_88 : Index := 128#32
  ![0, v114.toNat, 128]
def k0_off8 (k0_t3 : Fin k0_t3_loop.trips) : Fin 5 → Nat :=
  let c0_91 : Index := 0#32
  let c1_92 : Index := 1#32
  let c1_i32_89 : BitVec 32 := 1#32
  let c0_i32_84 : BitVec 32 := 0#32
  let c1_i32_85 : BitVec 32 := 1#32
  let arg13 : BitVec 32 := Scf.iv c0_i32_84 c1_i32_85 k0_t3
  let v117 : BitVec 32 := Scalar.muli c1_i32_89 arg13
  let c0_i32_90 : BitVec 32 := 0#32
  let v118 : BitVec 32 := Scalar.addi v117 c0_i32_90
  let v119 : Index := Scalar.indexCast v118
  let c0_93 : Index := 0#32
  let c0_94 : Index := 0#32
  ![0, 1, v119.toNat, 0, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2x1x80x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x16384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2x32x80x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ReferenceIdeal.lean ====
abbrev S2x16384x8x64 : Shape := ⟨4, ![2, 16384, 8, 64]⟩
abbrev S2x16384x8x32 : Shape := ⟨4, ![2, 16384, 8, 32]⟩
abbrev S2x256x8x64 : Shape := ⟨4, ![2, 256, 8, 64]⟩
abbrev S2x256x32 : Shape := ⟨3, ![2, 256, 32]⟩
abbrev S2x16384x32 : Shape := ⟨3, ![2, 16384, 32]⟩
abbrev S2x16640x8x64 : Shape := ⟨4, ![2, 16640, 8, 64]⟩
abbrev S2x16640x32 : Shape := ⟨3, ![2, 16640, 32]⟩
abbrev S2x8x16384x16640 : Shape := ⟨4, ![2, 8, 16384, 16640]⟩
abbrev S2x16640x16384x8 : Shape := ⟨4, ![2, 16640, 16384, 8]⟩
abbrev S_ : Shape := ⟨0, ![]⟩
abbrev S2x8x16384 : Shape := ⟨3, ![2, 8, 16384]⟩
abbrev S2x8x16384x1 : Shape := ⟨4, ![2, 8, 16384, 1]⟩
abbrev S2x8x64x16384 : Shape := ⟨4, ![2, 8, 64, 16384]⟩
abbrev S2x16384x512 : Shape := ⟨3, ![2, 16384, 512]⟩

abbrev nBuf : Space → Nat
  | .hbm => 37
  | .vmem => 0
  | .smem => 0
  | _ => 0

abbrev bufTy : (tb : Table) → Fin (tcTables nBuf tb) → BufTy
  | .hbm, ⟨0, _⟩ => ⟨S2x16384x8x64, .f32⟩
  | .hbm, ⟨1, _⟩ => ⟨S2x16384x8x32, .f32⟩
  | .hbm, ⟨2, _⟩ => ⟨S2x256x8x64, .f32⟩
  | .hbm, ⟨3, _⟩ => ⟨S2x256x32, .f32⟩
  | .hbm, ⟨4, _⟩ => ⟨S2x256x8x64, .f32⟩
  | .hbm, ⟨5, _⟩ => ⟨S2x16384x8x64, .f32⟩
  | .hbm, ⟨6, _⟩ => ⟨S2x16384x32, .f32⟩
  | .hbm, ⟨7, _⟩ => ⟨S2x16384x8x64, .f32⟩
  | .hbm, ⟨8, _⟩ => ⟨S2x16640x8x64, .f32⟩
  | .hbm, ⟨9, _⟩ => ⟨S2x16640x32, .f32⟩
  | .hbm, ⟨10, _⟩ => ⟨S2x16640x8x64, .f32⟩
  | .hbm, ⟨11, _⟩ => ⟨S2x8x16384x16640, .f32⟩
  | .hbm, ⟨12, _⟩ => ⟨S2x16640x16384x8, .f32⟩
  | .hbm, ⟨13, _⟩ => ⟨S2x8x16384x16640, .f32⟩
  | .hbm, ⟨14, _⟩ => ⟨S2x8x16384x16640, .f32⟩
  | .hbm, ⟨15, _⟩ => ⟨S_, .f32⟩
  | .hbm, ⟨16, _⟩ => ⟨S_, .f32⟩
  | .hbm, ⟨17, _⟩ => ⟨S2x8x16384x16640, .f32⟩
  | .hbm, ⟨18, _⟩ => ⟨S2x8x16384x16640, .f32⟩
  | .hbm, ⟨19, _⟩ => ⟨S_, .f32⟩
  | .hbm, ⟨20, _⟩ => ⟨S2x8x16384, .f32⟩
  | .hbm, ⟨21, _⟩ => ⟨S_, .f32⟩
  | .hbm, ⟨22, _⟩ => ⟨S2x8x16384, .f32⟩
  | .hbm, ⟨23, _⟩ => ⟨S2x8x16384, .f32⟩
  | .hbm, ⟨24, _⟩ => ⟨S2x8x16384x1, .f32⟩
  | .hbm, ⟨25, _⟩ => ⟨S2x8x16384x16640, .f32⟩
  | .hbm, ⟨26, _⟩ => ⟨S2x8x16384x16640, .f32⟩
  | .hbm, ⟨27, _⟩ => ⟨S2x8x16384x16640, .f32⟩
  | .hbm, ⟨28, _⟩ => ⟨S_, .f32⟩
  | .hbm, ⟨29, _⟩ => ⟨S2x8x16384, .f32⟩
  | .hbm, ⟨30, _⟩ => ⟨S2x8x16384x1, .f32⟩
  | .hbm, ⟨31, _⟩ => ⟨S2x8x16384x16640, .f32⟩
  | .hbm, ⟨32, _⟩ => ⟨S2x8x16384x16640, .f32⟩
  | .hbm, ⟨33, _⟩ => ⟨S2x8x64x16384, .f32⟩
  | .hbm, ⟨34, _⟩ => ⟨S2x16384x8x64, .f32⟩
  | .hbm, ⟨35, _⟩ => ⟨S2x16384x512, .f32⟩
  | .hbm, ⟨36, _⟩ => ⟨S2x16384x512, .bf16⟩
  | _, _ => ⟨S2x16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]
-- ==== Kernel2.lean ====
abbrev S2x16384x1024 : Shape := ⟨3, ![2, 16384, 1024]⟩
abbrev S2x6144 : Shape := ⟨2, ![2, 6144]⟩
abbrev S2x16384x256 : Shape := ⟨3, ![2, 16384, 256]⟩
abbrev S2x16384x512 : Shape := ⟨3, ![2, 16384, 512]⟩
abbrev S256x256 : Shape := ⟨2, ![256, 256]⟩
abbrev S1024x1024 : Shape := ⟨2, ![1024, 1024]⟩
abbrev S1024 : Shape := ⟨1, ![1024]⟩
abbrev S4x1024x4096 : Shape := ⟨3, ![4, 1024, 4096]⟩
abbrev S4x4096x1024 : Shape := ⟨3, ![4, 4096, 1024]⟩
abbrev S_ : Shape := ⟨0, ![]⟩
abbrev S8x6144 : Shape := ⟨2, ![8, 6144]⟩
abbrev S8x6x1x1024 : Shape := ⟨4, ![8, 6, 1, 1024]⟩
abbrev S256x1024 : Shape := ⟨2, ![256, 1024]⟩
abbrev S512x1024 : Shape := ⟨2, ![512, 1024]⟩
abbrev S1x1024 : Shape := ⟨2, ![1, 1024]⟩
abbrev S1x1024x1024 : Shape := ⟨3, ![1, 1024, 1024]⟩
abbrev S1x1x1x1024 : Shape := ⟨4, ![1, 1, 1, 1024]⟩
abbrev S1x1024x256 : Shape := ⟨3, ![1, 1024, 256]⟩
abbrev S1x1024x512 : Shape := ⟨3, ![1, 1024, 512]⟩
abbrev S1x1024x4096 : Shape := ⟨3, ![1, 1024, 4096]⟩
abbrev S1x4096x1024 : Shape := ⟨3, ![1, 4096, 1024]⟩
abbrev S1024x256 : Shape := ⟨2, ![1024, 256]⟩
abbrev S1024x512 : Shape := ⟨2, ![1024, 512]⟩
abbrev S1024x1 : Shape := ⟨2, ![1024, 1]⟩

abbrev nBuf : Space → Nat
  | .hbm => 29
  | .vmem => 26
  | .smem => 0
  | _ => 0

abbrev bufTy : (tb : Table) → Fin (tcTables nBuf tb) → BufTy
  | .hbm, ⟨0, _⟩ => ⟨S2x16384x1024, .f32⟩
  | .hbm, ⟨1, _⟩ => ⟨S2x6144, .f32⟩
  | .hbm, ⟨2, _⟩ => ⟨S2x16384x256, .f32⟩
  | .hbm, ⟨3, _⟩ => ⟨S2x16384x512, .f32⟩
  | .hbm, ⟨4, _⟩ => ⟨S2x16384x256, .f32⟩
  | .hbm, ⟨5, _⟩ => ⟨S256x256, .f32⟩
  | .hbm, ⟨6, _⟩ => ⟨S1024x1024, .f32⟩
  | .hbm, ⟨7, _⟩ => ⟨S1024, .f32⟩
  | .hbm, ⟨8, _⟩ => ⟨S4x1024x4096, .f32⟩
  | .hbm, ⟨9, _⟩ => ⟨S4x4096x1024, .f32⟩
  | .hbm, ⟨10, _⟩ => ⟨S1024, .f32⟩
  | .hbm, ⟨11, _⟩ => ⟨S_, .i32⟩
  | .hbm, ⟨12, _⟩ => ⟨S_, .f32⟩
  | .hbm, ⟨13, _⟩ => ⟨S8x6144, .f32⟩
  | .hbm, ⟨14, _⟩ => ⟨S8x6x1x1024, .f32⟩
  | .hbm, ⟨15, _⟩ => ⟨S256x256, .bf16⟩
  | .hbm, ⟨16, _⟩ => ⟨S256x1024, .f32⟩
  | .hbm, ⟨17, _⟩ => ⟨S256x1024, .bf16⟩
  | .hbm, ⟨18, _⟩ => ⟨S512x1024, .f32⟩
  | .hbm, ⟨19, _⟩ => ⟨S512x1024, .bf16⟩
  | .hbm, ⟨20, _⟩ => ⟨S256x1024, .f32⟩
  | .hbm, ⟨21, _⟩ => ⟨S256x1024, .bf16⟩
  | .hbm, ⟨22, _⟩ => ⟨S1x1024, .f32⟩
  | .hbm, ⟨23, _⟩ => ⟨S4x1024x4096, .bf16⟩
  | .hbm, ⟨24, _⟩ => ⟨S4x4096x1024, .bf16⟩
  | .hbm, ⟨25, _⟩ => ⟨S2x16384x512, .bf16⟩
  | .hbm, ⟨26, _⟩ => ⟨S2x16384x256, .bf16⟩
  | .hbm, ⟨27, _⟩ => ⟨S1x1024, .f32⟩
  | .hbm, ⟨28, _⟩ => ⟨S2x16384x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x1x1024, .f32⟩
  | .local _ .vmem, ⟨7, _⟩ => ⟨S1x1x1x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S1x1024x256, .f32⟩
  | .local _ .vmem, ⟨11, _⟩ => ⟨S1x1024x256, .f32⟩
  | .local _ .vmem, ⟨12, _⟩ => ⟨S1x1024x512, .bf16⟩
  | .local _ .vmem, ⟨13, _⟩ => ⟨S1x1024x512, .bf16⟩
  | .local _ .vmem, ⟨14, _⟩ => ⟨S1x1024x256, .bf16⟩
  | .local _ .vmem, ⟨15, _⟩ => ⟨S1x1024x256, .bf16⟩
  | .local _ .vmem, ⟨16, _⟩ => ⟨S256x256, .bf16⟩
  | .local _ .vmem, ⟨17, _⟩ => ⟨S256x1024, .bf16⟩
  | .local _ .vmem, ⟨18, _⟩ => ⟨S512x1024, .bf16⟩
  | .local _ .vmem, ⟨19, _⟩ => ⟨S256x1024, .bf16⟩
  | .local _ .vmem, ⟨20, _⟩ => ⟨S1x1024, .f32⟩
  | .local _ .vmem, ⟨21, _⟩ => ⟨S1x1024x4096, .bf16⟩
  | .local _ .vmem, ⟨22, _⟩ => ⟨S1x4096x1024, .bf16⟩
  | .local _ .vmem, ⟨23, _⟩ => ⟨S1x1024, .f32⟩
  | .local _ .vmem, ⟨24, _⟩ => ⟨S1x1024x1024, .f32⟩
  | .local _ .vmem, ⟨25, _⟩ => ⟨S1x1024x1024, .f32⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![arg0.toNat, c2_i32.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![arg0.toNat, c3_i32.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c5_i32 : BitVec 32 := 5#32
  let c0_i32 : BitVec 32 := 0#32
  let c0_i32_0 : BitVec 32 := 0#32
  let c0_i32_1 : BitVec 32 := 0#32
  ![arg0.toNat, c5_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S256x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x1024x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference2Ideal.lean ====
abbrev S2x16384x1024 : Shape := ⟨3, ![2, 16384, 1024]⟩
abbrev S2x6144 : Shape := ⟨2, ![2, 6144]⟩
abbrev S2x16384x256 : Shape := ⟨3, ![2, 16384, 256]⟩
abbrev S2x16384x512 : Shape := ⟨3, ![2, 16384, 512]⟩
abbrev S256x256 : Shape := ⟨2, ![256, 256]⟩
abbrev S1024x1024 : Shape := ⟨2, ![1024, 1024]⟩
abbrev S1024 : Shape := ⟨1, ![1024]⟩
abbrev S4x1024x4096 : Shape := ⟨3, ![4, 1024, 4096]⟩
abbrev S4x4096x1024 : Shape := ⟨3, ![4, 4096, 1024]⟩
abbrev S2x1x6144 : Shape := ⟨3, ![2, 1, 6144]⟩
abbrev S2x1x1024 : Shape := ⟨3, ![2, 1, 1024]⟩
abbrev S_ : Shape := ⟨0, ![]⟩
abbrev S2x16384 : Shape := ⟨2, ![2, 16384]⟩
abbrev S2x16384x1 : Shape := ⟨3, ![2, 16384, 1]⟩
abbrev S1x1x1024 : Shape := ⟨3, ![1, 1, 1024]⟩
abbrev S1x1024x4096 : Shape := ⟨3, ![1, 1024, 4096]⟩
abbrev S1024x4096 : Shape := ⟨2, ![1024, 4096]⟩
abbrev S2x16384x4096 : Shape := ⟨3, ![2, 16384, 4096]⟩
abbrev S1x4096x1024 : Shape := ⟨3, ![1, 4096, 1024]⟩
abbrev S4096x1024 : Shape := ⟨2, ![4096, 1024]⟩

abbrev nBuf : Space → Nat
  | .hbm => 76
  | .vmem => 0
  | .smem => 0
  | _ => 0

abbrev bufTy : (tb : Table) → Fin (tcTables nBuf tb) → BufTy
  | .hbm, ⟨0, _⟩ => ⟨S2x16384x1024, .f32⟩
  | .hbm, ⟨1, _⟩ => ⟨S2x6144, .f32⟩
  | .hbm, ⟨2, _⟩ => ⟨S2x16384x256, .f32⟩
  | .hbm, ⟨3, _⟩ => ⟨S2x16384x512, .f32⟩
  | .hbm, ⟨4, _⟩ => ⟨S2x16384x256, .f32⟩
  | .hbm, ⟨5, _⟩ => ⟨S256x256, .f32⟩
  | .hbm, ⟨6, _⟩ => ⟨S1024x1024, .f32⟩
  | .hbm, ⟨7, _⟩ => ⟨S1024, .f32⟩
  | .hbm, ⟨8, _⟩ => ⟨S4x1024x4096, .f32⟩
  | .hbm, ⟨9, _⟩ => ⟨S4x4096x1024, .f32⟩
  | .hbm, ⟨10, _⟩ => ⟨S1024, .f32⟩
  | .hbm, ⟨11, _⟩ => ⟨S2x1x6144, .f32⟩
  | .hbm, ⟨12, _⟩ => ⟨S2x1x1024, .f32⟩
  | .hbm, ⟨13, _⟩ => ⟨S2x1x1024, .f32⟩
  | .hbm, ⟨14, _⟩ => ⟨S2x1x1024, .f32⟩
  | .hbm, ⟨15, _⟩ => ⟨S2x1x1024, .f32⟩
  | .hbm, ⟨16, _⟩ => ⟨S2x1x1024, .f32⟩
  | .hbm, ⟨17, _⟩ => ⟨S2x1x1024, .f32⟩
  | .hbm, ⟨18, _⟩ => ⟨S2x16384x256, .f32⟩
  | .hbm, ⟨19, _⟩ => ⟨S2x16384x1024, .f32⟩
  | .hbm, ⟨20, _⟩ => ⟨S2x16384x1024, .f32⟩
  | .hbm, ⟨21, _⟩ => ⟨S2x16384x1024, .f32⟩
  | .hbm, ⟨22, _⟩ => ⟨S2x16384x1024, .f32⟩
  | .hbm, ⟨23, _⟩ => ⟨S2x16384x1024, .f32⟩
  | .hbm, ⟨24, _⟩ => ⟨S2x16384x1024, .f32⟩
  | .hbm, ⟨25, _⟩ => ⟨S_, .f32⟩
  | .hbm, ⟨26, _⟩ => ⟨S2x16384, .f32⟩
  | .hbm, ⟨27, _⟩ => ⟨S2x16384x1, .f32⟩
  | .hbm, ⟨28, _⟩ => ⟨S_, .f32⟩
  | .hbm, ⟨29, _⟩ => ⟨S2x16384x1, .f32⟩
  | .hbm, ⟨30, _⟩ => ⟨S2x16384x1, .f32⟩
  | .hbm, ⟨31, _⟩ => ⟨S_, .f32⟩
  | .hbm, ⟨32, _⟩ => ⟨S2x16384x1, .f32⟩
  | .hbm, ⟨33, _⟩ => ⟨S2x16384x1, .f32⟩
  | .hbm, ⟨34, _⟩ => ⟨S2x16384x1, .f32⟩
  | .hbm, ⟨35, _⟩ => ⟨S2x16384x1024, .f32⟩
  | .hbm, ⟨36, _⟩ => ⟨S2x16384x1024, .f32⟩
  | .hbm, ⟨37, _⟩ => ⟨S1x1x1024, .f32⟩
  | .hbm, ⟨38, _⟩ => ⟨S2x16384x1024, .f32⟩
  | .hbm, ⟨39, _⟩ => ⟨S2x16384x1024, .f32⟩
  | .hbm, ⟨40, _⟩ => ⟨S_, .f32⟩
  | .hbm, ⟨41, _⟩ => ⟨S2x1x1024, .f32⟩
  | .hbm, ⟨42, _⟩ => ⟨S2x1x1024, .f32⟩
  | .hbm, ⟨43, _⟩ => ⟨S2x16384x1024, .f32⟩
  | .hbm, ⟨44, _⟩ => ⟨S2x16384x1024, .f32⟩
  | .hbm, ⟨45, _⟩ => ⟨S2x16384x1024, .f32⟩
  | .hbm, ⟨46, _⟩ => ⟨S2x16384x1024, .f32⟩
  | .hbm, ⟨47, _⟩ => ⟨S1x1024x4096, .f32⟩
  | .hbm, ⟨48, _⟩ => ⟨S1024x4096, .f32⟩
  | .hbm, ⟨49, _⟩ => ⟨S2x16384x4096, .f32⟩
  | .hbm, ⟨50, _⟩ => ⟨S_, .f32⟩
  | .hbm, ⟨51, _⟩ => ⟨S2x16384x4096, .f32⟩
  | .hbm, ⟨52, _⟩ => ⟨S2x16384x4096, .f32⟩
  | .hbm, ⟨53, _⟩ => ⟨S2x16384x4096, .f32⟩
  | .hbm, ⟨54, _⟩ => ⟨S1x4096x1024, .f32⟩
  | .hbm, ⟨55, _⟩ => ⟨S4096x1024, .f32⟩
  | .hbm, ⟨56, _⟩ => ⟨S2x16384x1024, .f32⟩
  | .hbm, ⟨57, _⟩ => ⟨S2x16384x1024, .f32⟩
  | .hbm, ⟨58, _⟩ => ⟨S2x16384x1024, .f32⟩
  | .hbm, ⟨59, _⟩ => ⟨S2x16384x1024, .f32⟩
  | .hbm, ⟨60, _⟩ => ⟨S2x16384x1024, .f32⟩
  | .hbm, ⟨61, _⟩ => ⟨S_, .f32⟩
  | .hbm, ⟨62, _⟩ => ⟨S2x16384, .f32⟩
  | .hbm, ⟨63, _⟩ => ⟨S2x16384x1, .f32⟩
  | .hbm, ⟨64, _⟩ => ⟨S_, .f32⟩
  | .hbm, ⟨65, _⟩ => ⟨S2x16384x1, .f32⟩
  | .hbm, ⟨66, _⟩ => ⟨S2x16384x1, .f32⟩
  | .hbm, ⟨67, _⟩ => ⟨S_, .f32⟩
  | .hbm, ⟨68, _⟩ => ⟨S2x16384x1, .f32⟩
  | .hbm, ⟨69, _⟩ => ⟨S2x16384x1, .f32⟩
  | .hbm, ⟨70, _⟩ => ⟨S2x16384x1, .f32⟩
  | .hbm, ⟨71, _⟩ => ⟨S2x16384x1024, .f32⟩
  | .hbm, ⟨72, _⟩ => ⟨S2x16384x1024, .f32⟩
  | .hbm, ⟨73, _⟩ => ⟨S1x1x1024, .f32⟩
  | .hbm, ⟨74, _⟩ => ⟨S2x16384x1024, .f32⟩
  | .hbm, ⟨75, _⟩ => ⟨S2x16384x1024, .f32⟩
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_call0_cst : Ref sig .tc := ⟨.hbm, 50, rfl⟩
abbrev main_call0_v0 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_3 : Ref sig .tc := ⟨.hbm, 61, rfl⟩
abbrev main_v44 : Ref sig .tc := ⟨.hbm, 62, rfl⟩
abbrev main_v45 : Ref sig .tc := ⟨.hbm, 63, rfl⟩
abbrev main_cst_4 : Ref sig .tc := ⟨.hbm, 64, rfl⟩
abbrev main_v46 : Ref sig .tc := ⟨.hbm, 65, rfl⟩
abbrev main_v47 : Ref sig .tc := ⟨.hbm, 66, rfl⟩
abbrev main_cst_5 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]
-- ==== Kernel3.lean ====
abbrev S2x16384x1024 : Shape := ⟨3, ![2, 16384, 1024]⟩
abbrev S2x6144 : Shape := ⟨2, ![2, 6144]⟩
abbrev S1024 : Shape := ⟨1, ![1024]⟩
abbrev S1024x1184 : Shape := ⟨2, ![1024, 1184]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S640x1 : Shape := ⟨2, ![640, 1]⟩
abbrev S_ : Shape := ⟨0, ![]⟩
abbrev S8x6144 : Shape := ⟨2, ![8, 6144]⟩
abbrev S8x6x1x1024 : Shape := ⟨4, ![8, 6, 1, 1024]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S4x4 : Shape := ⟨2, ![4, 4]⟩
abbrev S4x1x4x1 : Shape := ⟨4, ![4, 1, 4, 1]⟩
abbrev S1x64x1x64 : Shape := ⟨4, ![1, 64, 1, 64]⟩
abbrev S4x64x4x64 : Shape := ⟨4, ![4, 64, 4, 64]⟩
abbrev S256x256 : Shape := ⟨2, ![256, 256]⟩
abbrev S256x512 : Shape := ⟨2, ![256, 512]⟩
abbrev S16384 : Shape := ⟨1, ![16384]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x16 : Shape := ⟨2, ![16384, 16]⟩
abbrev S16384x64 : Shape := ⟨2, ![16384, 64]⟩
abbrev S16384x32 : Shape := ⟨2, ![16384, 32]⟩
abbrev S16384x128 : Shape := ⟨2, ![16384, 128]⟩
abbrev S1024x32 : Shape := ⟨2, ![1024, 32]⟩
abbrev S1024x16 : Shape := ⟨2, ![1024, 16]⟩
abbrev S1024x64 : Shape := ⟨2, ![1024, 64]⟩
abbrev S1024x640 : Shape := ⟨2, ![1024, 640]⟩
abbrev S1024x512 : Shape := ⟨2, ![1024, 512]⟩
abbrev S1024x1408 : Shape := ⟨2, ![1024, 1408]⟩
abbrev S256x8x96 : Shape := ⟨3, ![256, 8, 96]⟩
abbrev S256x8x32 : Shape := ⟨3, ![256, 8, 32]⟩
abbrev S256x8x16 : Shape := ⟨3, ![256, 8, 16]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S128x8x80 : Shape := ⟨3, ![128, 8, 80]⟩
abbrev S128x640 : Shape := ⟨2, ![128, 640]⟩
abbrev S640x128 : Shape := ⟨2, ![640, 128]⟩
abbrev S1x256 : Shape := ⟨2, ![1, 256]⟩
abbrev S1x128 : Shape := ⟨2, ![1, 128]⟩
abbrev S1x1024 : Shape := ⟨2, ![1, 1024]⟩
abbrev S2x8x32x80x512 : Shape := ⟨5, ![2, 8, 32, 80, 512]⟩
abbrev S2x2x16384x256 : Shape := ⟨4, ![2, 2, 16384, 256]⟩
abbrev S2x16384x256 : Shape := ⟨3, ![2, 16384, 256]⟩
abbrev S1x512x1024 : Shape := ⟨3, ![1, 512, 1024]⟩
abbrev S1x1x1x1024 : Shape := ⟨4, ![1, 1, 1, 1024]⟩
abbrev S512x128 : Shape := ⟨2, ![512, 128]⟩
abbrev S1x8x1x80x512 : Shape := ⟨5, ![1, 8, 1, 80, 512]⟩
abbrev S1x2x512x256 : Shape := ⟨4, ![1, 2, 512, 256]⟩
abbrev S1x512x256 : Shape := ⟨3, ![1, 512, 256]⟩
abbrev S512x1024 : Shape := ⟨2, ![512, 1024]⟩
abbrev S512 : Shape := ⟨1, ![512]⟩
abbrev S512x1 : Shape := ⟨2, ![512, 1]⟩
abbrev S512x1408 : Shape := ⟨2, ![512, 1408]⟩
abbrev S512x256 : Shape := ⟨2, ![512, 256]⟩
abbrev S512x512 : Shape := ⟨2, ![512, 512]⟩
abbrev S1x1x512x256 : Shape := ⟨4, ![1, 1, 512, 256]⟩
abbrev S1x512x128 : Shape := ⟨3, ![1, 512, 128]⟩
abbrev S640x512 : Shape := ⟨2, ![640, 512]⟩
abbrev S80x512 : Shape := ⟨2, ![80, 512]⟩
abbrev S1x1x1x80x512 : Shape := ⟨5, ![1, 1, 1, 80, 512]⟩

abbrev nBuf : Space → Nat
  | .hbm => 200
  | .vmem => 30
  | .smem => 0
  | _ => 0

abbrev hbmTy0_0 (i : Nat) : BufTy := match i % 128 with
  | 0 => ⟨S2x16384x1024, .f32⟩
  | 1 => ⟨S2x6144, .f32⟩
  | 2 => ⟨S1024, .f32⟩
  | 3 => ⟨S1024x1184, .f32⟩
  | 4 => ⟨S256, .f32⟩
  | 5 => ⟨S256x768, .f32⟩
  | 6 => ⟨S128, .f32⟩
  | 7 => ⟨S128x1024, .f32⟩
  | 8 => ⟨S640x1, .f32⟩
  | 9 => ⟨S_, .i32⟩
  | 10 => ⟨S_, .f32⟩
  | 11 => ⟨S8x6144, .f32⟩
  | 12 => ⟨S8x6x1x1024, .f32⟩
  | 13 => ⟨S64, .i32⟩
  | 14 => ⟨S64, .i32⟩
  | 15 => ⟨S64x1, .i32⟩
  | 16 => ⟨S1x64, .i32⟩
  | 17 => ⟨S64x64, .i32⟩
  | 18 => ⟨S64x64, .i32⟩
  | 19 => ⟨S64x64, .i32⟩
  | 20 => ⟨S_, .i32⟩
  | 21 => ⟨S_, .i32⟩
  | 22 => ⟨S_, .i32⟩
  | 23 => ⟨S_, .i1⟩
  | 24 => ⟨S_, .i32⟩
  | 25 => ⟨S_, .i32⟩
  | 26 => ⟨S64x64, .i32⟩
  | 27 => ⟨S64x64, .i32⟩
  | 28 => ⟨S_, .i32⟩
  | 29 => ⟨S64x64, .i32⟩
  | 30 => ⟨S64x64, .i1⟩
  | 31 => ⟨S_, .i32⟩
  | 32 => ⟨S64x64, .i32⟩
  | 33 => ⟨S64x64, .i1⟩
  | 34 => ⟨S_, .i32⟩
  | 35 => ⟨S_, .i1⟩
  | 36 => ⟨S64x64, .i1⟩
  | 37 => ⟨S64x64, .i1⟩
  | 38 => ⟨S64x64, .i1⟩
  | 39 => ⟨S64x64, .i32⟩
  | 40 => ⟨S64x64, .i32⟩
  | 41 => ⟨S64x64, .i32⟩
  | 42 => ⟨S64x64, .f32⟩
  | 43 => ⟨S_, .f32⟩
  | 44 => ⟨S64x64, .f32⟩
  | 45 => ⟨S64x64, .f32⟩
  | 46 => ⟨S64x64, .f32⟩
  | 47 => ⟨S64x64, .f32⟩
  | 48 => ⟨S4x4, .i32⟩
  | 49 => ⟨S4x4, .i32⟩
  | 50 => ⟨S_, .i32⟩
  | 51 => ⟨S4x4, .i32⟩
  | 52 => ⟨S4x4, .i32⟩
  | 53 => ⟨S4x4, .i1⟩
  | 54 => ⟨S4x4, .f32⟩
  | 55 => ⟨S4x1x4x1, .f32⟩
  | 56 => ⟨S1x64x1x64, .f32⟩
  | 57 => ⟨S4x64x4x64, .f32⟩
  | 58 => ⟨S4x64x4x64, .f32⟩
  | 59 => ⟨S4x64x4x64, .f32⟩
  | 60 => ⟨S256x256, .f32⟩
  | 61 => ⟨S4x1x4x1, .f32⟩
  | 62 => ⟨S1x64x1x64, .f32⟩
  | 63 => ⟨S4x64x4x64, .f32⟩
  | 64 => ⟨S4x64x4x64, .f32⟩
  | 65 => ⟨S4x64x4x64, .f32⟩
  | 66 => ⟨S256x256, .f32⟩
  | 67 => ⟨S256x256, .f32⟩
  | 68 => ⟨S256x512, .f32⟩
  | 69 => ⟨S256x512, .bf16⟩
  | 70 => ⟨S16384, .i32⟩
  | 71 => ⟨S_, .i32⟩
  | 72 => ⟨S_, .i32⟩
  | 73 => ⟨S16384, .i32⟩
  | 74 => ⟨S16384, .i32⟩
  | 75 => ⟨S16384, .i32⟩
  | 76 => ⟨S_, .i32⟩
  | 77 => ⟨S16384, .i32⟩
  | 78 => ⟨S16384, .i1⟩
  | 79 => ⟨S16384, .i32⟩
  | 80 => ⟨S16384, .i32⟩
  | 81 => ⟨S_, .i32⟩
  | 82 => ⟨S16384, .i32⟩
  | 83 => ⟨S16384, .i1⟩
  | 84 => ⟨S16384, .i1⟩
  | 85 => ⟨S_, .i32⟩
  | 86 => ⟨S16384, .i32⟩
  | 87 => ⟨S16384, .i32⟩
  | 88 => ⟨S16384, .i32⟩
  | 89 => ⟨S16384, .f32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S16384, .i32⟩
  | 97 => ⟨S16384, .i32⟩
  | 98 => ⟨S_, .i32⟩
  | 99 => ⟨S16384, .i32⟩
  | 100 => ⟨S16384, .i1⟩
  | 101 => ⟨S_, .i32⟩
  | 102 => ⟨S16384, .i32⟩
  | 103 => ⟨S16384, .i1⟩
  | 104 => ⟨S_, .i32⟩
  | 105 => ⟨S_, .i1⟩
  | 106 => ⟨S16384, .i1⟩
  | 107 => ⟨S16384, .i1⟩
  | 108 => ⟨S16384, .i1⟩
  | 109 => ⟨S16384, .i32⟩
  | 110 => ⟨S16384, .i32⟩
  | 111 => ⟨S16384, .i32⟩
  | 112 => ⟨S16384, .f32⟩
  | 113 => ⟨S8, .f32⟩
  | 114 => ⟨S_, .f32⟩
  | 115 => ⟨S8, .f32⟩
  | 116 => ⟨S8, .f32⟩
  | 117 => ⟨S_, .f32⟩
  | 118 => ⟨S8, .f32⟩
  | 119 => ⟨S8, .f32⟩
  | 120 => ⟨S8, .f32⟩
  | 121 => ⟨S_, .f32⟩
  | 122 => ⟨S8, .f32⟩
  | 123 => ⟨S8, .f32⟩
  | 124 => ⟨S_, .f32⟩
  | 125 => ⟨S8, .f32⟩
  | 126 => ⟨S8, .f32⟩
  | 127 => ⟨S16384x1, .f32⟩
  | _ => ⟨S2x16384x1024, .f32⟩

abbrev hbmTy0_1 (i : Nat) : BufTy := match i % 128 with
  | 0 => ⟨S1x8, .f32⟩
  | 1 => ⟨S16384x8, .f32⟩
  | 2 => ⟨S16384x8, .f32⟩
  | 3 => ⟨S16384x8, .f32⟩
  | 4 => ⟨S16384x1, .f32⟩
  | 5 => ⟨S1x8, .f32⟩
  | 6 => ⟨S16384x8, .f32⟩
  | 7 => ⟨S16384x8, .f32⟩
  | 8 => ⟨S16384x8, .f32⟩
  | 9 => ⟨S16384x16, .f32⟩
  | 10 => ⟨S16384x16, .f32⟩
  | 11 => ⟨S16384x16, .f32⟩
  | 12 => ⟨S_, .f32⟩
  | 13 => ⟨S16384x64, .f32⟩
  | 14 => ⟨S_, .f32⟩
  | 15 => ⟨S16384x32, .f32⟩
  | 16 => ⟨S16384x128, .f32⟩
  | 17 => ⟨S16384x16, .f32⟩
  | 18 => ⟨S16384x128, .f32⟩
  | 19 => ⟨S1024x32, .f32⟩
  | 20 => ⟨S1024x16, .f32⟩
  | 21 => ⟨S1024x16, .f32⟩
  | 22 => ⟨S1024x32, .f32⟩
  | 23 => ⟨S_, .f32⟩
  | 24 => ⟨S1024x64, .f32⟩
  | 25 => ⟨S_, .f32⟩
  | 26 => ⟨S1024x32, .f32⟩
  | 27 => ⟨S1024x640, .f32⟩
  | 28 => ⟨S1024x512, .f32⟩
  | 29 => ⟨S1024x1408, .f32⟩
  | 30 => ⟨S1024x1408, .bf16⟩
  | 31 => ⟨S256x8x96, .f32⟩
  | 32 => ⟨S256x8x32, .f32⟩
  | 33 => ⟨S256x8x16, .f32⟩
  | 34 => ⟨S256x8x16, .f32⟩
  | 35 => ⟨S256x8x32, .f32⟩
  | 36 => ⟨S256x768, .f32⟩
  | 37 => ⟨S256x8x96, .f32⟩
  | 38 => ⟨S_, .i32⟩
  | 39 => ⟨S_, .f32⟩
  | 40 => ⟨S256x8x128, .f32⟩
  | 41 => ⟨S256x1024, .f32⟩
  | 42 => ⟨S256x1024, .bf16⟩
  | 43 => ⟨S_, .i32⟩
  | 44 => ⟨S_, .f32⟩
  | 45 => ⟨S256x8x128, .f32⟩
  | 46 => ⟨S256x1024, .f32⟩
  | 47 => ⟨S256x1024, .bf16⟩
  | 48 => ⟨S128x8x128, .f32⟩
  | 49 => ⟨S128x8x64, .f32⟩
  | 50 => ⟨S128x512, .f32⟩
  | 51 => ⟨S128x8x64, .f32⟩
  | 52 => ⟨S_, .i32⟩
  | 53 => ⟨S_, .f32⟩
  | 54 => ⟨S128x8x128, .f32⟩
  | 55 => ⟨S128x1024, .f32⟩
  | 56 => ⟨S128x1024, .bf16⟩
  | 57 => ⟨S128x8x64, .f32⟩
  | 58 => ⟨S_, .i32⟩
  | 59 => ⟨S_, .f32⟩
  | 60 => ⟨S128x8x80, .f32⟩
  | 61 => ⟨S128x640, .f32⟩
  | 62 => ⟨S640x128, .f32⟩
  | 63 => ⟨S640x128, .bf16⟩
  | 64 => ⟨S1x256, .f32⟩
  | 65 => ⟨S1x128, .f32⟩
  | 66 => ⟨S1x1024, .f32⟩
  | 67 => ⟨S2x16384x1024, .bf16⟩
  | 68 => ⟨S2x16384x1024, .bf16⟩
  | 69 => ⟨S2x8x32x80x512, .bf16⟩
  | 70 => ⟨S2x2x16384x256, .f32⟩
  | 71 => ⟨S2x16384x256, .bf16⟩
  | _ => ⟨S2x16384x1024, .f32⟩

abbrev hbmTy (i : Nat) : BufTy := match i / 128 with
  | 0 => hbmTy0_0 i
  | 1 => hbmTy0_1 i
  | _ => ⟨S2x16384x1024, .f32⟩

abbrev bufTy : (tb : Table) → Fin (tcTables nBuf tb) → BufTy
  | .hbm, ⟨i, _⟩ => hbmTy i
  | .local _ .vmem, ⟨0, _⟩ => ⟨S1x512x1024, .f32⟩
  | .local _ .vmem, ⟨1, _⟩ => ⟨S1x512x1024, .f32⟩
  | .local _ .vmem, ⟨2, _⟩ => ⟨S1x1x1x1024, .f32⟩
  | .local _ .vmem, ⟨3, _⟩ => ⟨S1x1x1x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1024, .f32⟩
  | .local _ .vmem, ⟨7, _⟩ => ⟨S1024x1408, .bf16⟩
  | .local _ .vmem, ⟨8, _⟩ => ⟨S1x256, .f32⟩
  | .local _ .vmem, ⟨9, _⟩ => ⟨S256x1024, .bf16⟩
  | .local _ .vmem, ⟨10, _⟩ => ⟨S256x1024, .bf16⟩
  | .local _ .vmem, ⟨11, _⟩ => ⟨S1x128, .f32⟩
  | .local _ .vmem, ⟨12, _⟩ => ⟨S128x1024, .bf16⟩
  | .local _ .vmem, ⟨13, _⟩ => ⟨S640x128, .bf16⟩
  | .local _ .vmem, ⟨14, _⟩ => ⟨S256x512, .bf16⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S640x1, .f32⟩
  | .local _ .vmem, ⟨20, _⟩ => ⟨S1x512x1024, .bf16⟩
  | .local _ .vmem, ⟨21, _⟩ => ⟨S1x512x1024, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x8x1x80x512, .bf16⟩
  | .local _ .vmem, ⟨25, _⟩ => ⟨S1x8x1x80x512, .bf16⟩
  | .local _ .vmem, ⟨26, _⟩ => ⟨S1x2x512x256, .f32⟩
  | .local _ .vmem, ⟨27, _⟩ => ⟨S1x2x512x256, .f32⟩
  | .local _ .vmem, ⟨28, _⟩ => ⟨S1x512x256, .bf16⟩
  | .local _ .vmem, ⟨29, _⟩ => ⟨S1x512x256, .bf16⟩
  | _, _ => ⟨S2x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_c : Ref sig .tc := ⟨.hbm, 9, rfl⟩
abbrev main_call0_v0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_0 : Ref sig .tc := ⟨.hbm, 20, rfl⟩
abbrev main_call1_v0 : Ref sig .tc := ⟨.hbm, 21, rfl⟩
abbrev main_call1_c : Ref sig .tc := ⟨.hbm, 22, rfl⟩
abbrev main_call1_v1 : Ref sig .tc := ⟨.hbm, 23, rfl⟩
abbrev main_call1_c_0 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_c_1 : Ref sig .tc := ⟨.hbm, 28, rfl⟩
abbrev main_call1_v5 : Ref sig .tc := ⟨.hbm, 29, rfl⟩
abbrev main_call1_v6 : Ref sig .tc := ⟨.hbm, 30, rfl⟩
abbrev main_call1_c_2 : Ref sig .tc := ⟨.hbm, 31, rfl⟩
abbrev main_call1_v7 : Ref sig .tc := ⟨.hbm, 32, rfl⟩
abbrev main_call1_v8 : Ref sig .tc := ⟨.hbm, 33, rfl⟩
abbrev main_call1_c_3 : Ref sig .tc := ⟨.hbm, 34, rfl⟩
abbrev main_call1_v9 : Ref sig .tc := ⟨.hbm, 35, rfl⟩
abbrev main_call1_v10 : Ref sig .tc := ⟨.hbm, 36, rfl⟩
abbrev main_call1_v11 : Ref sig .tc := ⟨.hbm, 37, rfl⟩
abbrev main_call1_v12 : Ref sig .tc := ⟨.hbm, 38, rfl⟩
abbrev main_call1_v13 : Ref sig .tc := ⟨.hbm, 39, rfl⟩
abbrev main_call1_v14 : Ref sig .tc := ⟨.hbm, 40, rfl⟩
abbrev main_v9 : Ref sig .tc := ⟨.hbm, 41, rfl⟩
abbrev main_v10 : Ref sig .tc := ⟨.hbm, 42, rfl⟩
abbrev main_cst_1 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_c_2 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_v21 : Ref sig .tc := ⟨.hbm, 60, rfl⟩
abbrev main_call3_v0 : Ref sig .tc := ⟨.hbm, 61, rfl⟩
abbrev main_call3_v1 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_c_3 : Ref sig .tc := ⟨.hbm, 71, rfl⟩
abbrev main_call4_v0 : Ref sig .tc := ⟨.hbm, 72, rfl⟩
abbrev main_call4_v1 : Ref sig .tc := ⟨.hbm, 73, rfl⟩
abbrev main_call4_v2 : Ref sig .tc := ⟨.hbm, 74, rfl⟩
abbrev main_call4_v3 : Ref sig .tc := ⟨.hbm, 75, rfl⟩
abbrev main_call4_v4 : Ref sig .tc := ⟨.hbm, 76, rfl⟩
abbrev main_call4_v5 : Ref sig .tc := ⟨.hbm, 77, rfl⟩
abbrev main_call4_v6 : Ref sig .tc := ⟨.hbm, 78, rfl⟩
abbrev main_call4_v7 : Ref sig .tc := ⟨.hbm, 79, rfl⟩
abbrev main_call4_v8 : Ref sig .tc := ⟨.hbm, 80, rfl⟩
abbrev main_call4_c : Ref sig .tc := ⟨.hbm, 81, rfl⟩
abbrev main_call4_v9 : Ref sig .tc := ⟨.hbm, 82, rfl⟩
abbrev main_call4_v10 : Ref sig .tc := ⟨.hbm, 83, rfl⟩
abbrev main_call4_v11 : Ref sig .tc := ⟨.hbm, 84, rfl⟩
abbrev main_call4_c_0 : Ref sig .tc := ⟨.hbm, 85, rfl⟩
abbrev main_call4_v12 : Ref sig .tc := ⟨.hbm, 86, rfl⟩
abbrev main_call4_v13 : Ref sig .tc := ⟨.hbm, 87, rfl⟩
abbrev main_v27 : Ref sig .tc := ⟨.hbm, 88, rfl⟩
abbrev main_v28 : Ref sig .tc := ⟨.hbm, 89, rfl⟩
abbrev main_c_4 : Ref sig .tc := ⟨.hbm, 90, rfl⟩
abbrev main_call5_v0 : Ref sig .tc := ⟨.hbm, 91, rfl⟩
abbrev main_call5_c : Ref sig .tc := ⟨.hbm, 92, rfl⟩
abbrev main_call5_v1 : Ref sig .tc := ⟨.hbm, 93, rfl⟩
abbrev main_call5_c_0 : Ref sig .tc := ⟨.hbm, 94, rfl⟩
abbrev main_call5_v2 : Ref sig .tc := ⟨.hbm, 95, rfl⟩
abbrev main_call5_v3 : Ref sig .tc := ⟨.hbm, 96, rfl⟩
abbrev main_call5_v4 : Ref sig .tc := ⟨.hbm, 97, rfl⟩
abbrev main_call5_c_1 : Ref sig .tc := ⟨.hbm, 98, rfl⟩
abbrev main_call5_v5 : Ref sig .tc := ⟨.hbm, 99, rfl⟩
abbrev main_call5_v6 : Ref sig .tc := ⟨.hbm, 100, rfl⟩
abbrev main_call5_c_2 : Ref sig .tc := ⟨.hbm, 101, rfl⟩
abbrev main_call5_v7 : Ref sig .tc := ⟨.hbm, 102, rfl⟩
abbrev main_call5_v8 : Ref sig .tc := ⟨.hbm, 103, rfl⟩
abbrev main_call5_c_3 : Ref sig .tc := ⟨.hbm, 104, rfl⟩
abbrev main_call5_v9 : Ref sig .tc := ⟨.hbm, 105, rfl⟩
abbrev main_call5_v10 : Ref sig .tc := ⟨.hbm, 106, rfl⟩
abbrev main_call5_v11 : Ref sig .tc := ⟨.hbm, 107, rfl⟩
abbrev main_call5_v12 : Ref sig .tc := ⟨.hbm, 108, rfl⟩
abbrev main_call5_v13 : Ref sig .tc := ⟨.hbm, 109, rfl⟩
abbrev main_call5_v14 : Ref sig .tc := ⟨.hbm, 110, rfl⟩
abbrev main_v29 : Ref sig .tc := ⟨.hbm, 111, rfl⟩
abbrev main_v30 : Ref sig .tc := ⟨.hbm, 112, rfl⟩
abbrev main_v31 : Ref sig .tc := ⟨.hbm, 113, rfl⟩
abbrev main_cst_5 : Ref sig .tc := ⟨.hbm, 114, rfl⟩
abbrev main_v32 : Ref sig .tc := ⟨.hbm, 115, rfl⟩
abbrev main_v33 : Ref sig .tc := ⟨.hbm, 116, rfl⟩
abbrev main_cst_6 : Ref sig .tc := ⟨.hbm, 117, rfl⟩
abbrev main_v34 : Ref sig .tc := ⟨.hbm, 118, rfl⟩
abbrev main_v35 : Ref sig .tc := ⟨.hbm, 119, rfl⟩
abbrev main_v36 : Ref sig .tc := ⟨.hbm, 120, rfl⟩
abbrev main_cst_7 : Ref sig .tc := ⟨.hbm, 121, rfl⟩
abbrev main_v37 : Ref sig .tc := ⟨.hbm, 122, rfl⟩
abbrev main_v38 : Ref sig .tc := ⟨.hbm, 123, rfl⟩
abbrev main_cst_8 : Ref sig .tc := ⟨.hbm, 124, rfl⟩
abbrev main_v39 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_v44 : Ref sig .tc := ⟨.hbm, 130, rfl⟩
abbrev main_v45 : Ref sig .tc := ⟨.hbm, 131, rfl⟩
abbrev main_v46 : Ref sig .tc := ⟨.hbm, 132, rfl⟩
abbrev main_v47 : Ref sig .tc := ⟨.hbm, 133, rfl⟩
abbrev main_v48 : Ref sig .tc := ⟨.hbm, 134, rfl⟩
abbrev main_v49 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_cst_9 : Ref sig .tc := ⟨.hbm, 140, rfl⟩
abbrev main_v54 : Ref sig .tc := ⟨.hbm, 141, rfl⟩
abbrev main_cst_10 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_cst_11 : Ref sig .tc := ⟨.hbm, 151, rfl⟩
abbrev main_v63 : Ref sig .tc := ⟨.hbm, 152, rfl⟩
abbrev main_cst_12 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_v69 : Ref sig .tc := ⟨.hbm, 159, rfl⟩
abbrev main_v70 : Ref sig .tc := ⟨.hbm, 160, rfl⟩
abbrev main_v71 : Ref sig .tc := ⟨.hbm, 161, rfl⟩
abbrev main_v72 : Ref sig .tc := ⟨.hbm, 162, rfl⟩
abbrev main_v73 : Ref sig .tc := ⟨.hbm, 163, rfl⟩
abbrev main_v74 : Ref sig .tc := ⟨.hbm, 164, rfl⟩
abbrev main_v75 : Ref sig .tc := ⟨.hbm, 165, rfl⟩
abbrev main_c_13 : Ref sig .tc := ⟨.hbm, 166, rfl⟩
abbrev main_call6_v0 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_c_14 : Ref sig .tc := ⟨.hbm, 171, rfl⟩
abbrev main_call7_v0 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_c_15 : Ref sig .tc := ⟨.hbm, 180, rfl⟩
abbrev main_call8_v0 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_c_16 : Ref sig .tc := ⟨.hbm, 186, rfl⟩
abbrev main_call9_v0 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_v93 : Ref sig .tc := ⟨.hbm, 191, rfl⟩
abbrev main_v94 : Ref sig .tc := ⟨.hbm, 192, rfl⟩
abbrev main_v95 : Ref sig .tc := ⟨.hbm, 193, rfl⟩
abbrev main_v96 : Ref sig .tc := ⟨.hbm, 194, rfl⟩
abbrev main_v97_0 : Ref sig .tc := ⟨.hbm, 195, rfl⟩
abbrev main_v97_1 : Ref sig .tc := ⟨.hbm, 196, rfl⟩
abbrev main_v97_2 : Ref sig .tc := ⟨.hbm, 197, rfl⟩
abbrev main_v97_3 : Ref sig .tc := ⟨.hbm, 198, rfl⟩
abbrev main_v97_4 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S640x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 1 → Memref sig .tc .vmem S640x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x8x1x80x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x2x512x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S2x16384x1024 : Shape := ⟨3, ![2, 16384, 1024]⟩
abbrev S2x6144 : Shape := ⟨2, ![2, 6144]⟩
abbrev S1024 : Shape := ⟨1, ![1024]⟩
abbrev S1024x1184 : Shape := ⟨2, ![1024, 1184]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S16384 : Shape := ⟨1, ![16384]⟩
abbrev S_ : Shape := ⟨0, ![]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S16384x16 : Shape := ⟨2, ![16384, 16]⟩
abbrev S2x1x6144 : Shape := ⟨3, ![2, 1, 6144]⟩
abbrev S2x1x1024 : Shape := ⟨3, ![2, 1, 1024]⟩
abbrev S2x16384 : Shape := ⟨2, ![2, 16384]⟩
abbrev S2x16384x1 : Shape := ⟨3, ![2, 16384, 1]⟩
abbrev S1x1x1024 : Shape := ⟨3, ![1, 1, 1024]⟩
abbrev S2x16384x1184 : Shape := ⟨3, ![2, 16384, 1184]⟩
abbrev S2x16384x256 : Shape := ⟨3, ![2, 16384, 256]⟩
abbrev S2x16384x128 : Shape := ⟨3, ![2, 16384, 128]⟩
abbrev S2x16384x32 : Shape := ⟨3, ![2, 16384, 32]⟩
abbrev S2x16384x512 : Shape := ⟨3, ![2, 16384, 512]⟩
abbrev S1x1x256 : Shape := ⟨3, ![1, 1, 256]⟩
abbrev S2x16384x768 : Shape := ⟨3, ![2, 16384, 768]⟩
abbrev S2x16384x8x96 : Shape := ⟨4, ![2, 16384, 8, 96]⟩
abbrev S2x16384x8x64 : Shape := ⟨4, ![2, 16384, 8, 64]⟩
abbrev S2x16384x8x32 : Shape := ⟨4, ![2, 16384, 8, 32]⟩
abbrev S16384x1x16 : Shape := ⟨3, ![16384, 1, 16]⟩
abbrev S2x16384x8x16 : Shape := ⟨4, ![2, 16384, 8, 16]⟩
abbrev S1x16384x1x16 : Shape := ⟨4, ![1, 16384, 1, 16]⟩
abbrev S1x1x128 : Shape := ⟨3, ![1, 1, 128]⟩
abbrev S2x16384x8x128 : Shape := ⟨4, ![2, 16384, 8, 128]⟩
abbrev S2x16384x16 : Shape := ⟨3, ![2, 16384, 16]⟩
abbrev S1x16384x16 : Shape := ⟨3, ![1, 16384, 16]⟩
abbrev S2x16384x1x32 : Shape := ⟨4, ![2, 16384, 1, 32]⟩
abbrev S2x8x32x1x512 : Shape := ⟨5, ![2, 8, 32, 1, 512]⟩
abbrev S2x8x32x15x512 : Shape := ⟨5, ![2, 8, 32, 15, 512]⟩
abbrev S2x32x512x8x64 : Shape := ⟨5, ![2, 32, 512, 8, 64]⟩
abbrev S2x8x32x64x512 : Shape := ⟨5, ![2, 8, 32, 64, 512]⟩
abbrev S2x8x32x80x512 : Shape := ⟨5, ![2, 8, 32, 80, 512]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S2x16384x4x64 : Shape := ⟨4, ![2, 16384, 4, 64]⟩
abbrev S2x1x16384x256 : Shape := ⟨4, ![2, 1, 16384, 256]⟩
abbrev S2x2x16384x256 : Shape := ⟨4, ![2, 2, 16384, 256]⟩

abbrev nBuf : Space → Nat
  | .hbm => 269
  | .vmem => 0
  | .smem => 0
  | _ => 0

abbrev hbmTy0_0 (i : Nat) : BufTy := match i % 128 with
  | 0 => ⟨S2x16384x1024, .f32⟩
  | 1 => ⟨S2x6144, .f32⟩
  | 2 => ⟨S1024, .f32⟩
  | 3 => ⟨S1024x1184, .f32⟩
  | 4 => ⟨S256, .f32⟩
  | 5 => ⟨S256x768, .f32⟩
  | 6 => ⟨S128, .f32⟩
  | 7 => ⟨S128x1024, .f32⟩
  | 8 => ⟨S16384, .i32⟩
  | 9 => ⟨S_, .i32⟩
  | 10 => ⟨S_, .i32⟩
  | 11 => ⟨S16384, .i32⟩
  | 12 => ⟨S16384, .i32⟩
  | 13 => ⟨S16384, .i32⟩
  | 14 => ⟨S_, .i32⟩
  | 15 => ⟨S16384, .i32⟩
  | 16 => ⟨S16384, .i1⟩
  | 17 => ⟨S16384, .i32⟩
  | 18 => ⟨S16384, .i32⟩
  | 19 => ⟨S_, .i32⟩
  | 20 => ⟨S16384, .i32⟩
  | 21 => ⟨S16384, .i1⟩
  | 22 => ⟨S16384, .i1⟩
  | 23 => ⟨S_, .i32⟩
  | 24 => ⟨S16384, .i32⟩
  | 25 => ⟨S16384, .i32⟩
  | 26 => ⟨S16384, .i32⟩
  | 27 => ⟨S16384, .f32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S16384, .i32⟩
  | 35 => ⟨S16384, .i32⟩
  | 36 => ⟨S_, .i32⟩
  | 37 => ⟨S16384, .i32⟩
  | 38 => ⟨S16384, .i1⟩
  | 39 => ⟨S_, .i32⟩
  | 40 => ⟨S16384, .i32⟩
  | 41 => ⟨S16384, .i1⟩
  | 42 => ⟨S_, .i32⟩
  | 43 => ⟨S_, .i1⟩
  | 44 => ⟨S16384, .i1⟩
  | 45 => ⟨S16384, .i1⟩
  | 46 => ⟨S16384, .i1⟩
  | 47 => ⟨S16384, .i32⟩
  | 48 => ⟨S16384, .i32⟩
  | 49 => ⟨S16384, .i32⟩
  | 50 => ⟨S16384, .f32⟩
  | 51 => ⟨S8, .f32⟩
  | 52 => ⟨S_, .f32⟩
  | 53 => ⟨S8, .f32⟩
  | 54 => ⟨S8, .f32⟩
  | 55 => ⟨S_, .f32⟩
  | 56 => ⟨S8, .f32⟩
  | 57 => ⟨S8, .f32⟩
  | 58 => ⟨S8, .f32⟩
  | 59 => ⟨S_, .f32⟩
  | 60 => ⟨S8, .f32⟩
  | 61 => ⟨S8, .f32⟩
  | 62 => ⟨S_, .f32⟩
  | 63 => ⟨S8, .f32⟩
  | 64 => ⟨S8, .f32⟩
  | 65 => ⟨S16384x1, .f32⟩
  | 66 => ⟨S1x8, .f32⟩
  | 67 => ⟨S16384x8, .f32⟩
  | 68 => ⟨S16384x8, .f32⟩
  | 69 => ⟨S16384x8, .f32⟩
  | 70 => ⟨S16384x1, .f32⟩
  | 71 => ⟨S1x8, .f32⟩
  | 72 => ⟨S16384x8, .f32⟩
  | 73 => ⟨S16384x8, .f32⟩
  | 74 => ⟨S16384x8, .f32⟩
  | 75 => ⟨S16384x16, .f32⟩
  | 76 => ⟨S16384x16, .f32⟩
  | 77 => ⟨S16384x16, .f32⟩
  | 78 => ⟨S2x1x6144, .f32⟩
  | 79 => ⟨S2x1x1024, .f32⟩
  | 80 => ⟨S2x1x1024, .f32⟩
  | 81 => ⟨S2x1x1024, .f32⟩
  | 82 => ⟨S2x1x1024, .f32⟩
  | 83 => ⟨S2x1x1024, .f32⟩
  | 84 => ⟨S2x1x1024, .f32⟩
  | 85 => ⟨S2x16384x1024, .f32⟩
  | 86 => ⟨S_, .f32⟩
  | 87 => ⟨S2x16384, .f32⟩
  | 88 => ⟨S2x16384x1, .f32⟩
  | 89 => ⟨S_, .f32⟩
  | 90 => ⟨S2x16384x1, .f32⟩
  | 91 => ⟨S2x16384x1, .f32⟩
  | 92 => ⟨S_, .f32⟩
  | 93 => ⟨S2x16384x1, .f32⟩
  | 94 => ⟨S2x16384x1, .f32⟩
  | 95 => ⟨S2x16384x1, .f32⟩
  | 96 => ⟨S2x16384x1024, .f32⟩
  | 97 => ⟨S2x16384x1024, .f32⟩
  | 98 => ⟨S1x1x1024, .f32⟩
  | 99 => ⟨S2x16384x1024, .f32⟩
  | 100 => ⟨S2x16384x1024, .f32⟩
  | 101 => ⟨S_, .f32⟩
  | 102 => ⟨S2x1x1024, .f32⟩
  | 103 => ⟨S2x1x1024, .f32⟩
  | 104 => ⟨S2x16384x1024, .f32⟩
  | 105 => ⟨S2x16384x1024, .f32⟩
  | 106 => ⟨S2x16384x1024, .f32⟩
  | 107 => ⟨S2x16384x1024, .f32⟩
  | 108 => ⟨S2x16384x1184, .f32⟩
  | 109 => ⟨S2x16384x256, .f32⟩
  | 110 => ⟨S2x16384x256, .f32⟩
  | 111 => ⟨S2x16384x128, .f32⟩
  | 112 => ⟨S2x16384x32, .f32⟩
  | 113 => ⟨S2x16384x512, .f32⟩
  | 114 => ⟨S2x16384x256, .f32⟩
  | 115 => ⟨S_, .f32⟩
  | 116 => ⟨S2x16384, .f32⟩
  | 117 => ⟨S2x16384x1, .f32⟩
  | 118 => ⟨S_, .f32⟩
  | 119 => ⟨S2x16384x1, .f32⟩
  | 120 => ⟨S2x16384x1, .f32⟩
  | 121 => ⟨S_, .f32⟩
  | 122 => ⟨S2x16384x1, .f32⟩
  | 123 => ⟨S2x16384x1, .f32⟩
  | 124 => ⟨S2x16384x1, .f32⟩
  | 125 => ⟨S2x16384x256, .f32⟩
  | 126 => ⟨S2x16384x256, .f32⟩
  | 127 => ⟨S1x1x256, .f32⟩
  | _ => ⟨S2x16384x1024, .f32⟩

abbrev hbmTy0_1 (i : Nat) : BufTy := match i % 128 with
  | 0 => ⟨S2x16384x256, .f32⟩
  | 1 => ⟨S2x16384x256, .f32⟩
  | 2 => ⟨S2x16384x768, .f32⟩
  | 3 => ⟨S2x16384x8x96, .f32⟩
  | 4 => ⟨S2x16384x8x64, .f32⟩
  | 5 => ⟨S2x16384x8x32, .f32⟩
  | 6 => ⟨S16384x1x16, .f32⟩
  | 7 => ⟨S16384x1x16, .f32⟩
  | 8 => ⟨S2x16384x8x16, .f32⟩
  | 9 => ⟨S2x16384x8x16, .f32⟩
  | 10 => ⟨S1x16384x1x16, .f32⟩
  | 11 => ⟨S2x16384x8x16, .f32⟩
  | 12 => ⟨S2x16384x8x16, .f32⟩
  | 13 => ⟨S1x16384x1x16, .f32⟩
  | 14 => ⟨S2x16384x8x16, .f32⟩
  | 15 => ⟨S2x16384x8x16, .f32⟩
  | 16 => ⟨S2x16384x8x16, .f32⟩
  | 17 => ⟨S1x16384x1x16, .f32⟩
  | 18 => ⟨S2x16384x8x16, .f32⟩
  | 19 => ⟨S2x16384x8x16, .f32⟩
  | 20 => ⟨S1x16384x1x16, .f32⟩
  | 21 => ⟨S2x16384x8x16, .f32⟩
  | 22 => ⟨S2x16384x8x16, .f32⟩
  | 23 => ⟨S2x16384x8x16, .f32⟩
  | 24 => ⟨S2x16384x8x32, .f32⟩
  | 25 => ⟨S2x16384x128, .f32⟩
  | 26 => ⟨S_, .f32⟩
  | 27 => ⟨S2x16384, .f32⟩
  | 28 => ⟨S2x16384x1, .f32⟩
  | 29 => ⟨S_, .f32⟩
  | 30 => ⟨S2x16384x1, .f32⟩
  | 31 => ⟨S2x16384x1, .f32⟩
  | 32 => ⟨S_, .f32⟩
  | 33 => ⟨S2x16384x1, .f32⟩
  | 34 => ⟨S2x16384x1, .f32⟩
  | 35 => ⟨S2x16384x1, .f32⟩
  | 36 => ⟨S2x16384x128, .f32⟩
  | 37 => ⟨S2x16384x128, .f32⟩
  | 38 => ⟨S1x1x128, .f32⟩
  | 39 => ⟨S2x16384x128, .f32⟩
  | 40 => ⟨S2x16384x128, .f32⟩
  | 41 => ⟨S2x16384x1024, .f32⟩
  | 42 => ⟨S2x16384x8x128, .f32⟩
  | 43 => ⟨S2x16384x8x64, .f32⟩
  | 44 => ⟨S2x16384x8x64, .f32⟩
  | 45 => ⟨S2x16384x16, .f32⟩
  | 46 => ⟨S2x16384x16, .f32⟩
  | 47 => ⟨S1x16384x16, .f32⟩
  | 48 => ⟨S2x16384x16, .f32⟩
  | 49 => ⟨S2x16384x16, .f32⟩
  | 50 => ⟨S1x16384x16, .f32⟩
  | 51 => ⟨S2x16384x16, .f32⟩
  | 52 => ⟨S2x16384x16, .f32⟩
  | 53 => ⟨S2x16384x16, .f32⟩
  | 54 => ⟨S1x16384x16, .f32⟩
  | 55 => ⟨S2x16384x16, .f32⟩
  | 56 => ⟨S2x16384x16, .f32⟩
  | 57 => ⟨S1x16384x16, .f32⟩
  | 58 => ⟨S2x16384x16, .f32⟩
  | 59 => ⟨S2x16384x16, .f32⟩
  | 60 => ⟨S2x16384x16, .f32⟩
  | 61 => ⟨S2x16384x32, .f32⟩
  | 62 => ⟨S_, .f32⟩
  | 63 => ⟨S2x16384x8x32, .f32⟩
  | 64 => ⟨S_, .f32⟩
  | 65 => ⟨S2x16384x8x64, .f32⟩
  | 66 => ⟨S2x16384x8x64, .f32⟩
  | 67 => ⟨S_, .f32⟩
  | 68 => ⟨S2x16384x8x32, .f32⟩
  | 69 => ⟨S2x16384x8x32, .f32⟩
  | 70 => ⟨S2x16384x8x128, .f32⟩
  | 71 => ⟨S2x16384x1024, .f32⟩
  | 72 => ⟨S2x16384x1024, .bf16⟩
  | 73 => ⟨S2x16384x1x32, .f32⟩
  | 74 => ⟨S2x16384x8x32, .f32⟩
  | 75 => ⟨S2x16384x8x128, .f32⟩
  | 76 => ⟨S2x16384x1024, .f32⟩
  | 77 => ⟨S2x16384x1024, .bf16⟩
  | 78 => ⟨S_, .f32⟩
  | 79 => ⟨S2x8x32x1x512, .f32⟩
  | 80 => ⟨S_, .f32⟩
  | 81 => ⟨S2x8x32x15x512, .f32⟩
  | 82 => ⟨S2x32x512x8x64, .f32⟩
  | 83 => ⟨S2x8x32x64x512, .f32⟩
  | 84 => ⟨S2x8x32x80x512, .f32⟩
  | 85 => ⟨S2x8x32x80x512, .bf16⟩
  | 86 => ⟨S64, .i32⟩
  | 87 => ⟨S64x1, .i32⟩
  | 88 => ⟨S1x64, .i32⟩
  | 89 => ⟨S64x64, .i32⟩
  | 90 => ⟨S64x64, .i32⟩
  | 91 => ⟨S64x64, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S64x64, .i32⟩
  | 99 => ⟨S64x64, .i32⟩
  | 100 => ⟨S_, .i32⟩
  | 101 => ⟨S64x64, .i32⟩
  | 102 => ⟨S64x64, .i1⟩
  | 103 => ⟨S_, .i32⟩
  | 104 => ⟨S64x64, .i32⟩
  | 105 => ⟨S64x64, .i1⟩
  | 106 => ⟨S_, .i32⟩
  | 107 => ⟨S_, .i1⟩
  | 108 => ⟨S64x64, .i1⟩
  | 109 => ⟨S64x64, .i1⟩
  | 110 => ⟨S64x64, .i1⟩
  | 111 => ⟨S64x64, .i32⟩
  | 112 => ⟨S64x64, .i32⟩
  | 113 => ⟨S64x64, .i32⟩
  | 114 => ⟨S64x64, .f32⟩
  | 115 => ⟨S_, .f32⟩
  | 116 => ⟨S64x64, .f32⟩
  | 117 => ⟨S64x64, .f32⟩
  | 118 => ⟨S2x16384x4x64, .f32⟩
  | 119 => ⟨S64x64, .f32⟩
  | 120 => ⟨S2x16384x4x64, .f32⟩
  | 121 => ⟨S2x16384x256, .f32⟩
  | 122 => ⟨S64x64, .f32⟩
  | 123 => ⟨S64x64, .f32⟩
  | 124 => ⟨S2x16384x4x64, .f32⟩
  | 125 => ⟨S2x16384x256, .f32⟩
  | 126 => ⟨S2x16384x256, .f32⟩
  | 127 => ⟨S2x16384x256, .f32⟩
  | _ => ⟨S2x16384x1024, .f32⟩

abbrev hbmTy0_2 (i : Nat) : BufTy := match i % 128 with
  | 0 => ⟨S2x1x16384x256, .f32⟩
  | 1 => ⟨S2x1x16384x256, .f32⟩
  | 2 => ⟨S2x2x16384x256, .f32⟩
  | 3 => ⟨S2x16384x256, .f32⟩
  | 4 => ⟨S2x16384x256, .f32⟩
  | 5 => ⟨S_, .f32⟩
  | 6 => ⟨S2x16384x256, .f32⟩
  | 7 => ⟨S2x16384x256, .f32⟩
  | 8 => ⟨S_, .f32⟩
  | 9 => ⟨S2x16384x256, .f32⟩
  | 10 => ⟨S2x16384x256, .f32⟩
  | 11 => ⟨S2x16384x256, .f32⟩
  | 12 => ⟨S2x16384x256, .bf16⟩
  | _ => ⟨S2x16384x1024, .f32⟩

abbrev hbmTy (i : Nat) : BufTy := match i / 128 with
  | 0 => hbmTy0_0 i
  | 1 => hbmTy0_1 i
  | 2 => hbmTy0_2 i
  | _ => ⟨S2x16384x1024, .f32⟩

abbrev bufTy : (tb : Table) → Fin (tcTables nBuf tb) → BufTy
  | .hbm, ⟨i, _⟩ => hbmTy i
  | _, _ => ⟨S2x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v1 : Ref sig .tc := ⟨.hbm, 26, rfl⟩
abbrev main_v2 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_cst : Ref sig .tc := ⟨.hbm, 52, rfl⟩
abbrev main_v6 : Ref sig .tc := ⟨.hbm, 53, rfl⟩
abbrev main_v7 : Ref sig .tc := ⟨.hbm, 54, rfl⟩
abbrev main_cst_1 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_cst_2 : Ref sig .tc := ⟨.hbm, 59, rfl⟩
abbrev main_v11 : Ref sig .tc := ⟨.hbm, 60, rfl⟩
abbrev main_v12 : Ref sig .tc := ⟨.hbm, 61, rfl⟩
abbrev main_cst_3 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_v25 : Ref sig .tc := ⟨.hbm, 75, rfl⟩
abbrev main_v26 : Ref sig .tc := ⟨.hbm, 76, rfl⟩
abbrev main_v27 : Ref sig .tc := ⟨.hbm, 77, rfl⟩
abbrev main_v28 : Ref sig .tc := ⟨.hbm, 78, rfl⟩
abbrev main_v29 : Ref sig .tc := ⟨.hbm, 79, rfl⟩
abbrev main_v30 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_v35 : Ref sig .tc := ⟨.hbm, 85, rfl⟩
abbrev main_cst_4 : Ref sig .tc := ⟨.hbm, 86, rfl⟩
abbrev main_v36 : Ref sig .tc := ⟨.hbm, 87, rfl⟩
abbrev main_v37 : Ref sig .tc := ⟨.hbm, 88, rfl⟩
abbrev main_cst_5 : Ref sig .tc := ⟨.hbm, 89, rfl⟩
abbrev main_v38 : Ref sig .tc := ⟨.hbm, 90, rfl⟩
abbrev main_v39 : Ref sig .tc := ⟨.hbm, 91, rfl⟩
abbrev main_cst_6 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_7 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_cst_8 : Ref sig .tc := ⟨.hbm, 115, rfl⟩
abbrev main_v61 : Ref sig .tc := ⟨.hbm, 116, rfl⟩
abbrev main_v62 : Ref sig .tc := ⟨.hbm, 117, rfl⟩
abbrev main_cst_9 : Ref sig .tc := ⟨.hbm, 118, rfl⟩
abbrev main_v63 : Ref sig .tc := ⟨.hbm, 119, rfl⟩
abbrev main_v64 : Ref sig .tc := ⟨.hbm, 120, rfl⟩
abbrev main_cst_10 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_v79 : Ref sig .tc := ⟨.hbm, 136, rfl⟩
abbrev main_v80 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_cst_11 : Ref sig .tc := ⟨.hbm, 154, rfl⟩
abbrev main_v97 : Ref sig .tc := ⟨.hbm, 155, rfl⟩
abbrev main_v98 : Ref sig .tc := ⟨.hbm, 156, rfl⟩
abbrev main_cst_12 : Ref sig .tc := ⟨.hbm, 157, rfl⟩
abbrev main_v99 : Ref sig .tc := ⟨.hbm, 158, rfl⟩
abbrev main_v100 : Ref sig .tc := ⟨.hbm, 159, rfl⟩
abbrev main_cst_13 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_v109 : Ref sig .tc := ⟨.hbm, 169, rfl⟩
abbrev main_v110 : Ref sig .tc := ⟨.hbm, 170, rfl⟩
abbrev main_v111 : Ref sig .tc := ⟨.hbm, 171, rfl⟩
abbrev main_v112 : Ref sig .tc := ⟨.hbm, 172, rfl⟩
abbrev main_v113 : Ref sig .tc := ⟨.hbm, 173, rfl⟩
abbrev main_v114 : Ref sig .tc := ⟨.hbm, 174, rfl⟩
abbrev main_v115 : Ref sig .tc := ⟨.hbm, 175, rfl⟩
abbrev main_v116 : Ref sig .tc := ⟨.hbm, 176, rfl⟩
abbrev main_v117 : Ref sig .tc := ⟨.hbm, 177, rfl⟩
abbrev main_v118 : Ref sig .tc := ⟨.hbm, 178, rfl⟩
abbrev main_v119 : Ref sig .tc := ⟨.hbm, 179, rfl⟩
abbrev main_v120 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_cst_14 : Ref sig .tc := ⟨.hbm, 190, rfl⟩
abbrev main_v130 : Ref sig .tc := ⟨.hbm, 191, rfl⟩
abbrev main_cst_15 : Ref sig .tc := ⟨.hbm, 192, rfl⟩
abbrev main_v131 : Ref sig .tc := ⟨.hbm, 193, rfl⟩
abbrev main_v132 : Ref sig .tc := ⟨.hbm, 194, rfl⟩
abbrev main_cst_16 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_cst_17 : Ref sig .tc := ⟨.hbm, 206, rfl⟩
abbrev main_v143 : Ref sig .tc := ⟨.hbm, 207, rfl⟩
abbrev main_cst_18 : Ref sig .tc := ⟨.hbm, 208, rfl⟩
abbrev main_v144 : Ref sig .tc := ⟨.hbm, 209, rfl⟩
abbrev main_v145 : Ref sig .tc := ⟨.hbm, 210, rfl⟩
abbrev main_v146 : Ref sig .tc := ⟨.hbm, 211, rfl⟩
abbrev main_v147 : Ref sig .tc := ⟨.hbm, 212, rfl⟩
abbrev main_v148 : Ref sig .tc := ⟨.hbm, 213, rfl⟩
abbrev main_v149 : Ref sig .tc := ⟨.hbm, 214, rfl⟩
abbrev main_v150 : Ref sig .tc := ⟨.hbm, 215, rfl⟩
abbrev main_v151 : Ref sig .tc := ⟨.hbm, 216, rfl⟩
abbrev main_v152 : Ref sig .tc := ⟨.hbm, 217, rfl⟩
abbrev main_v153 : Ref sig .tc := ⟨.hbm, 218, rfl⟩
abbrev main_v154 : Ref sig .tc := ⟨.hbm, 219, rfl⟩
abbrev main_c_19 : Ref sig .tc := ⟨.hbm, 220, rfl⟩
abbrev main_call2_v0 : Ref sig .tc := ⟨.hbm, 221, rfl⟩
abbrev main_call2_c : Ref sig .tc := ⟨.hbm, 222, rfl⟩
abbrev main_call2_v1 : Ref sig .tc := ⟨.hbm, 223, rfl⟩
abbrev main_call2_c_0 : Ref sig .tc := ⟨.hbm, 224, rfl⟩
abbrev main_call2_v2 : Ref sig .tc := ⟨.hbm, 225, rfl⟩
abbrev main_call2_v3 : Ref sig .tc := ⟨.hbm, 226, rfl⟩
abbrev main_call2_v4 : Ref sig .tc := ⟨.hbm, 227, rfl⟩
abbrev main_call2_c_1 : Ref sig .tc := ⟨.hbm, 228, rfl⟩
abbrev main_call2_v5 : Ref sig .tc := ⟨.hbm, 229, rfl⟩
abbrev main_call2_v6 : Ref sig .tc := ⟨.hbm, 230, rfl⟩
abbrev main_call2_c_2 : Ref sig .tc := ⟨.hbm, 231, rfl⟩
abbrev main_call2_v7 : Ref sig .tc := ⟨.hbm, 232, rfl⟩
abbrev main_call2_v8 : Ref sig .tc := ⟨.hbm, 233, rfl⟩
abbrev main_call2_c_3 : Ref sig .tc := ⟨.hbm, 234, rfl⟩
abbrev main_call2_v9 : Ref sig .tc := ⟨.hbm, 235, rfl⟩
abbrev main_call2_v10 : Ref sig .tc := ⟨.hbm, 236, rfl⟩
abbrev main_call2_v11 : Ref sig .tc := ⟨.hbm, 237, rfl⟩
abbrev main_call2_v12 : Ref sig .tc := ⟨.hbm, 238, rfl⟩
abbrev main_call2_v13 : Ref sig .tc := ⟨.hbm, 239, rfl⟩
abbrev main_call2_v14 : Ref sig .tc := ⟨.hbm, 240, rfl⟩
abbrev main_v155 : Ref sig .tc := ⟨.hbm, 241, rfl⟩
abbrev main_v156 : Ref sig .tc := ⟨.hbm, 242, rfl⟩
abbrev main_cst_20 : Ref sig .tc := ⟨.hbm, 243, rfl⟩
abbrev main_v157 : Ref sig .tc := ⟨.hbm, 244, rfl⟩
abbrev main_v158 : Ref sig .tc := ⟨.hbm, 245, rfl⟩
abbrev main_v159 : Ref sig .tc := ⟨.hbm, 246, rfl⟩
abbrev main_v160 : Ref sig .tc := ⟨.hbm, 247, rfl⟩
abbrev main_v161 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_v166 : Ref sig .tc := ⟨.hbm, 253, rfl⟩
abbrev main_v167 : Ref sig .tc := ⟨.hbm, 254, rfl⟩
abbrev main_v168 : Ref sig .tc := ⟨.hbm, 255, rfl⟩
abbrev main_v169 : Ref sig .tc := ⟨.hbm, 256, rfl⟩
abbrev main_v170 : Ref sig .tc := ⟨.hbm, 257, rfl⟩
abbrev main_v171 : Ref sig .tc := ⟨.hbm, 258, rfl⟩
abbrev main_v172 : Ref sig .tc := ⟨.hbm, 259, rfl⟩
abbrev main_v173 : Ref sig .tc := ⟨.hbm, 260, rfl⟩
abbrev main_cst_21 : Ref sig .tc := ⟨.hbm, 261, rfl⟩
abbrev main_v174 : Ref sig .tc := ⟨.hbm, 262, rfl⟩
abbrev main_v175 : Ref sig .tc := ⟨.hbm, 263, rfl⟩
abbrev main_cst_22 : Ref sig .tc := ⟨.hbm, 264, rfl⟩
abbrev main_v176 : Ref sig .tc := ⟨.hbm, 265, rfl⟩
abbrev main_v177 : Ref sig .tc := ⟨.hbm, 266, rfl⟩
abbrev main_v178 : Ref sig .tc := ⟨.hbm, 267, rfl⟩
abbrev main_v179 : Ref sig .tc := ⟨.hbm, 268, rfl⟩

abbrev nD : Nat := 1
abbrev τ : Topo := Topo.v7x

variable {F : FTy → Type} [FloatOps F]
-- ==== Proof.Col.lean ====
module

public import Idealize.ShloMosaic.Lib.Pointwise

/-!
# Weighted sums of one query

For one query, `s k` is the score of key `k` in base two and `v k` is one number of the value of key `k`. The numbers
`v k` may be infinite; the scores are real. The sum `wsum v s n μ` weighs the first `n` values by `2 ^ (s k - μ)`. Moving
the shift `μ` multiplies the whole sum by one positive number, so a quotient of two such sums does not know the shift.
-/

@[expose] public section

noncomputable section

namespace Cert.Proof.Attn

open Idealize.ShloMosaic

/-- The weight `2 ^ x` as an extended real. -/
def wt (x : ℝ) : EReal := ((Real.rpow 2 x : ℝ) : EReal)

/-- The first `n` values weighed by `2 ^ (s k - μ)`. -/
def wsum (v : ℕ → EReal) (s : ℕ → ℝ) (n : ℕ) (μ : ℝ) : EReal := ∑ k ∈ Finset.range n, v k * wt (s k - μ)

/-- A real number that is not negative moves into a sum of extended reals. -/
theorem sum_mul_real {ι : Type} (S : Finset ι) (f : ι → EReal) {c : ℝ} (hc : 0 ≤ c) :
    (∑ i ∈ S, f i) * (c : EReal) = ∑ i ∈ S, f i * (c : EReal) := by
  classical
  induction S using Finset.induction_on with
  | empty => simp
  | insert a S ha ih =>
    rw [Finset.sum_insert ha, Finset.sum_insert ha, ← ih]
    exact EReal.right_distrib_of_nonneg_of_ne_top (by exact_mod_cast hc) (EReal.coe_ne_top c) _ _

/-- A sum of reals taken among the extended reals is the real sum. -/
theorem coe_sum {ι : Type} (S : Finset ι) (f : ι → ℝ) : (∑ i ∈ S, (f i : EReal)) = ((∑ i ∈ S, f i : ℝ) : EReal) := by
  classical
  induction S using Finset.induction_on with
  | empty => simp
  | insert a S ha ih => rw [Finset.sum_insert ha, Finset.sum_insert ha, ih, EReal.coe_add]

/-- Weights multiply by adding their exponents. -/
theorem wt_mul (x y : ℝ) : wt x * wt y = wt (x + y) := by
  unfold wt
  rw [← EReal.coe_mul]
  exact congrArg _ (Real.rpow_add (by norm_num) x y).symm

/-- A weight is a real that is not negative. -/
theorem wt_nonneg (x : ℝ) : 0 ≤ Real.rpow 2 x := Real.rpow_nonneg (by norm_num) x

/-- Moving the shift from `μ` to `μ'` is one multiplication of the whole sum. -/
theorem wsum_shift (v : ℕ → EReal) (s : ℕ → ℝ) (n : ℕ) (μ μ' : ℝ) : wsum v s n μ * wt (μ - μ') = wsum v s n μ' := by
  unfold wsum
  rw [wt, sum_mul_real _ _ (wt_nonneg _)]
  refine Finset.sum_congr rfl fun k _ => ?_
  rw [mul_assoc]
  congr 1
  refine (wt_mul _ _).trans ?_
  congr 1
  ring

/-- Adding the `t` keys that follow the first `n`. -/
theorem wsum_add (v : ℕ → EReal) (s : ℕ → ℝ) (n t : ℕ) (μ : ℝ) :
    wsum v s (n + t) μ = wsum v s n μ + ∑ x : Fin t, v (n + x) * wt (s (n + x) - μ) := by
  unfold wsum
  rw [Finset.sum_range_add, Finset.sum_range (fun x => v (n + x) * wt (s (n + x) - μ))]

/-- The first `t` keys as a sum over their positions. -/
theorem wsum_fin (v : ℕ → EReal) (s : ℕ → ℝ) (t : ℕ) (μ : ℝ) :
    wsum v s t μ = ∑ x : Fin t, v x * wt (s x - μ) := by
  unfold wsum
  rw [Finset.sum_range (fun x => v x * wt (s x - μ))]

/-- The greatest of finitely many reals, at least one, is a real. -/
theorem fold_real {n : ℕ} (hn : 0 < n) (f : Fin n → EReal) (g : Fin n → ℝ) (hf : ∀ x, f x = (g x : EReal)) :
    ∃ μ : ℝ, Finset.fold max (⊥ : EReal) f Finset.univ = (μ : EReal) := by
  classical
  have key : ∀ S : Finset (Fin n), S.Nonempty → ∃ μ : ℝ, Finset.fold max (⊥ : EReal) f S = (μ : EReal) := by
    intro S
    induction S using Finset.induction_on with
    | empty => intro h; exact absurd h (by simp)
    | insert a S ha ih =>
      intro _
      rw [Finset.fold_insert ha, hf]
      rcases S.eq_empty_or_nonempty with rfl | hS
      · exact ⟨g a, by simp⟩
      · obtain ⟨μ, e⟩ := ih hS
        exact ⟨max (g a) μ, by rw [e]; exact (EReal.coe_strictMono.monotone.map_max).symm⟩
  exact key _ ⟨⟨0, hn⟩, Finset.mem_univ _⟩

/-- The greater of two reals among the extended reals. -/
theorem max_coe (a b : ℝ) : max (a : EReal) (b : EReal) = ((max a b : ℝ) : EReal) :=
  (EReal.coe_strictMono.monotone.map_max).symm

/-- Base two exponentials of a difference of reals. -/
theorem exp2_sub (a b : ℝ) : (FloatOps.exp2 (F := Ideal) (φ := .f32) ((a : EReal) - (b : EReal)) : EReal) = wt (a - b) := by
  rw [← EReal.coe_sub]
  rfl

/-- The attention of one query: the first `n` values weighed by the softmax of the scores `σ`. -/
def softSum (v : ℕ → EReal) (σ : ℕ → ℝ) (n : ℕ) : EReal :=
  ∑ k ∈ Finset.range n, v k * ((Real.exp (σ k) / ∑ l ∈ Finset.range n, Real.exp (σ l) : ℝ) : EReal)

/-- A weighted sum over the sum of its weights is the attention, whatever the shift. -/
theorem quotient (v w : ℕ → EReal) (s σ : ℕ → ℝ) (n : ℕ) (hn : 0 < n) (μ : ℝ) (hw : ∀ k < n, w k = 1)
    (hσ : ∀ k < n, σ k = s k * Real.log 2) : Ideal.div (wsum v s n μ) (wsum w s n μ) = softSum v σ n := by
  have hp : ∀ k < n, Real.rpow 2 (s k - μ) = Real.exp (σ k) * Real.exp (-(μ * Real.log 2)) := by
    intro k hk
    rw [← Real.exp_add, hσ k hk]
    refine (Real.rpow_def_of_pos (by norm_num) _).trans ?_
    congr 1
    ring
  have hD : wsum w s n μ
      = (((∑ l ∈ Finset.range n, Real.exp (σ l)) * Real.exp (-(μ * Real.log 2)) : ℝ) : EReal) := by
    rw [Finset.sum_mul, ← coe_sum]
    refine Finset.sum_congr rfl fun k hk => ?_
    rw [hw k (Finset.mem_range.mp hk), one_mul, wt, hp k (Finset.mem_range.mp hk)]
  have hpos : 0 < ∑ l ∈ Finset.range n, Real.exp (σ l) :=
    Finset.sum_pos (fun _ _ => Real.exp_pos _) ⟨0, Finset.mem_range.mpr hn⟩
  have hE : 0 < Real.exp (-(μ * Real.log 2)) := Real.exp_pos _
  rw [hD, Ideal.div_coe (mul_pos hpos hE).ne', wsum, sum_mul_real _ _ (by positivity), softSum]
  refine Finset.sum_congr rfl fun k hk => ?_
  rw [mul_assoc, wt, hp k (Finset.mem_range.mp hk), ← EReal.coe_mul]
  congr 2
  field_simp

/-- Softmax with the scores moved by a real `M` is the same attention. -/
theorem soft_shift (v : ℕ → EReal) (σ : ℕ → ℝ) (n : ℕ) (hn : 0 < n) (M : ℝ) :
    (∑ x : Fin n, v x * Ideal.div (Ideal.exp ((σ x : EReal) - (M : EReal)))
      (∑ y : Fin n, Ideal.exp ((σ y : EReal) - (M : EReal)))) = softSum v σ n := by
  have he : ∀ k, Ideal.exp ((σ k : EReal) - (M : EReal)) = ((Real.exp (σ k) * Real.exp (-M) : ℝ) : EReal) := by
    intro k
    rw [← EReal.coe_sub, Ideal.exp_coe, ← Real.exp_add, sub_eq_add_neg]
  have hpos : 0 < ∑ l ∈ Finset.range n, Real.exp (σ l) :=
    Finset.sum_pos (fun _ _ => Real.exp_pos _) ⟨0, Finset.mem_range.mpr hn⟩
  have hE : 0 < Real.exp (-M) := Real.exp_pos _
  have hD : (∑ y : Fin n, Ideal.exp ((σ y : EReal) - (M : EReal)))
      = (((∑ l ∈ Finset.range n, Real.exp (σ l)) * Real.exp (-M) : ℝ) : EReal) := by
    rw [Finset.sum_mul, Finset.sum_range, ← coe_sum]
    exact Finset.sum_congr rfl fun k _ => he k
  rw [hD, softSum, Finset.sum_range (fun k => v k * ((Real.exp (σ k) / ∑ l ∈ Finset.range n, Real.exp (σ l) : ℝ) : EReal))]
  refine Finset.sum_congr rfl fun k _ => ?_
  rw [he, Ideal.div_coe (mul_pos hpos hE).ne', ← EReal.coe_mul]
  congr 2
  field_simp

end Cert.Proof.Attn

end
-- ==== Proof.Host.lean ====
module

public import proofs.«01_k».proof.Proof.Gen.KernelIdeal.Frame
public import proofs.«01_k».proof.Proof.Col

/-!
# The arrays the call is given

What the operations before the call lay out: the queries and the keys padded to 128 lanes a head, the values transposed in
tiles with a row of ones under them. Each is written as one expression of the arguments and read at one index.
-/

@[expose] public section

set_option maxRecDepth 16384

noncomputable section

namespace Cert.Proof.Attn

open Cert.KernelIdeal Cert.KernelIdeal.Gen
open Idealize.ShloMosaic Idealize.SL.Sem Idealize.ShloMosaic.TcCoe

variable {F : FTy → Type} [FloatOps F]

/-- The scale of the queries. -/
def qscale : Vec F S_ .f32 := Host.divf (Host.rsqrt (constant S_ .f32 0x42C00000#32)) (Host.log (constant S_ .f32 0x40000000#32))

/-- The queries: the two parts of a head side by side, scaled, padded with zeros to 128 lanes. -/
def qArr (a0 : Vec F S2x16384x8x64 .f32) (a1 : Vec F S2x16384x8x32 .f32) (s : Vec F S_ .f32) : Vec F S2x16384x1024 .bf16 :=
  truncf .bf16 (shapeCast S2x16384x1024 (pad S2x16384x8x128 ![0, 0, 0, 0] ![0, 0, 0, 32] ![0, 0, 0, 0]
    (mulf (concatenate S2x16384x8x96 3 [⟨S2x16384x8x64, a0⟩, ⟨S2x16384x8x32, a1⟩] concatenates_S2x16384x8x64_S2x16384x8x32_S2x16384x8x96_d3)
      (broadcastInDim S2x16384x8x96 ![] bcast_S_S2x16384x8x96 s))
    (sitofp .f32 (constantI S_ 32 0#32)) pads_S2x16384x8x96_S2x16384x8x128_000_000_000_0320 h_S_)
    shapeCasts_S2x16384x8x128_S2x16384x1024) bitsLt_bf16_f32

/-- The context's keys: the head's own lanes, the lanes common to the heads, zeros. -/
def kcArr (a2 : Vec F S2x256x8x64 .f32) (a3 : Vec F S2x256x32 .f32) : Vec F S2x256x1024 .bf16 :=
  truncf .bf16 (shapeCast S2x256x1024 (pad S2x256x8x128 ![0, 0, 0, 0] ![0, 0, 0, 32] ![0, 0, 0, 0]
    (concatenate S2x256x8x96 3 [⟨S2x256x8x64, a2⟩, ⟨S2x256x8x32, broadcastInDim S2x256x8x32 ![0, 1, 2, 3] bcast_S2x256x1x32_S2x256x8x32_0_1_2_3
        (broadcastInDim S2x256x1x32 ![0, 1, 3] bcast_S2x256x32_S2x256x1x32_0_1_3 a3)⟩] concatenates_S2x256x8x64_S2x256x8x32_S2x256x8x96_d3)
    (sitofp .f32 (constantI S_ 32 0#32)) pads_S2x256x8x96_S2x256x8x128_000_000_000_0320 h_S_)
    shapeCasts_S2x256x8x128_S2x256x1024) bitsLt_bf16_f32

/-- The sequence's keys, laid out as the context's. -/
def kxArr (a5 : Vec F S2x16384x8x64 .f32) (a6 : Vec F S2x16384x32 .f32) : Vec F S2x16384x1024 .bf16 :=
  truncf .bf16 (shapeCast S2x16384x1024 (pad S2x16384x8x128 ![0, 0, 0, 0] ![0, 0, 0, 32] ![0, 0, 0, 0]
    (concatenate S2x16384x8x96 3 [⟨S2x16384x8x64, a5⟩, ⟨S2x16384x8x32, broadcastInDim S2x16384x8x32 ![0, 1, 2, 3] bcast_S2x16384x1x32_S2x16384x8x32_0_1_2_3
        (broadcastInDim S2x16384x1x32 ![0, 1, 3] bcast_S2x16384x32_S2x16384x1x32_0_1_3 a6)⟩] concatenates_S2x16384x8x64_S2x16384x8x32_S2x16384x8x96_d3)
    (sitofp .f32 (constantI S_ 32 0#32)) pads_S2x16384x8x96_S2x16384x8x128_000_000_000_0320 h_S_)
    shapeCasts_S2x16384x8x128_S2x16384x1024) bitsLt_bf16_f32

/-- The values of every head transposed. -/
def vcArrRows (a4 : Vec F S2x256x8x64 .f32) : Vec F S2x8x1x64x256 .f32 :=
  transpose S2x8x1x64x256 [0, 3, 1, 4, 2]
      (shapeCast S2x1x256x8x64 a4 shapeCasts_S2x256x8x64_S2x1x256x8x64) transposes_S2x1x256x8x64_S2x8x1x64x256_0_3_1_4_2

/-- The context's values transposed, a row of ones under them, then zeros. -/
def vcArr (a4 : Vec F S2x256x8x64 .f32) : Vec F S2x8x1x80x256 .bf16 :=
  truncf .bf16 (concatenate S2x8x1x80x256 3 [⟨S2x8x1x64x256, vcArrRows a4⟩,
    ⟨S2x8x1x1x256, broadcastInDim S2x8x1x1x256 ![] bcast_S_S2x8x1x1x256 (constant S_ .f32 0x3F800000#32)⟩,
    ⟨S2x8x1x15x256, broadcastInDim S2x8x1x15x256 ![] bcast_S_S2x8x1x15x256 (constant S_ .f32 0x00000000#32)⟩]
    concatenates_S2x8x1x64x256_S2x8x1x1x256_S2x8x1x15x256_S2x8x1x80x256_d3) bitsLt_bf16_f32

/-- The values of every head transposed, in tiles. -/
def vxArrRows (a7 : Vec F S2x16384x8x64 .f32) : Vec F S2x8x32x64x512 .f32 :=
  transpose S2x8x32x64x512 [0, 3, 1, 4, 2]
      (shapeCast S2x32x512x8x64 a7 shapeCasts_S2x16384x8x64_S2x32x512x8x64) transposes_S2x32x512x8x64_S2x8x32x64x512_0_3_1_4_2

/-- The sequence's values in 32 tiles, laid out as the context's. -/
def vxArr (a7 : Vec F S2x16384x8x64 .f32) : Vec F S2x8x32x80x512 .bf16 :=
  truncf .bf16 (concatenate S2x8x32x80x512 3 [⟨S2x8x32x64x512, vxArrRows a7⟩,
    ⟨S2x8x32x1x512, broadcastInDim S2x8x32x1x512 ![] bcast_S_S2x8x32x1x512 (constant S_ .f32 0x3F800000#32)⟩,
    ⟨S2x8x32x15x512, broadcastInDim S2x8x32x15x512 ![] bcast_S_S2x8x32x15x512 (constant S_ .f32 0x00000000#32)⟩]
    concatenates_S2x8x32x64x512_S2x8x32x1x512_S2x8x32x15x512_S2x8x32x80x512_d3) bitsLt_bf16_f32

end Cert.Proof.Attn

namespace Cert.Proof.Attn

open Cert.KernelIdeal Cert.KernelIdeal.Gen
open Idealize.ShloMosaic

/-- The number the padding is filled with. -/
theorem fill_zero : FloatOps.sitofp (F := Ideal) FTy.f32 (0#32) = (0 : EReal) := by
  show ((((0#32 : BitVec 32).toInt : ℝ)) : EReal) = 0
  simp

/-- A lane of the queries: the head's own part, the rotary part, zeros. -/
theorem qArr_at (a0 : Vec Ideal S2x16384x8x64 .f32) (a1 : Vec Ideal S2x16384x8x32 .f32) (s : Vec Ideal S_ .f32) (b : Fin 2)
    (i : Fin 16384) (h : Fin 8) (l : Fin 128) : qArr a0 a1 s (ix3 b i ⟨128 * h + l, by omega⟩)
      = if h1 : (l : ℕ) < 64 then a0 (ix4 b i h ⟨l, h1⟩) * s ix0
        else if h2 : (l : ℕ) < 96 then a1 (ix4 b i h ⟨l - 64, by omega⟩) * s ix0 else (0 : EReal) := by
  have e1 : (128 * (h : ℕ) + l) / 128 = h := by omega
  have e2 : (128 * (h : ℕ) + l) % 128 = l := by omega
  pointwise [qArr]
  simp only [e1, e2, fill_zero, Fin.eta]
  have := h.isLt
  split_ifs <;> first | rfl | omega

/-- A lane of the context's keys. -/
theorem kcArr_at (a2 : Vec Ideal S2x256x8x64 .f32) (a3 : Vec Ideal S2x256x32 .f32) (b : Fin 2)
    (i : Fin 256) (h : Fin 8) (l : Fin 128) : kcArr a2 a3 (ix3 b i ⟨128 * h + l, by omega⟩)
      = if h1 : (l : ℕ) < 64 then a2 (ix4 b i h ⟨l, h1⟩)
        else if h2 : (l : ℕ) < 96 then a3 (ix3 b i ⟨l - 64, by omega⟩) else (0 : EReal) := by
  have e1 : (128 * (h : ℕ) + l) / 128 = h := by omega
  have e2 : (128 * (h : ℕ) + l) % 128 = l := by omega
  pointwise [kcArr]
  simp only [e1, e2, fill_zero, Fin.eta]
  have := h.isLt
  split_ifs <;> first | rfl | omega

/-- A lane of the sequence's keys. -/
theorem kxArr_at (a5 : Vec Ideal S2x16384x8x64 .f32) (a6 : Vec Ideal S2x16384x32 .f32) (b : Fin 2)
    (i : Fin 16384) (h : Fin 8) (l : Fin 128) : kxArr a5 a6 (ix3 b i ⟨128 * h + l, by omega⟩)
      = if h1 : (l : ℕ) < 64 then a5 (ix4 b i h ⟨l, h1⟩)
        else if h2 : (l : ℕ) < 96 then a6 (ix3 b i ⟨l - 64, by omega⟩) else (0 : EReal) := by
  have e1 : (128 * (h : ℕ) + l) / 128 = h := by omega
  have e2 : (128 * (h : ℕ) + l) % 128 = l := by omega
  pointwise [kxArr]
  simp only [e1, e2, fill_zero, Fin.eta]
  have := h.isLt
  split_ifs <;> first | rfl | omega

/-- A row of the context's values; row 64 is ones. -/
theorem vcArr_at (a4 : Vec Ideal S2x256x8x64 .f32) (b : Fin 2) (h : Fin 8) (r : Fin 80) (k : Fin 256) :
    vcArr a4 (ix5 b h 0 r k) = if h1 : (r : ℕ) < 64 then a4 (ix4 b k h ⟨r, h1⟩)
      else if (r : ℕ) - 64 < 1 then (1 : EReal) else 0 := by
  pointwise [vcArr, vcArrRows]
  split_ifs <;> rfl

/-- A row of a tile of the sequence's values; row 64 is ones. -/
theorem vxArr_at (a7 : Vec Ideal S2x16384x8x64 .f32) (b : Fin 2) (h : Fin 8) (t : Fin 32) (r : Fin 80) (k : Fin 512) :
    vxArr a7 (ix5 b h t r k) = if h1 : (r : ℕ) < 64 then a7 (ix4 b ⟨t * 512 + k, by omega⟩ h ⟨r, h1⟩)
      else if (r : ℕ) - 64 < 1 then (1 : EReal) else 0 := by
  pointwise [vxArr, vxArrRows]
  split_ifs <;> rfl

/-- The word of the scale's argument is ninety-six. -/
theorem word96 : Ideal.ofBits .f32 0x42C00000#32 = ((96 : ℝ) : EReal) := by
  simp [Ideal.ofBits, Ideal.ieee]
  rw [← EReal.coe_mul]
  norm_num

/-- The word of the logarithm's argument is two. -/
theorem word2 : Ideal.ofBits .f32 0x40000000#32 = ((2 : ℝ) : EReal) := by
  simp [Ideal.ofBits, Ideal.ieee]
  rw [← EReal.coe_mul]
  norm_num

/-- The word a greatest element starts from is minus infinity. -/
theorem wordBot : Ideal.ofBits .f32 0xFF800000#32 = (⊥ : EReal) := by
  simp [Ideal.ofBits, Ideal.ieee]

/-- The reference's scale. -/
theorem rs96 : Ideal.rsqrt (Ideal.ofBits .f32 0x42C00000#32) = (((Real.sqrt 96)⁻¹ : ℝ) : EReal) := by
  rw [word96, Ideal.rsqrt_coe, if_neg (by norm_num), if_neg (by norm_num)]

/-- The queries' scale is the reference's over the logarithm of two. -/
theorem qscale_at : (qscale (F := Ideal)) ix0 = (((Real.sqrt 96)⁻¹ / Real.log 2 : ℝ) : EReal) := by
  have h2 : Real.log 2 ≠ 0 := (Real.log_pos (by norm_num)).ne'
  pointwise [qscale]
  rw [rs96, word2, Ideal.log_coe, if_neg (by norm_num), Ideal.div_coe h2, ← EReal.coe_mul]
  congr 1
  ring

end Cert.Proof.Attn

end
-- ==== Proof.RefVal.lean ====
module

public import proofs.«01_k».proof.Proof.Gen.ReferenceIdeal.Run
public import proofs.«01_k».proof.Proof.Col

/-!
# The reference at an index

The scores of all heads, their softmax along the keys, and the weighted values, each read at one index.
-/

@[expose] public section

set_option maxRecDepth 16384

noncomputable section

namespace Cert.Proof.Attn.Ref

open Cert.ReferenceIdeal Cert.ReferenceIdeal.Gen Cert.ReferenceIdeal.Value
open Idealize.ShloMosaic Idealize.SL.Sem Idealize.ShloMosaic.TcCoe

variable {F : FTy → Type} [FloatOps F]

/-- The contents of one buffer on a device. -/
abbrev B (m : (ℓ : Loc nD τ sig) → Buf (Elt F) ℓ) (c : Dev nD) (r : Ref sig .tc) := m ((c.tc : Thread nD τ).loc r)

/-- The values of the context followed by those of the sequence. -/
def vals (a4 : Vec F S2x256x8x64 .f32) (a7 : Vec F S2x16384x8x64 .f32) : Vec F S2x16640x8x64 .f32 :=
  concatenate S2x16640x8x64 1 [⟨S2x256x8x64, a4⟩, ⟨S2x16384x8x64, a7⟩] concatenates_S2x256x8x64_S2x16384x8x64_S2x16640x8x64_d1

/-- The rotary keys of the context followed by those of the sequence. -/
def rots (a3 : Vec F S2x256x32 .f32) (a6 : Vec F S2x16384x32 .f32) : Vec F S2x16640x32 .f32 :=
  concatenate S2x16640x32 1 [⟨S2x256x32, a3⟩, ⟨S2x16384x32, a6⟩] concatenates_S2x256x32_S2x16384x32_S2x16640x32_d1

/-- The scaled scores of every query against every key. -/
def scores (a0 : Vec F S2x16384x8x64 .f32) (a1 : Vec F S2x16384x8x32 .f32) (k : Vec F S2x16640x8x64 .f32)
    (r : Vec F S2x16640x32 .f32) : Vec F S2x8x16384x16640 .f32 :=
  mulf (addf (Host.dotGeneral dot_S2x16384x8x64_S2x16640x8x64_S2x8x16384x16640_3_3_1_1_02_02 none a0 k) (transpose S2x8x16384x16640 [0, 3, 2, 1] (Host.dotGeneral dot_S2x16640x32_S2x16384x8x32_S2x16640x16384x8_2_3_1_12_0_0 none r a1) transposes_S2x16640x16384x8_S2x8x16384x16640_0_3_2_1)) (broadcastInDim S2x8x16384x16640 ![] bcast_S_S2x8x16384x16640 (Host.rsqrt (constant S_ .f32 0x42C00000#32)))

/-- The greatest score of every query. -/
def tops (s : Vec F S2x8x16384x16640 .f32) : Vec F S2x8x16384 .f32 :=
  Host.reduce FloatOps.maximumf s (constant S_ .f32 0xFF800000#32) reducesTo_S2x8x16384x16640_S2x8x16384_d3 h_S_

/-- The exponentials of the scores under their greatest. -/
def exps (s : Vec F S2x8x16384x16640 .f32) (M : Vec F S2x8x16384 .f32) : Vec F S2x8x16384x16640 .f32 :=
  Host.exp (subf s (broadcastInDim S2x8x16384x16640 ![0, 1, 2, 3] bcast_S2x8x16384x1_S2x8x16384x16640_0_1_2_3 (broadcastInDim S2x8x16384x1 ![0, 1, 2] bcast_S2x8x16384_S2x8x16384x1_0_1_2 (maximumf (broadcastInDim S2x8x16384 ![] bcast_S_S2x8x16384 (constant S_ .f32 0xFF800000#32)) M))))

/-- The exponentials over their sum along the keys. -/
def probs (e : Vec F S2x8x16384x16640 .f32) : Vec F S2x8x16384x16640 .f32 :=
  Host.divf e (broadcastInDim S2x8x16384x16640 ![0, 1, 2, 3] bcast_S2x8x16384x1_S2x8x16384x16640_0_1_2_3 (broadcastInDim S2x8x16384x1 ![0, 1, 2] bcast_S2x8x16384_S2x8x16384x1_0_1_2 (Host.reduceAdd e (constant S_ .f32 0x00000000#32) reducesTo_S2x8x16384x16640_S2x8x16384_d3 h_S_)))

/-- The values weighed by the probabilities, heads side by side. -/
def mix (v : Vec F S2x16640x8x64 .f32) (p : Vec F S2x8x16384x16640 .f32) : Vec F S2x16384x512 .bf16 :=
  truncf .bf16 (shapeCast _ (transpose S2x16384x8x64 [0, 3, 1, 2] (Host.dotGeneral dot_S2x16640x8x64_S2x8x16384x16640_S2x8x64x16384_1_3_3_2_02_01 none v p) transposes_S2x8x64x16384_S2x16384x8x64_0_3_1_2) shapeCasts_S2x16384x8x64_S2x16384x512) bitsLt_bf16_f32

/-- The reference's scores. -/
def refScores (m : (ℓ : Loc nD τ sig) → Buf (Elt F) ℓ) (c : Dev nD) : Vec F S2x8x16384x16640 .f32 :=
  scores (B m c main_arg0) (B m c main_arg1) (vals (B m c main_arg2) (B m c main_arg5)) (rots (B m c main_arg3) (B m c main_arg6))

/-- The reference's result is these steps one after the other. -/
theorem res_eq (m : (ℓ : Loc nD τ sig) → Buf (Elt F) ℓ) (c : Dev nD) :
    res_main_v24 m c = mix (vals (B m c main_arg4) (B m c main_arg7))
      (probs (exps (refScores m c) (tops (refScores m c)))) := by
  unfold res_main_v24
  rfl

end Cert.Proof.Attn.Ref

namespace Cert.Proof.Attn.Ref

open Cert.ReferenceIdeal Cert.ReferenceIdeal.Gen
open Idealize.ShloMosaic

/-- A key's entries: the context's first, then the sequence's. -/
theorem vals_at (a4 : Vec Ideal S2x256x8x64 .f32) (a7 : Vec Ideal S2x16384x8x64 .f32) (b : Fin 2) (k : Fin 16640)
    (h : Fin 8) (d : Fin 64) : vals a4 a7 (ix4 b k h d)
      = if h1 : (k : ℕ) < 256 then a4 (ix4 b ⟨k, h1⟩ h d) else a7 (ix4 b ⟨k - 256, by omega⟩ h d) := by
  pointwise [vals]

/-- A key's rotary entries. -/
theorem rots_at (a3 : Vec Ideal S2x256x32 .f32) (a6 : Vec Ideal S2x16384x32 .f32) (b : Fin 2) (k : Fin 16640)
    (d : Fin 32) : rots a3 a6 (ix3 b k d)
      = if h1 : (k : ℕ) < 256 then a3 (ix3 b ⟨k, h1⟩ d) else a6 (ix3 b ⟨k - 256, by omega⟩ d) := by
  pointwise [rots]

/-- A score: the two products' sum, scaled. -/
theorem scores_at (a0 : Vec Ideal S2x16384x8x64 .f32) (a1 : Vec Ideal S2x16384x8x32 .f32) (k : Vec Ideal S2x16640x8x64 .f32)
    (r : Vec Ideal S2x16640x32 .f32) (b : Fin 2) (h : Fin 8) (i : Fin 16384) (j : Fin 16640) : scores a0 a1 k r (ix4 b h i j)
      = (∑ x : Fin 64, a0 (ix4 b i h x) * k (ix4 b j h x) + ∑ x : Fin 32, r (ix3 b j x) * a1 (ix4 b i h x))
        * Ideal.rsqrt (Ideal.ofBits .f32 0x42C00000#32) := by
  pointwise [scores]

/-- The greatest score of a query. -/
theorem tops_at (s : Vec Ideal S2x8x16384x16640 .f32) (b : Fin 2) (h : Fin 8) (i : Fin 16384) : tops s (ix3 b h i)
    = Finset.fold max (Ideal.ofBits .f32 0xFF800000#32) (fun x : Fin 16640 => s (ix4 b h i x)) Finset.univ := by
  pointwise [tops]

/-- An exponential. -/
theorem exps_at (s : Vec Ideal S2x8x16384x16640 .f32) (M : Vec Ideal S2x8x16384 .f32) (b : Fin 2) (h : Fin 8)
    (i : Fin 16384) (j : Fin 16640) : exps s M (ix4 b h i j)
      = Ideal.exp (s (ix4 b h i j) - max (Ideal.ofBits .f32 0xFF800000#32) (M (ix3 b h i))) := by
  pointwise [exps]

/-- A probability. -/
theorem probs_at (e : Vec Ideal S2x8x16384x16640 .f32) (b : Fin 2) (h : Fin 8) (i : Fin 16384) (j : Fin 16640) :
    probs e (ix4 b h i j) = Ideal.div (e (ix4 b h i j)) (∑ x : Fin 16640, e (ix4 b h i x)) := by
  pointwise [probs]

/-- An entry of the result: the values of its head weighed. -/
theorem mix_at (v : Vec Ideal S2x16640x8x64 .f32) (p : Vec Ideal S2x8x16384x16640 .f32) (b : Fin 2) (i : Fin 16384)
    (o : Fin 512) : mix v p (ix3 b i o)
      = ∑ x : Fin 16640, v (ix4 b x ⟨o / 64, by omega⟩ ⟨o % 64, by omega⟩) * p (ix4 b ⟨o / 64, by omega⟩ i x) := by
  pointwise [mix]

end Cert.Proof.Attn.Ref

end
-- ==== Proof.Spec.lean ====
module

public import proofs.«01_k».proof.Proof.Host
public import proofs.«01_k».proof.Proof.RefVal

/-!
# The attention as one formula

The keys and values are numbered with the context's first. Both programs are read as `attn`: the values weighed by the
softmax of the scaled real scores. This module reads the reference so, from arrays whose queries and keys are finite.
-/

@[expose] public section

set_option maxRecDepth 16384

noncomputable section

namespace Cert.Proof.Attn

open Cert.KernelIdeal Cert.KernelIdeal.Gen
open Idealize.ShloMosaic

/-- Entry `d` of head `h` of key (or value) `k`: the context's first, then the sequence's. -/
def row64 (ac : Vec Ideal S2x256x8x64 .f32) (ax : Vec Ideal S2x16384x8x64 .f32) (b : Fin 2) (h : Fin 8) (d : Fin 64) (k : ℕ) : EReal :=
  if h1 : k < 256 then ac (ix4 b ⟨k, h1⟩ h d) else if h2 : k - 256 < 16384 then ax (ix4 b ⟨k - 256, h2⟩ h d) else 0

/-- Entry `d` of the rotary part of key `k`. -/
def row32 (ac : Vec Ideal S2x256x32 .f32) (ax : Vec Ideal S2x16384x32 .f32) (b : Fin 2) (d : Fin 32) (k : ℕ) : EReal :=
  if h1 : k < 256 then ac (ix3 b ⟨k, h1⟩ d) else if h2 : k - 256 < 16384 then ax (ix3 b ⟨k - 256, h2⟩ d) else 0

/-- An array with no infinite entry. -/
def Finite {s : Shape} (a : s.Idx → EReal) : Prop := ∀ i, a i = ((a i).toReal : EReal)

/-- The eight arguments. -/
structure Args where
  /-- The queries' own part. -/
  a0 : Vec Ideal S2x16384x8x64 .f32
  /-- The queries' rotary part. -/
  a1 : Vec Ideal S2x16384x8x32 .f32
  /-- The context keys' own part. -/
  a2 : Vec Ideal S2x256x8x64 .f32
  /-- The context keys' rotary part. -/
  a3 : Vec Ideal S2x256x32 .f32
  /-- The context's values. -/
  a4 : Vec Ideal S2x256x8x64 .f32
  /-- The sequence keys' own part. -/
  a5 : Vec Ideal S2x16384x8x64 .f32
  /-- The sequence keys' rotary part. -/
  a6 : Vec Ideal S2x16384x32 .f32
  /-- The sequence's values. -/
  a7 : Vec Ideal S2x16384x8x64 .f32

/-- The queries and the keys are finite. -/
structure Args.Ok (A : Args) : Prop where
  f0 : Finite A.a0
  f1 : Finite A.a1
  f2 : Finite A.a2
  f3 : Finite A.a3
  f5 : Finite A.a5
  f6 : Finite A.a6

/-- The product of a query with a key, as a real. -/
def Args.dot (A : Args) (b : Fin 2) (h : Fin 8) (i : Fin 16384) (k : ℕ) : ℝ :=
  (∑ d : Fin 64, (A.a0 (ix4 b i h d)).toReal * (row64 A.a2 A.a5 b h d k).toReal)
    + ∑ d : Fin 32, (row32 A.a3 A.a6 b d k).toReal * (A.a1 (ix4 b i h d)).toReal

/-- The scaled score. -/
def Args.sig (A : Args) (b : Fin 2) (h : Fin 8) (i : Fin 16384) (k : ℕ) : ℝ := A.dot b h i k * (Real.sqrt 96)⁻¹

/-- The attention of query `i` of head `h`, entry `d`. -/
def Args.attn (A : Args) (b : Fin 2) (h : Fin 8) (i : Fin 16384) (d : Fin 64) : EReal :=
  softSum (row64 A.a4 A.a7 b h d) (A.sig b h i) 16640

variable {A : Args}

/-- A finite key's entry is real. -/
theorem row64_real (hA : A.Ok) (b : Fin 2) (h : Fin 8) (d : Fin 64) (k : ℕ) :
    row64 A.a2 A.a5 b h d k = ((row64 A.a2 A.a5 b h d k).toReal : EReal) := by
  unfold row64
  split_ifs
  · exact hA.f2 _
  · exact hA.f5 _
  · simp

/-- A finite key's rotary entry is real. -/
theorem row32_real (hA : A.Ok) (b : Fin 2) (d : Fin 32) (k : ℕ) :
    row32 A.a3 A.a6 b d k = ((row32 A.a3 A.a6 b d k).toReal : EReal) := by
  unfold row32
  split_ifs
  · exact hA.f3 _
  · exact hA.f6 _
  · simp

/-- The concatenated rows are the numbered rows. -/
theorem vals_row (ac : Vec Ideal S2x256x8x64 .f32) (ax : Vec Ideal S2x16384x8x64 .f32) (b : Fin 2) (k : Fin 16640)
    (h : Fin 8) (d : Fin 64) : Ref.vals ac ax (ix4 b k h d) = row64 ac ax b h d k := by
  rw [Ref.vals_at, row64]
  have := k.isLt
  split_ifs <;> first | rfl | omega

/-- The concatenated rotary rows are the numbered rows. -/
theorem rots_row (ac : Vec Ideal S2x256x32 .f32) (ax : Vec Ideal S2x16384x32 .f32) (b : Fin 2) (k : Fin 16640)
    (d : Fin 32) : Ref.rots ac ax (ix3 b k d) = row32 ac ax b d k := by
  rw [Ref.rots_at, row32]
  have := k.isLt
  split_ifs <;> first | rfl | omega

/-- The reference's scores of the arguments. -/
def Args.rscores (A : Args) := Ref.scores A.a0 A.a1 (Ref.vals A.a2 A.a5) (Ref.rots A.a3 A.a6)

/-- The reference's scores are the scaled real scores. -/
theorem rscores_at (hA : A.Ok) (b : Fin 2) (h : Fin 8) (i : Fin 16384) (k : Fin 16640) :
    A.rscores (ix4 b h i k) = ((A.sig b h i k : ℝ) : EReal) := by
  rw [Args.rscores, Ref.scores_at, rs96, Args.sig, Args.dot, EReal.coe_mul, EReal.coe_add, ← coe_sum, ← coe_sum]
  congr 2
  · refine (Finset.sum_congr rfl fun d _ => ?_ : (_ : EReal) = _)
    rw [vals_row, row64_real hA, hA.f0, EReal.coe_mul, EReal.toReal_coe, EReal.toReal_coe]
  · refine (Finset.sum_congr rfl fun d _ => ?_ : (_ : EReal) = _)
    rw [rots_row, row32_real hA, hA.f1, EReal.coe_mul, EReal.toReal_coe, EReal.toReal_coe]

/-- The greatest of a query's scores is real. -/
theorem rtops_at (hA : A.Ok) (b : Fin 2) (h : Fin 8) (i : Fin 16384) :
    ∃ M : ℝ, Ref.tops A.rscores (ix3 b h i) = (M : EReal) := by
  have hn : 0 < 16640 := by norm_num
  have := fold_real hn (fun x : Fin 16640 => A.rscores (ix4 b h i x)) (fun x : Fin 16640 => A.sig b h i x)
    (fun x => rscores_at hA b h i x)
  rw [Ref.tops_at, wordBot]
  exact this

/-- An exponential of the reference. -/
theorem rexps_at (hA : A.Ok) (b : Fin 2) (h : Fin 8) (i : Fin 16384) (M : ℝ)
    (hM : Ref.tops A.rscores (ix3 b h i) = (M : EReal)) (k : Fin 16640) :
    Ref.exps A.rscores (Ref.tops A.rscores) (ix4 b h i k) = Ideal.exp (((A.sig b h i k : ℝ) : EReal) - (M : EReal)) := by
  rw [Ref.exps_at, hM, rscores_at hA, wordBot, bot_sup_eq]

/-- The reference's values weighed by its probabilities are the attention. -/
theorem weighed_at (hA : A.Ok) (b : Fin 2) (h : Fin 8) (i : Fin 16384) (d : Fin 64) :
    (∑ x : Fin 16640, Ref.vals A.a4 A.a7 (ix4 b x h d) * Ref.probs (Ref.exps A.rscores (Ref.tops A.rscores)) (ix4 b h i x))
      = A.attn b h i d := by
  obtain ⟨M, hM⟩ := rtops_at hA b h i
  have hn : 0 < 16640 := by norm_num
  rw [Args.attn, ← soft_shift (row64 A.a4 A.a7 b h d) (A.sig b h i) 16640 hn M]
  refine Finset.sum_congr rfl fun k _ => ?_
  have hs : (∑ x : Fin 16640, Ref.exps A.rscores (Ref.tops A.rscores) (ix4 b h i x))
      = ∑ x : Fin 16640, Ideal.exp (((A.sig b h i x : ℝ) : EReal) - (M : EReal)) :=
    Finset.sum_congr rfl fun k _ => rexps_at hA b h i M hM k
  rw [vals_row, Ref.probs_at, hs, rexps_at hA b h i M hM]

/-- The reference's result is the attention. -/
theorem reference_at (hA : A.Ok) (b : Fin 2) (i : Fin 16384) (o : Fin 512) :
    Ref.mix (Ref.vals A.a4 A.a7) (Ref.probs (Ref.exps A.rscores (Ref.tops A.rscores))) (ix3 b i o)
      = A.attn b ⟨o / 64, by omega⟩ i ⟨o % 64, by omega⟩ := by
  rw [Ref.mix_at, ← weighed_at hA]

end Cert.Proof.Attn

end
-- ==== Proof.Tiles.lean ====
module

public import proofs.«01_k».proof.Proof.Gen.KernelIdeal.Loops
public import proofs.«01_k».proof.Proof.Gen.KernelIdeal.Frame
public import Idealize.ShloMosaic.Lib.Tactic
public import Idealize.ShloMosaic.Lib.Pipeline.Kit

/-! # What one trip of each of the kernel's loops leaves in the running state

The kernel keeps, for each of its two heads, a running maximum, a running accumulator and a running
excess (by how far a tile's maximum passed the running maximum). Here one tile's update of the three is
named (`lazyStep` for the trusting update, `exactStep` for the careful one), and the loops of the body
are read as the repeated update over the tiles of keys and values.
-/

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

/-- A head's query tile: lane by query. -/
abbrev QT (F : FTy → Type) := FVec F S128x4096 .bf16
/-- A head's running maximum (or excess), one number a query. -/
abbrev MT' (F : FTy → Type) := Vec F S1x1x4096 .f32
/-- A head's running accumulator: eighty value rows (row sixty-four ones, the rest of the last sixteen zeros), one column a query. -/
abbrev AT' (F : FTy → Type) := Vec F S1x80x4096 .f32
/-- A tile of keys. -/
abbrev KT' (F : FTy → Type) := Vec F S1x512x128 .bf16
/-- A tile of values. -/
abbrev VT' (F : FTy → Type) := Vec F S1x1x1x80x512 .bf16

/-- The update of a head's maximum, accumulator and excess by one tile that exponentiates against the
OLD maximum and rescales afterwards. -/
def lazyStep (q : QT F) (kt : KT' F) (vt : VT' F) (s : MT' F × AT' F × MT' F) : MT' F × AT' F × MT' F :=
  (k0_pay7 (k0_pay5 q kt s.1), k0_pay6 q kt s.1 s.2.1 vt, k0_pay8 (k0_pay3 s.1) (k0_pay4 q kt) s.2.2)

/-- The update by one tile that takes the new maximum first. -/
def exactStep (q : QT F) (kt : KT' F) (vt : VT' F) (s : MT' F × AT' F) : MT' F × AT' F :=
  (k0_pay89 (k0_pay67 q kt s.1), k0_pay68 q kt vt s.1 s.1 s.2)

/-- The trusting update over the first `n` tiles. -/
def lazySt (q : QT F) (K : ℕ → KT' F) (V : ℕ → VT' F) (s : MT' F × AT' F × MT' F) : ℕ → MT' F × AT' F × MT' F
  | 0 => s
  | n + 1 => lazyStep q (K n) (V n) (lazySt q K V s n)

/-- The careful update over the first `n` tiles. -/
def exactSt (q : QT F) (K : ℕ → KT' F) (V : ℕ → VT' F) (s : MT' F × AT' F) : ℕ → MT' F × AT' F
  | 0 => s
  | n + 1 => exactStep q (K n) (V n) (exactSt q K V s n)

/-- A key tile of one head lies inside the key block. -/
theorem kinb (h n : ℕ) : ∀ a, (![0, 512 * (n % 32), 128 * (h % 2)] : Fin 3 → ℕ) a + S1x512x128.size a ≤ S1x16384x256.size a := by
  have h1 := Nat.mod_lt n (show 0 < 32 by decide)
  have h2 := Nat.mod_lt h (show 0 < 2 by decide)
  intro a
  fin_cases a
  · exact Nat.le_refl 1
  · show 512 * (n % 32) + 512 ≤ 16384
    omega
  · show 128 * (h % 2) + 128 ≤ 256
    omega

/-- A value tile of one head lies inside the value block. -/
theorem vinb (h n : ℕ) : ∀ a, (![0, h % 2, n % 32, 0, 0] : Fin 5 → ℕ) a + S1x1x1x80x512.size a ≤ S1x2x32x80x512.size a := by
  have h1 := Nat.mod_lt n (show 0 < 32 by decide)
  have h2 := Nat.mod_lt h (show 0 < 2 by decide)
  intro a
  fin_cases a
  · exact Nat.le_refl 1
  · show h % 2 + 1 ≤ 2
    omega
  · show n % 32 + 1 ≤ 32
    omega
  · exact Nat.le_refl 80
  · exact Nat.le_refl 512

/-- Tile `n` of head `h`'s keys in a block of keys. -/
def ktile (X : Vec F S1x16384x256 .bf16) (h n : ℕ) : KT' F := fun y =>
  X ((Rect.unit (s := S1x16384x256) ![0, 512 * (n % 32), 128 * (h % 2)] S1x512x128.size (kinb h n)).idx y)

/-- Tile `n` of head `h`'s values in a block of values. -/
def vtile (X : Vec F S1x2x32x80x512 .bf16) (h n : ℕ) : VT' F := fun y =>
  X ((Rect.unit (s := S1x2x32x80x512) ![0, h % 2, n % 32, 0, 0] S1x1x1x80x512.size (vinb h n)).idx y)

/-- A load at a tile's offsets reads the tile of keys. -/
theorem read_ktile (v : View sig .tc .vmem S1x16384x256 .bf16) (X : v.ty.Contents (Elt F)) (h n : ℕ) (hn : n < 32) (hh : h < 2)
    (off : Fin 3 → ℕ) (ho : off = ![0, 512 * n, 128 * h]) (inb) :
    View.readAt (Elt F) v (Rect.unit (s := S1x16384x256) off S1x512x128.size inb).toLoadRect X = ktile (v.read (Elt F) X) h n := by
  have e : off = ![0, 512 * (n % 32), 128 * (h % 2)] := by rw [ho, Nat.mod_eq_of_lt hn, Nat.mod_eq_of_lt hh]
  subst e
  rfl

/-- A load at a tile's offsets reads the tile of values. -/
theorem read_vtile (v : View sig .tc .vmem S1x2x32x80x512 .bf16) (X : v.ty.Contents (Elt F)) (h n : ℕ) (hn : n < 32) (hh : h < 2)
    (off : Fin 5 → ℕ) (ho : off = ![0, h, n, 0, 0]) (inb) :
    View.readAt (Elt F) v (Rect.unit (s := S1x2x32x80x512) off S1x1x1x80x512.size inb).toLoadRect X = vtile (v.read (Elt F) X) h n := by
  have e : off = ![0, h % 2, n % 32, 0, 0] := by rw [ho, Nat.mod_eq_of_lt hn, Nat.mod_eq_of_lt hh]
  subst e
  rfl

/-! ## Reading a head's row back from the pieces stored -/

section Reads
variable {n : ℕ} {S T : Shape} {e : EltTy} {sp : Space}

/-- A load of the rectangle just stored reads what was stored. -/
theorem rd_hit (v : View sig .tc sp S e) (f : v.ty.Contents (Elt F)) (r : Rect S) (w : r.shape.Idx → Elt F e)
    (L : List (View.Piece (Elt F) S e)) : v.readAt (Elt F) r.toLoadRect (v.writes (Elt F) f (⟨r, w⟩ :: L)) = w := by
  funext j
  exact View.read_writes_cons_emb v f r w L j

/-- A load of a rectangle off the one just stored reads what lay there before. -/
theorem rd_miss (v : View sig .tc sp S e) (f : v.ty.Contents (Elt F)) (p : View.Piece (Elt F) S e) (r : Rect S)
    (L : List (View.Piece (Elt F) S e)) (h : ∀ j, r.toLoadRect.idx j ∉ p.1.set) :
    v.readAt (Elt F) r.toLoadRect (v.writes (Elt F) f (p :: L)) = v.readAt (Elt F) r.toLoadRect (v.writes (Elt F) f L) := by
  funext j
  exact View.read_writes_cons_miss v f p L _ (h j)

end Reads

/-- The row of a head in a two-row buffer of maxima. -/
abbrev mrow0 : Rect S2x1x4096 := Rect.unit (s := S2x1x4096) ![0, 0, 0] S1x1x4096.size inb_S2x1x4096_S1x1x4096_0_0_0
/-- The second head's row of running bounds. -/
abbrev mrow1 : Rect S2x1x4096 := Rect.unit (s := S2x1x4096) ![1, 0, 0] S1x1x4096.size inb_S2x1x4096_S1x1x4096_1_0_0
/-- The row of a head in the two-row buffer of accumulators. -/
abbrev arow0 : Rect S2x80x4096 := Rect.unit (s := S2x80x4096) ![0, 0, 0] S1x80x4096.size inb_S2x80x4096_S1x80x4096_0_0_0
/-- The second head's block of accumulators. -/
abbrev arow1 : Rect S2x80x4096 := Rect.unit (s := S2x80x4096) ![1, 0, 0] S1x80x4096.size inb_S2x80x4096_S1x80x4096_1_0_0

section Miss
variable {sp : Space}

/-- Writing the second head's bound leaves the first's. -/
theorem mmiss01 (v : View sig .tc sp S2x1x4096 .f32) (f : v.ty.Contents (Elt F)) (w : Vec F S1x1x4096 .f32)
    (L : List (View.Piece (Elt F) S2x1x4096 .f32)) :
    v.readAt (Elt F) mrow0.toLoadRect (v.writes (Elt F) f (⟨mrow1, w⟩ :: L)) = v.readAt (Elt F) mrow0.toLoadRect (v.writes (Elt F) f L) := by
  refine rd_miss v f _ mrow0 L fun j => mrow1.not_mem_set_of_axis _ (0 : Fin 3) 1 1 rfl rfl rfl (.inl ?_)
  have hlt : ((j (0 : Fin 3)) : ℕ) < 1 := (j (0 : Fin 3)).isLt
  show 0 + 1 * ((j (0 : Fin 3)) : ℕ) < 1
  omega

/-- Writing the first head's bound leaves the second's. -/
theorem mmiss10 (v : View sig .tc sp S2x1x4096 .f32) (f : v.ty.Contents (Elt F)) (w : Vec F S1x1x4096 .f32)
    (L : List (View.Piece (Elt F) S2x1x4096 .f32)) :
    v.readAt (Elt F) mrow1.toLoadRect (v.writes (Elt F) f (⟨mrow0, w⟩ :: L)) = v.readAt (Elt F) mrow1.toLoadRect (v.writes (Elt F) f L) := by
  refine rd_miss v f _ mrow1 L fun j => mrow0.not_mem_set_of_axis _ (0 : Fin 3) 0 1 rfl rfl rfl (.inr ?_)
  show 0 + 1 ≤ 1 + 1 * ((j (0 : Fin 3)) : ℕ)
  omega

/-- Writing the second head's accumulator leaves the first's. -/
theorem amiss01 (v : View sig .tc sp S2x80x4096 .f32) (f : v.ty.Contents (Elt F)) (w : Vec F S1x80x4096 .f32)
    (L : List (View.Piece (Elt F) S2x80x4096 .f32)) :
    v.readAt (Elt F) arow0.toLoadRect (v.writes (Elt F) f (⟨arow1, w⟩ :: L)) = v.readAt (Elt F) arow0.toLoadRect (v.writes (Elt F) f L) := by
  refine rd_miss v f _ arow0 L fun j => arow1.not_mem_set_of_axis _ (0 : Fin 3) 1 1 rfl rfl rfl (.inl ?_)
  have hlt : ((j (0 : Fin 3)) : ℕ) < 1 := (j (0 : Fin 3)).isLt
  show 0 + 1 * ((j (0 : Fin 3)) : ℕ) < 1
  omega

/-- Writing the first head's accumulator leaves the second's. -/
theorem amiss10 (v : View sig .tc sp S2x80x4096 .f32) (f : v.ty.Contents (Elt F)) (w : Vec F S1x80x4096 .f32)
    (L : List (View.Piece (Elt F) S2x80x4096 .f32)) :
    v.readAt (Elt F) arow1.toLoadRect (v.writes (Elt F) f (⟨arow0, w⟩ :: L)) = v.readAt (Elt F) arow1.toLoadRect (v.writes (Elt F) f L) := by
  refine rd_miss v f _ arow1 L fun j => arow0.not_mem_set_of_axis _ (0 : Fin 3) 0 1 rfl rfl rfl (.inr ?_)
  show 0 + 1 ≤ 1 + 1 * ((j (0 : Fin 3)) : ℕ)
  omega

/-- The first head's bound is read back as it was written. -/
theorem mhit0 (v : View sig .tc sp S2x1x4096 .f32) (f : v.ty.Contents (Elt F)) (w : Vec F S1x1x4096 .f32)
    (L : List (View.Piece (Elt F) S2x1x4096 .f32)) :
    v.readAt (Elt F) mrow0.toLoadRect (v.writes (Elt F) f (⟨mrow0, w⟩ :: L)) = w := rd_hit v f mrow0 w L
/-- The second head's bound is read back as it was written. -/
theorem mhit1 (v : View sig .tc sp S2x1x4096 .f32) (f : v.ty.Contents (Elt F)) (w : Vec F S1x1x4096 .f32)
    (L : List (View.Piece (Elt F) S2x1x4096 .f32)) :
    v.readAt (Elt F) mrow1.toLoadRect (v.writes (Elt F) f (⟨mrow1, w⟩ :: L)) = w := rd_hit v f mrow1 w L
/-- The first head's accumulator is read back as it was written. -/
theorem ahit0 (v : View sig .tc sp S2x80x4096 .f32) (f : v.ty.Contents (Elt F)) (w : Vec F S1x80x4096 .f32)
    (L : List (View.Piece (Elt F) S2x80x4096 .f32)) :
    v.readAt (Elt F) arow0.toLoadRect (v.writes (Elt F) f (⟨arow0, w⟩ :: L)) = w := rd_hit v f arow0 w L
/-- The second head's accumulator is read back as it was written. -/
theorem ahit1 (v : View sig .tc sp S2x80x4096 .f32) (f : v.ty.Contents (Elt F)) (w : Vec F S1x80x4096 .f32)
    (L : List (View.Piece (Elt F) S2x80x4096 .f32)) :
    v.readAt (Elt F) arow1.toLoadRect (v.writes (Elt F) f (⟨arow1, w⟩ :: L)) = w := rd_hit v f arow1 w L

end Miss

/-! ## Every copy of the tile's arithmetic is the same arithmetic -/

section Pays
variable (q : QT F) (kt : KT' F) (vt : VT' F) (m ex : MT' F) (a : AT' F)

/-- First tile of a pass, second head: the accumulator follows the common update. -/
theorem a01 : k0_pay15 (k0_pay10 m) (k0_pay11 q kt m) (k0_pay13 q kt m) (k0_pay14 a) vt = k0_pay6 q kt m a vt := rfl
/-- First tile of a pass, second head: the running bound follows the common update. -/
theorem m01 : k0_pay16 (k0_pay13 q kt m) = k0_pay7 (k0_pay5 q kt m) := rfl
/-- First tile of a pass, second head: the excess follows the common update. -/
theorem e01 : k0_pay17 (k0_pay10 m) (k0_pay12 q kt) ex = k0_pay8 (k0_pay3 m) (k0_pay4 q kt) ex := rfl
/-- Second tile of a pass, first head: the accumulator follows the common update. -/
theorem a10 : k0_pay24 (k0_pay19 m) (k0_pay20 q kt m) (k0_pay21 q kt) a vt = k0_pay6 q kt m a vt := rfl
/-- Second tile of a pass, first head: the running bound follows the common update. -/
theorem m10 : k0_pay25 (k0_pay19 m) (k0_pay21 q kt) = k0_pay7 (k0_pay5 q kt m) := rfl
/-- Second tile of a pass, first head: the excess follows the common update. -/
theorem e10 : k0_pay26 (k0_pay19 m) (k0_pay21 q kt) ex = k0_pay8 (k0_pay3 m) (k0_pay4 q kt) ex := rfl
/-- Second tile of a pass, second head: the accumulator follows the common update. -/
theorem a11 : k0_pay31 q kt m a vt = k0_pay6 q kt m a vt := rfl
/-- Second tile of a pass, second head: the running bound follows the common update. -/
theorem m11 : k0_pay32 q kt m = k0_pay7 (k0_pay5 q kt m) := rfl
/-- Second tile of a pass, second head: the excess follows the common update. -/
theorem e11 : k0_pay34 (k0_pay28 m) (k0_pay29 q kt) (k0_pay33 ex) = k0_pay8 (k0_pay3 m) (k0_pay4 q kt) ex := rfl
/-- Third tile of a pass, first head: the accumulator follows the common update. -/
theorem a20 : k0_pay40 (k0_pay39 q kt m a vt) = k0_pay6 q kt m a vt := rfl
/-- Third tile of a pass, first head: the running bound follows the common update. -/
theorem m20 : k0_pay41 (k0_pay38 q kt m) = k0_pay7 (k0_pay5 q kt m) := rfl
/-- Third tile of a pass, first head: the excess follows the common update. -/
theorem e20 : k0_pay42 (k0_pay36 m) (k0_pay37 q kt) ex = k0_pay8 (k0_pay3 m) (k0_pay4 q kt) ex := rfl
/-- Third tile of a pass, second head: the accumulator follows the common update. -/
theorem a21 : k0_pay49 (k0_pay44 m) (k0_pay45 q kt m) (k0_pay47 q kt m) (k0_pay48 a) vt = k0_pay6 q kt m a vt := rfl
/-- Third tile of a pass, second head: the running bound follows the common update. -/
theorem m21 : k0_pay50 (k0_pay47 q kt m) = k0_pay7 (k0_pay5 q kt m) := rfl
/-- Third tile of a pass, second head: the excess follows the common update. -/
theorem e21 : k0_pay51 (k0_pay44 m) (k0_pay46 q kt) ex = k0_pay8 (k0_pay3 m) (k0_pay4 q kt) ex := rfl
/-- Fourth tile of a pass, first head: the accumulator follows the common update. -/
theorem a30 : k0_pay57 (k0_pay52 q kt) (k0_pay53 m) (k0_pay54 q kt m) a vt = k0_pay6 q kt m a vt := rfl
/-- Fourth tile of a pass, first head: the running bound follows the common update. -/
theorem m30 : k0_pay58 (k0_pay52 q kt) (k0_pay53 m) = k0_pay7 (k0_pay5 q kt m) := rfl
/-- Fourth tile of a pass, first head: the excess follows the common update. -/
theorem e30 : k0_pay59 (k0_pay52 q kt) (k0_pay53 m) ex = k0_pay8 (k0_pay3 m) (k0_pay4 q kt) ex := rfl
/-- Fourth tile of a pass, second head: the accumulator follows the common update. -/
theorem a31 : k0_pay64 q kt m a vt = k0_pay6 q kt m a vt := rfl
/-- Fourth tile of a pass, second head: the running bound follows the common update. -/
theorem m31 : k0_pay65 q kt m = k0_pay7 (k0_pay5 q kt m) := rfl
/-- Fourth tile of a pass, second head: the excess follows the common update. -/
theorem e31 : k0_pay83 (k0_pay61 m) (k0_pay62 q kt) ex = k0_pay8 (k0_pay3 m) (k0_pay4 q kt) ex := rfl
/-- The second head's exact tile updates the accumulator as the first's does. -/
theorem x1a : k0_pay71 q kt vt m m a = k0_pay68 q kt vt m m a := rfl
/-- The second head's exact tile updates the bound as the first's does. -/
theorem x1m : k0_pay95 (k0_pay70 q kt m) = k0_pay89 (k0_pay67 q kt m) := rfl

end Pays
end Cert.Proof.Attn
end
-- ==== Proof.Trips.lean ====
module

public import proofs.«01_k».proof.Proof.Tiles

/-! # The loops of the body, read row by row -/

@[expose] public section

set_option maxRecDepth 16384

noncomputable section

namespace Cert.Proof.Attn

open Cert.KernelIdeal Cert.KernelIdeal.Gen
open Idealize.ShloMosaic Idealize.ShloMosaic.TcCoe

variable {F : FTy → Type} [FloatOps F]

/-- What head 0's rows of the three running buffers hold. -/
abbrev rows0 (v9 : View sig .tc .vmem S2x1x4096 .f32) (v10 : View sig .tc .vmem S2x80x4096 .f32) (v12 : View sig .tc .vmem S2x1x4096 .f32)
    (f9 : v9.ty.Contents (Elt F)) (f10 : v10.ty.Contents (Elt F)) (f12 : v12.ty.Contents (Elt F)) : MT' F × AT' F × MT' F :=
  (v9.readAt (Elt F) mrow0.toLoadRect f9, v10.readAt (Elt F) arow0.toLoadRect f10, v12.readAt (Elt F) mrow0.toLoadRect f12)

/-- What head 1's rows of the three running buffers hold. -/
abbrev rows1 (v9 : View sig .tc .vmem S2x1x4096 .f32) (v10 : View sig .tc .vmem S2x80x4096 .f32) (v12 : View sig .tc .vmem S2x1x4096 .f32)
    (f9 : v9.ty.Contents (Elt F)) (f10 : v10.ty.Contents (Elt F)) (f12 : v12.ty.Contents (Elt F)) : MT' F × AT' F × MT' F :=
  (v9.readAt (Elt F) mrow1.toLoadRect f9, v10.readAt (Elt F) arow1.toLoadRect f10, v12.readAt (Elt F) mrow1.toLoadRect f12)

section Loop1
variable (𝒱 : Variants) (c : Dev nD) (bd : Option 𝒱.V) (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x2x1x80x256 .bf16) (harg5 : arg5.IsWhole) (arg6 : Memref sig .tc .vmem S1x16384x256 .bf16) (harg6 : arg6.IsWhole) (arg7 : Memref sig .tc .vmem S1x2x32x80x512 .bf16) (harg7 : arg7.IsWhole) (arg8 : Memref sig .tc .vmem S1x4096x128 .bf16) (harg8 : arg8.IsWhole) (arg9 : Memref sig .tc .vmem S2x1x4096 .f32) (harg9 : arg9.IsWhole) (arg10 : Memref sig .tc .vmem S2x80x4096 .f32) (harg10 : arg10.IsWhole) (arg11 : Memref sig .tc .vmem S128x4096 .f32) (harg11 : arg11.IsWhole) (arg12 : Memref sig .tc .vmem S2x1x4096 .f32) (harg12 : arg12.IsWhole)
  (q0 q1 : QT F) (kc : Vec F S1x256x128 .bf16) (X6 : arg6.view.ty.Contents (Elt F)) (X7 : arg7.view.ty.Contents (Elt F))

/-- The lazy loop makes eight passes. -/
theorem lt_trips1 (k : Fin k0_t1_loop.trips) : k.val < 8 := Nat.lt_of_lt_of_le k.isLt k0_t1_abs.2.1

set_option maxHeartbeats 4000000 in
/-- One trip of the trusting loop takes head 0's rows through four tiles. -/
theorem trip1_rows0 (k : Fin k0_t1_loop.trips) (f9 : arg9.view.ty.Contents (Elt F)) (f10 : arg10.view.ty.Contents (Elt F)) (f12 : arg12.view.ty.Contents (Elt F)) :
    rows0 arg9.view arg10.view arg12.view
        (arg9.view.writes (Elt F) f9 (tripL_k0_t1 𝒱 c bd i arg3 harg3 arg4 harg4 arg5 harg5 arg6 harg6 arg7 harg7 arg8 harg8 arg9 harg9 arg10 harg10 arg11 harg11 arg12 harg12 q0 q1 kc X6 X7 k f9 f10 f12).1)
        (arg10.view.writes (Elt F) f10 (tripL_k0_t1 𝒱 c bd i arg3 harg3 arg4 harg4 arg5 harg5 arg6 harg6 arg7 harg7 arg8 harg8 arg9 harg9 arg10 harg10 arg11 harg11 arg12 harg12 q0 q1 kc X6 X7 k f9 f10 f12).2.1)
        (arg12.view.writes (Elt F) f12 (tripL_k0_t1 𝒱 c bd i arg3 harg3 arg4 harg4 arg5 harg5 arg6 harg6 arg7 harg7 arg8 harg8 arg9 harg9 arg10 harg10 arg11 harg11 arg12 harg12 q0 q1 kc X6 X7 k f9 f10 f12).2.2)
      = lazySt q0 (fun j => ktile (arg6.view.read (Elt F) X6) 0 (4 * k.val + j)) (fun j => vtile (arg7.view.read (Elt F) X7) 0 (4 * k.val + j))
          (rows0 arg9.view arg10.view arg12.view f9 f10 f12) 4 := by
  have hk := lt_trips1 k
  have K0 := read_ktile arg6.view X6 0 (4 * k.val + 0) (by omega) (by decide) (k0_off1 k 0#32) ((k0_off1_eq k 0).trans (by rw [show 512 * (4 * k.val + 0) = 2048 * k.val + 512 * 0 by omega]; rfl)) (k0_off1_inb k 0)
  have V0 := read_vtile arg7.view X7 0 (4 * k.val + 0) (by omega) (by decide) (k0_off2 k 0#32) ((k0_off2_eq k 0).trans rfl) (k0_off2_inb k 0)
  have K1 := read_ktile arg6.view X6 0 (4 * k.val + 1) (by omega) (by decide) (k0_off1 k 1#32) ((k0_off1_eq k 1).trans (by rw [show 512 * (4 * k.val + 1) = 2048 * k.val + 512 * 1 by omega]; rfl)) (k0_off1_inb k 1)
  have V1 := read_vtile arg7.view X7 0 (4 * k.val + 1) (by omega) (by decide) (k0_off2 k 1#32) ((k0_off2_eq k 1).trans rfl) (k0_off2_inb k 1)
  have K2 := read_ktile arg6.view X6 0 (4 * k.val + 2) (by omega) (by decide) (k0_off1 k 2#32) ((k0_off1_eq k 2).trans (by rw [show 512 * (4 * k.val + 2) = 2048 * k.val + 512 * 2 by omega]; rfl)) (k0_off1_inb k 2)
  have V2 := read_vtile arg7.view X7 0 (4 * k.val + 2) (by omega) (by decide) (k0_off2 k 2#32) ((k0_off2_eq k 2).trans rfl) (k0_off2_inb k 2)
  have K3 := read_ktile arg6.view X6 0 (4 * k.val + 3) (by omega) (by decide) (k0_off1 k 3#32) ((k0_off1_eq k 3).trans (by rw [show 512 * (4 * k.val + 3) = 2048 * k.val + 512 * 3 by omega]; rfl)) (k0_off1_inb k 3)
  have V3 := read_vtile arg7.view X7 0 (4 * k.val + 3) (by omega) (by decide) (k0_off2 k 3#32) ((k0_off2_eq k 3).trans rfl) (k0_off2_inb k 3)
  unfold tripL_k0_t1 trip_k0_t1
  simp only [lazySt, lazyStep, rows0]
  simp (config := { proj := false }) only [trip_k0_t1.sl.HW_arg9_2, trip_k0_t1.sl.HW_arg9_3, trip_k0_t1.sl.HW_arg9_4, trip_k0_t1.sl.HW_arg9_5, trip_k0_t1.sl.HW_arg9_6, trip_k0_t1.sl.HW_arg9_7, trip_k0_t1.sl.HW_arg10_2, trip_k0_t1.sl.HW_arg10_3, trip_k0_t1.sl.HW_arg10_4, trip_k0_t1.sl.HW_arg10_5, trip_k0_t1.sl.HW_arg10_6, trip_k0_t1.sl.HW_arg10_7, trip_k0_t1.sl.HW_arg12_2, trip_k0_t1.sl.HW_arg12_3, trip_k0_t1.sl.HW_arg12_4, trip_k0_t1.sl.HW_arg12_5, trip_k0_t1.sl.HW_arg12_6, trip_k0_t1.sl.HW_arg12_7, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.v144, trip_k0_t1.sl.v153, trip_k0_t1.sl.v172, trip_k0_t1.sl.v186, trip_k0_t1.sl.v195, trip_k0_t1.sl.v214, trip_k0_t1.sl.v228, trip_k0_t1.sl.v237, trip_k0_t1.sl.v256, trip_k0_t1.sl.v270, trip_k0_t1.sl.v279, trip_k0_t1.sl.v298, trip_k0_t1.sl.v312, trip_k0_t1.sl.v321, trip_k0_t1.sl.v340, trip_k0_t1.sl.v354, trip_k0_t1.sl.v363, trip_k0_t1.sl.v382, trip_k0_t1.sl.v396, trip_k0_t1.sl.v405, trip_k0_t1.sl.v424]
  simp (config := { proj := false }) only [View.readCov, mhit0, mhit1, ahit0, ahit1, mmiss01, mmiss10, amiss01, amiss10, K0, K1, K2, K3, V0, V1, V2, V3, a01, m01, e01, a10, m10, e10, a11, m11, e11, a20, m20, e20, a21, m21, e21, a30, m30, e30, a31, m31, e31]
  refine Prod.ext ?_ (Prod.ext ?_ ?_)
  · exact (mmiss01 arg9.view f9 _ _).trans (mhit0 arg9.view f9 _ _)
  · exact (amiss01 arg10.view f10 _ _).trans (ahit0 arg10.view f10 _ _)
  · exact (mmiss01 arg12.view f12 _ _).trans (mhit0 arg12.view f12 _ _)

set_option maxHeartbeats 4000000 in
/-- One trip of the trusting loop takes head 1's rows through four tiles. -/
theorem trip1_rows1 (k : Fin k0_t1_loop.trips) (f9 : arg9.view.ty.Contents (Elt F)) (f10 : arg10.view.ty.Contents (Elt F)) (f12 : arg12.view.ty.Contents (Elt F)) :
    rows1 arg9.view arg10.view arg12.view
        (arg9.view.writes (Elt F) f9 (tripL_k0_t1 𝒱 c bd i arg3 harg3 arg4 harg4 arg5 harg5 arg6 harg6 arg7 harg7 arg8 harg8 arg9 harg9 arg10 harg10 arg11 harg11 arg12 harg12 q0 q1 kc X6 X7 k f9 f10 f12).1)
        (arg10.view.writes (Elt F) f10 (tripL_k0_t1 𝒱 c bd i arg3 harg3 arg4 harg4 arg5 harg5 arg6 harg6 arg7 harg7 arg8 harg8 arg9 harg9 arg10 harg10 arg11 harg11 arg12 harg12 q0 q1 kc X6 X7 k f9 f10 f12).2.1)
        (arg12.view.writes (Elt F) f12 (tripL_k0_t1 𝒱 c bd i arg3 harg3 arg4 harg4 arg5 harg5 arg6 harg6 arg7 harg7 arg8 harg8 arg9 harg9 arg10 harg10 arg11 harg11 arg12 harg12 q0 q1 kc X6 X7 k f9 f10 f12).2.2)
      = lazySt q1 (fun j => ktile (arg6.view.read (Elt F) X6) 1 (4 * k.val + j)) (fun j => vtile (arg7.view.read (Elt F) X7) 1 (4 * k.val + j))
          (rows1 arg9.view arg10.view arg12.view f9 f10 f12) 4 := by
  have hk := lt_trips1 k
  have K0 := read_ktile arg6.view X6 1 (4 * k.val + 0) (by omega) (by decide) (k0_off3 k 0#32) ((k0_off3_eq k 0).trans (by rw [show 512 * (4 * k.val + 0) = 2048 * k.val + 512 * 0 by omega]; rfl)) (k0_off3_inb k 0)
  have V0 := read_vtile arg7.view X7 1 (4 * k.val + 0) (by omega) (by decide) (k0_off4 k 0#32) ((k0_off4_eq k 0).trans rfl) (k0_off4_inb k 0)
  have K1 := read_ktile arg6.view X6 1 (4 * k.val + 1) (by omega) (by decide) (k0_off3 k 1#32) ((k0_off3_eq k 1).trans (by rw [show 512 * (4 * k.val + 1) = 2048 * k.val + 512 * 1 by omega]; rfl)) (k0_off3_inb k 1)
  have V1 := read_vtile arg7.view X7 1 (4 * k.val + 1) (by omega) (by decide) (k0_off4 k 1#32) ((k0_off4_eq k 1).trans rfl) (k0_off4_inb k 1)
  have K2 := read_ktile arg6.view X6 1 (4 * k.val + 2) (by omega) (by decide) (k0_off3 k 2#32) ((k0_off3_eq k 2).trans (by rw [show 512 * (4 * k.val + 2) = 2048 * k.val + 512 * 2 by omega]; rfl)) (k0_off3_inb k 2)
  have V2 := read_vtile arg7.view X7 1 (4 * k.val + 2) (by omega) (by decide) (k0_off4 k 2#32) ((k0_off4_eq k 2).trans rfl) (k0_off4_inb k 2)
  have K3 := read_ktile arg6.view X6 1 (4 * k.val + 3) (by omega) (by decide) (k0_off3 k 3#32) ((k0_off3_eq k 3).trans (by rw [show 512 * (4 * k.val + 3) = 2048 * k.val + 512 * 3 by omega]; rfl)) (k0_off3_inb k 3)
  have V3 := read_vtile arg7.view X7 1 (4 * k.val + 3) (by omega) (by decide) (k0_off4 k 3#32) ((k0_off4_eq k 3).trans rfl) (k0_off4_inb k 3)
  unfold tripL_k0_t1 trip_k0_t1
  simp only [lazySt, lazyStep, rows1]
  simp (config := { proj := false }) only [trip_k0_t1.sl.HW_arg9_2, trip_k0_t1.sl.HW_arg9_3, trip_k0_t1.sl.HW_arg9_4, trip_k0_t1.sl.HW_arg9_5, trip_k0_t1.sl.HW_arg9_6, trip_k0_t1.sl.HW_arg9_7, trip_k0_t1.sl.HW_arg10_2, trip_k0_t1.sl.HW_arg10_3, trip_k0_t1.sl.HW_arg10_4, trip_k0_t1.sl.HW_arg10_5, trip_k0_t1.sl.HW_arg10_6, trip_k0_t1.sl.HW_arg10_7, trip_k0_t1.sl.HW_arg12_2, trip_k0_t1.sl.HW_arg12_3, trip_k0_t1.sl.HW_arg12_4, trip_k0_t1.sl.HW_arg12_5, trip_k0_t1.sl.HW_arg12_6, trip_k0_t1.sl.HW_arg12_7, trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.v144, trip_k0_t1.sl.v153, trip_k0_t1.sl.v172, trip_k0_t1.sl.v186, trip_k0_t1.sl.v195, trip_k0_t1.sl.v214, trip_k0_t1.sl.v228, trip_k0_t1.sl.v237, trip_k0_t1.sl.v256, trip_k0_t1.sl.v270, trip_k0_t1.sl.v279, trip_k0_t1.sl.v298, trip_k0_t1.sl.v312, trip_k0_t1.sl.v321, trip_k0_t1.sl.v340, trip_k0_t1.sl.v354, trip_k0_t1.sl.v363, trip_k0_t1.sl.v382, trip_k0_t1.sl.v396, trip_k0_t1.sl.v405, trip_k0_t1.sl.v424]
  simp (config := { proj := false }) only [View.readCov, mhit0, mhit1, ahit0, ahit1, mmiss01, mmiss10, amiss01, amiss10, K0, K1, K2, K3, V0, V1, V2, V3, a01, m01, e01, a10, m10, e10, a11, m11, e11, a20, m20, e20, a21, m21, e21, a30, m30, e30, a31, m31, e31]
  refine Prod.ext ?_ (Prod.ext ?_ ?_)
  · exact mhit1 arg9.view f9 _ _
  · exact ahit1 arg10.view f10 _ _
  · exact mhit1 arg12.view f12 _ _

/-- Tiles taken in two stretches are the tiles taken in one. -/
theorem lazySt_add (q : QT F) (K : ℕ → KT' F) (V : ℕ → VT' F) (s : MT' F × AT' F × MT' F) (n : ℕ) :
    ∀ m, lazySt q (fun j => K (n + j)) (fun j => V (n + j)) (lazySt q K V s n) m = lazySt q K V s (n + m)
  | 0 => rfl
  | m + 1 => by
    show lazyStep q (K (n + m)) (V (n + m)) _ = lazyStep q (K (n + m)) (V (n + m)) _
    rw [lazySt_add q K V s n m]
    rfl

/-- Before trip `n` of the trusting loop, head 0's rows have been through `4 n` tiles. -/
theorem loop1_rows0 (G9 : arg9.view.ty.Contents (Elt F)) (G10 : arg10.view.ty.Contents (Elt F)) (G12 : arg12.view.ty.Contents (Elt F)) :
    ∀ n, n ≤ k0_t1_loop.trips → rows0 arg9.view arg10.view arg12.view
        (arg9.view.writes (Elt F) G9 (pb_k0_t1 𝒱 c bd i arg3 harg3 arg4 harg4 arg5 harg5 arg6 harg6 arg7 harg7 arg8 harg8 arg9 harg9 arg10 harg10 arg11 harg11 arg12 harg12 q0 q1 kc X6 X7 G9 G10 G12 n).1)
        (arg10.view.writes (Elt F) G10 (pb_k0_t1 𝒱 c bd i arg3 harg3 arg4 harg4 arg5 harg5 arg6 harg6 arg7 harg7 arg8 harg8 arg9 harg9 arg10 harg10 arg11 harg11 arg12 harg12 q0 q1 kc X6 X7 G9 G10 G12 n).2.1)
        (arg12.view.writes (Elt F) G12 (pb_k0_t1 𝒱 c bd i arg3 harg3 arg4 harg4 arg5 harg5 arg6 harg6 arg7 harg7 arg8 harg8 arg9 harg9 arg10 harg10 arg11 harg11 arg12 harg12 q0 q1 kc X6 X7 G9 G10 G12 n).2.2)
      = lazySt q0 (ktile (arg6.view.read (Elt F) X6) 0) (vtile (arg7.view.read (Elt F) X7) 0)
          (rows0 arg9.view arg10.view arg12.view G9 G10 G12) (4 * n) := by
  intro n
  induction n with
  | zero => intro _; rfl
  | succ n ih =>
    intro hn
    have e := pb_k0_t1_succ 𝒱 c bd i arg3 harg3 arg4 harg4 arg5 harg5 arg6 harg6 arg7 harg7 arg8 harg8 arg9 harg9 arg10 harg10 arg11 harg11 arg12 harg12 q0 q1 kc X6 X7 G9 G10 G12 ⟨n, hn⟩
    dsimp only at e
    rw [e]
    dsimp only
    rw [View.writes_append, View.writes_append, View.writes_append]
    refine (trip1_rows0 𝒱 c bd i arg3 harg3 arg4 harg4 arg5 harg5 arg6 harg6 arg7 harg7 arg8 harg8 arg9 harg9 arg10 harg10 arg11 harg11 arg12 harg12 q0 q1 kc X6 X7 ⟨n, hn⟩ _ _ _).trans ?_
    rw [ih (Nat.le_of_succ_le hn)]
    exact lazySt_add q0 _ _ _ (4 * n) 4

/-- Before trip `n` of the trusting loop, head 1's rows have been through `4 n` tiles. -/
theorem loop1_rows1 (G9 : arg9.view.ty.Contents (Elt F)) (G10 : arg10.view.ty.Contents (Elt F)) (G12 : arg12.view.ty.Contents (Elt F)) :
    ∀ n, n ≤ k0_t1_loop.trips → rows1 arg9.view arg10.view arg12.view
        (arg9.view.writes (Elt F) G9 (pb_k0_t1 𝒱 c bd i arg3 harg3 arg4 harg4 arg5 harg5 arg6 harg6 arg7 harg7 arg8 harg8 arg9 harg9 arg10 harg10 arg11 harg11 arg12 harg12 q0 q1 kc X6 X7 G9 G10 G12 n).1)
        (arg10.view.writes (Elt F) G10 (pb_k0_t1 𝒱 c bd i arg3 harg3 arg4 harg4 arg5 harg5 arg6 harg6 arg7 harg7 arg8 harg8 arg9 harg9 arg10 harg10 arg11 harg11 arg12 harg12 q0 q1 kc X6 X7 G9 G10 G12 n).2.1)
        (arg12.view.writes (Elt F) G12 (pb_k0_t1 𝒱 c bd i arg3 harg3 arg4 harg4 arg5 harg5 arg6 harg6 arg7 harg7 arg8 harg8 arg9 harg9 arg10 harg10 arg11 harg11 arg12 harg12 q0 q1 kc X6 X7 G9 G10 G12 n).2.2)
      = lazySt q1 (ktile (arg6.view.read (Elt F) X6) 1) (vtile (arg7.view.read (Elt F) X7) 1)
          (rows1 arg9.view arg10.view arg12.view G9 G10 G12) (4 * n) := by
  intro n
  induction n with
  | zero => intro _; rfl
  | succ n ih =>
    intro hn
    have e := pb_k0_t1_succ 𝒱 c bd i arg3 harg3 arg4 harg4 arg5 harg5 arg6 harg6 arg7 harg7 arg8 harg8 arg9 harg9 arg10 harg10 arg11 harg11 arg12 harg12 q0 q1 kc X6 X7 G9 G10 G12 ⟨n, hn⟩
    dsimp only at e
    rw [e]
    dsimp only
    rw [View.writes_append, View.writes_append, View.writes_append]
    refine (trip1_rows1 𝒱 c bd i arg3 harg3 arg4 harg4 arg5 harg5 arg6 harg6 arg7 harg7 arg8 harg8 arg9 harg9 arg10 harg10 arg11 harg11 arg12 harg12 q0 q1 kc X6 X7 ⟨n, hn⟩ _ _ _).trans ?_
    rw [ih (Nat.le_of_succ_le hn)]
    exact lazySt_add q1 _ _ _ (4 * n) 4
end Loop1

section Loop2
variable (𝒱 : Variants) (c : Dev nD) (bd : Option 𝒱.V) (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x2x1x80x256 .bf16) (harg5 : arg5.IsWhole) (arg6 : Memref sig .tc .vmem S1x16384x256 .bf16) (harg6 : arg6.IsWhole) (arg7 : Memref sig .tc .vmem S1x2x32x80x512 .bf16) (harg7 : arg7.IsWhole) (arg8 : Memref sig .tc .vmem S1x4096x128 .bf16) (harg8 : arg8.IsWhole) (arg9 : Memref sig .tc .vmem S2x1x4096 .f32) (harg9 : arg9.IsWhole) (arg10 : Memref sig .tc .vmem S2x80x4096 .f32) (harg10 : arg10.IsWhole) (arg11 : Memref sig .tc .vmem S128x4096 .f32) (harg11 : arg11.IsWhole) (arg12 : Memref sig .tc .vmem S2x1x4096 .f32) (harg12 : arg12.IsWhole)
  (q0 q1 : QT F) (w : BitVec 1) (X6 : arg6.view.ty.Contents (Elt F)) (X7 : arg7.view.ty.Contents (Elt F))

/-- The first exact loop makes thirty-two. -/
theorem lt_trips2 (k : Fin k0_t2_loop.trips) : k.val < 32 := Nat.lt_of_lt_of_le k.isLt k0_t2_abs.2.1

/-- One trip of head 0's careful loop takes its rows through one tile. -/
theorem trip2_rows (k : Fin k0_t2_loop.trips) (f9 : arg9.view.ty.Contents (Elt F)) (f10 : arg10.view.ty.Contents (Elt F)) :
    (arg9.view.readAt (Elt F) mrow0.toLoadRect (arg9.view.writes (Elt F) f9 (tripL_k0_t2 𝒱 c bd i arg3 harg3 arg4 harg4 arg5 harg5 arg6 harg6 arg7 harg7 arg8 harg8 arg9 harg9 arg10 harg10 arg11 harg11 arg12 harg12 q0 q1 w X6 X7 k f9 f10).1),
      arg10.view.readAt (Elt F) arow0.toLoadRect (arg10.view.writes (Elt F) f10 (tripL_k0_t2 𝒱 c bd i arg3 harg3 arg4 harg4 arg5 harg5 arg6 harg6 arg7 harg7 arg8 harg8 arg9 harg9 arg10 harg10 arg11 harg11 arg12 harg12 q0 q1 w X6 X7 k f9 f10).2))
    = exactStep q0 (ktile (arg6.view.read (Elt F) X6) 0 k.val) (vtile (arg7.view.read (Elt F) X7) 0 k.val)
        (arg9.view.readAt (Elt F) mrow0.toLoadRect f9, arg10.view.readAt (Elt F) arow0.toLoadRect f10) := by
  have hk := lt_trips2 k
  have K0 := read_ktile arg6.view X6 0 k.val (by omega) (by decide) (k0_off5 k) ((k0_off5_eq k).trans rfl) (k0_off5_inb k)
  have V0 := read_vtile arg7.view X7 0 k.val (by omega) (by decide) (k0_off6 k) ((k0_off6_eq k).trans rfl) (k0_off6_inb k)
  unfold tripL_k0_t2 trip_k0_t2
  refine Prod.ext ((mhit0 arg9.view f9 _ _).trans ?_) ((ahit0 arg10.view f10 _ _).trans ?_)
  · unfold exactStep
    rw [← K0]
    rfl
  · unfold exactStep
    rw [← K0, ← V0]

/-- One trip of head 0's careful loop leaves the other head's rows alone. -/
theorem trip2_other (k : Fin k0_t2_loop.trips) (f9 : arg9.view.ty.Contents (Elt F)) (f10 : arg10.view.ty.Contents (Elt F)) :
    (arg9.view.readAt (Elt F) mrow1.toLoadRect (arg9.view.writes (Elt F) f9 (tripL_k0_t2 𝒱 c bd i arg3 harg3 arg4 harg4 arg5 harg5 arg6 harg6 arg7 harg7 arg8 harg8 arg9 harg9 arg10 harg10 arg11 harg11 arg12 harg12 q0 q1 w X6 X7 k f9 f10).1),
      arg10.view.readAt (Elt F) arow1.toLoadRect (arg10.view.writes (Elt F) f10 (tripL_k0_t2 𝒱 c bd i arg3 harg3 arg4 harg4 arg5 harg5 arg6 harg6 arg7 harg7 arg8 harg8 arg9 harg9 arg10 harg10 arg11 harg11 arg12 harg12 q0 q1 w X6 X7 k f9 f10).2))
    = (arg9.view.readAt (Elt F) mrow1.toLoadRect f9, arg10.view.readAt (Elt F) arow1.toLoadRect f10) := by
  unfold tripL_k0_t2 trip_k0_t2
  exact Prod.ext (mmiss10 arg9.view f9 _ _) (amiss10 arg10.view f10 _ _)

/-- Before trip `n` of head 0's careful loop its rows have been through `n` tiles. -/
theorem loop2_rows (G9 : arg9.view.ty.Contents (Elt F)) (G10 : arg10.view.ty.Contents (Elt F)) :
    ∀ n, n ≤ k0_t2_loop.trips →
      (arg9.view.readAt (Elt F) mrow0.toLoadRect (arg9.view.writes (Elt F) G9 (pb_k0_t2 𝒱 c bd i arg3 harg3 arg4 harg4 arg5 harg5 arg6 harg6 arg7 harg7 arg8 harg8 arg9 harg9 arg10 harg10 arg11 harg11 arg12 harg12 q0 q1 w X6 X7 G9 G10 n).1),
        arg10.view.readAt (Elt F) arow0.toLoadRect (arg10.view.writes (Elt F) G10 (pb_k0_t2 𝒱 c bd i arg3 harg3 arg4 harg4 arg5 harg5 arg6 harg6 arg7 harg7 arg8 harg8 arg9 harg9 arg10 harg10 arg11 harg11 arg12 harg12 q0 q1 w X6 X7 G9 G10 n).2))
      = exactSt q0 (ktile (arg6.view.read (Elt F) X6) 0) (vtile (arg7.view.read (Elt F) X7) 0)
          (arg9.view.readAt (Elt F) mrow0.toLoadRect G9, arg10.view.readAt (Elt F) arow0.toLoadRect G10) n := by
  intro n
  induction n with
  | zero => intro _; rfl
  | succ n ih =>
    intro hn
    have e := pb_k0_t2_succ 𝒱 c bd i arg3 harg3 arg4 harg4 arg5 harg5 arg6 harg6 arg7 harg7 arg8 harg8 arg9 harg9 arg10 harg10 arg11 harg11 arg12 harg12 q0 q1 w X6 X7 G9 G10 ⟨n, hn⟩
    dsimp only at e
    rw [e]
    dsimp only
    rw [View.writes_append, View.writes_append]
    refine (trip2_rows 𝒱 c bd i arg3 harg3 arg4 harg4 arg5 harg5 arg6 harg6 arg7 harg7 arg8 harg8 arg9 harg9 arg10 harg10 arg11 harg11 arg12 harg12 q0 q1 w X6 X7 ⟨n, hn⟩ _ _).trans ?_
    rw [ih (Nat.le_of_succ_le hn)]
    rfl

/-- Head 0's careful loop leaves the other head's rows alone. -/
theorem loop2_other (G9 : arg9.view.ty.Contents (Elt F)) (G10 : arg10.view.ty.Contents (Elt F)) :
    ∀ n, n ≤ k0_t2_loop.trips →
      (arg9.view.readAt (Elt F) mrow1.toLoadRect (arg9.view.writes (Elt F) G9 (pb_k0_t2 𝒱 c bd i arg3 harg3 arg4 harg4 arg5 harg5 arg6 harg6 arg7 harg7 arg8 harg8 arg9 harg9 arg10 harg10 arg11 harg11 arg12 harg12 q0 q1 w X6 X7 G9 G10 n).1),
        arg10.view.readAt (Elt F) arow1.toLoadRect (arg10.view.writes (Elt F) G10 (pb_k0_t2 𝒱 c bd i arg3 harg3 arg4 harg4 arg5 harg5 arg6 harg6 arg7 harg7 arg8 harg8 arg9 harg9 arg10 harg10 arg11 harg11 arg12 harg12 q0 q1 w X6 X7 G9 G10 n).2))
      = (arg9.view.readAt (Elt F) mrow1.toLoadRect G9, arg10.view.readAt (Elt F) arow1.toLoadRect G10) := by
  intro n
  induction n with
  | zero => intro _; rfl
  | succ n ih =>
    intro hn
    have e := pb_k0_t2_succ 𝒱 c bd i arg3 harg3 arg4 harg4 arg5 harg5 arg6 harg6 arg7 harg7 arg8 harg8 arg9 harg9 arg10 harg10 arg11 harg11 arg12 harg12 q0 q1 w X6 X7 G9 G10 ⟨n, hn⟩
    dsimp only at e
    rw [e]
    dsimp only
    rw [View.writes_append, View.writes_append]
    exact (trip2_other 𝒱 c bd i arg3 harg3 arg4 harg4 arg5 harg5 arg6 harg6 arg7 harg7 arg8 harg8 arg9 harg9 arg10 harg10 arg11 harg11 arg12 harg12 q0 q1 w X6 X7 ⟨n, hn⟩ _ _).trans (ih (Nat.le_of_succ_le hn))

end Loop2

section Loop3
variable (𝒱 : Variants) (c : Dev nD) (bd : Option 𝒱.V) (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x2x1x80x256 .bf16) (harg5 : arg5.IsWhole) (arg6 : Memref sig .tc .vmem S1x16384x256 .bf16) (harg6 : arg6.IsWhole) (arg7 : Memref sig .tc .vmem S1x2x32x80x512 .bf16) (harg7 : arg7.IsWhole) (arg8 : Memref sig .tc .vmem S1x4096x128 .bf16) (harg8 : arg8.IsWhole) (arg9 : Memref sig .tc .vmem S2x1x4096 .f32) (harg9 : arg9.IsWhole) (arg10 : Memref sig .tc .vmem S2x80x4096 .f32) (harg10 : arg10.IsWhole) (arg11 : Memref sig .tc .vmem S128x4096 .f32) (harg11 : arg11.IsWhole) (arg12 : Memref sig .tc .vmem S2x1x4096 .f32) (harg12 : arg12.IsWhole)
  (q0 q1 : QT F) (w : BitVec 1) (X6 : arg6.view.ty.Contents (Elt F)) (X7 : arg7.view.ty.Contents (Elt F))

/-- The second exact loop makes thirty-two. -/
theorem lt_trips3 (k : Fin k0_t3_loop.trips) : k.val < 32 := Nat.lt_of_lt_of_le k.isLt k0_t3_abs.2.1

/-- One trip of head 1's careful loop takes its rows through one tile. -/
theorem trip3_rows (k : Fin k0_t3_loop.trips) (f9 : arg9.view.ty.Contents (Elt F)) (f10 : arg10.view.ty.Contents (Elt F)) :
    (arg9.view.readAt (Elt F) mrow1.toLoadRect (arg9.view.writes (Elt F) f9 (tripL_k0_t3 𝒱 c bd i arg3 harg3 arg4 harg4 arg5 harg5 arg6 harg6 arg7 harg7 arg8 harg8 arg9 harg9 arg10 harg10 arg11 harg11 arg12 harg12 q0 q1 w X6 X7 k f9 f10).1),
      arg10.view.readAt (Elt F) arow1.toLoadRect (arg10.view.writes (Elt F) f10 (tripL_k0_t3 𝒱 c bd i arg3 harg3 arg4 harg4 arg5 harg5 arg6 harg6 arg7 harg7 arg8 harg8 arg9 harg9 arg10 harg10 arg11 harg11 arg12 harg12 q0 q1 w X6 X7 k f9 f10).2))
    = exactStep q1 (ktile (arg6.view.read (Elt F) X6) 1 k.val) (vtile (arg7.view.read (Elt F) X7) 1 k.val)
        (arg9.view.readAt (Elt F) mrow1.toLoadRect f9, arg10.view.readAt (Elt F) arow1.toLoadRect f10) := by
  have hk := lt_trips3 k
  have K0 := read_ktile arg6.view X6 1 k.val (by omega) (by decide) (k0_off7 k) ((k0_off7_eq k).trans rfl) (k0_off7_inb k)
  have V0 := read_vtile arg7.view X7 1 k.val (by omega) (by decide) (k0_off8 k) ((k0_off8_eq k).trans rfl) (k0_off8_inb k)
  unfold tripL_k0_t3 trip_k0_t3
  refine Prod.ext ((mhit1 arg9.view f9 _ _).trans ?_) ((ahit1 arg10.view f10 _ _).trans ?_)
  · unfold exactStep
    rw [← K0]
    rfl
  · unfold exactStep
    rw [← K0, ← V0]
    rfl

/-- One trip of head 1's careful loop leaves the other head's rows alone. -/
theorem trip3_other (k : Fin k0_t3_loop.trips) (f9 : arg9.view.ty.Contents (Elt F)) (f10 : arg10.view.ty.Contents (Elt F)) :
    (arg9.view.readAt (Elt F) mrow0.toLoadRect (arg9.view.writes (Elt F) f9 (tripL_k0_t3 𝒱 c bd i arg3 harg3 arg4 harg4 arg5 harg5 arg6 harg6 arg7 harg7 arg8 harg8 arg9 harg9 arg10 harg10 arg11 harg11 arg12 harg12 q0 q1 w X6 X7 k f9 f10).1),
      arg10.view.readAt (Elt F) arow0.toLoadRect (arg10.view.writes (Elt F) f10 (tripL_k0_t3 𝒱 c bd i arg3 harg3 arg4 harg4 arg5 harg5 arg6 harg6 arg7 harg7 arg8 harg8 arg9 harg9 arg10 harg10 arg11 harg11 arg12 harg12 q0 q1 w X6 X7 k f9 f10).2))
    = (arg9.view.readAt (Elt F) mrow0.toLoadRect f9, arg10.view.readAt (Elt F) arow0.toLoadRect f10) := by
  unfold tripL_k0_t3 trip_k0_t3
  exact Prod.ext (mmiss01 arg9.view f9 _ _) (amiss01 arg10.view f10 _ _)

/-- Before trip `n` of head 1's careful loop its rows have been through `n` tiles. -/
theorem loop3_rows (G9 : arg9.view.ty.Contents (Elt F)) (G10 : arg10.view.ty.Contents (Elt F)) :
    ∀ n, n ≤ k0_t3_loop.trips →
      (arg9.view.readAt (Elt F) mrow1.toLoadRect (arg9.view.writes (Elt F) G9 (pb_k0_t3 𝒱 c bd i arg3 harg3 arg4 harg4 arg5 harg5 arg6 harg6 arg7 harg7 arg8 harg8 arg9 harg9 arg10 harg10 arg11 harg11 arg12 harg12 q0 q1 w X6 X7 G9 G10 n).1),
        arg10.view.readAt (Elt F) arow1.toLoadRect (arg10.view.writes (Elt F) G10 (pb_k0_t3 𝒱 c bd i arg3 harg3 arg4 harg4 arg5 harg5 arg6 harg6 arg7 harg7 arg8 harg8 arg9 harg9 arg10 harg10 arg11 harg11 arg12 harg12 q0 q1 w X6 X7 G9 G10 n).2))
      = exactSt q1 (ktile (arg6.view.read (Elt F) X6) 1) (vtile (arg7.view.read (Elt F) X7) 1)
          (arg9.view.readAt (Elt F) mrow1.toLoadRect G9, arg10.view.readAt (Elt F) arow1.toLoadRect G10) n := by
  intro n
  induction n with
  | zero => intro _; rfl
  | succ n ih =>
    intro hn
    have e := pb_k0_t3_succ 𝒱 c bd i arg3 harg3 arg4 harg4 arg5 harg5 arg6 harg6 arg7 harg7 arg8 harg8 arg9 harg9 arg10 harg10 arg11 harg11 arg12 harg12 q0 q1 w X6 X7 G9 G10 ⟨n, hn⟩
    dsimp only at e
    rw [e]
    dsimp only
    rw [View.writes_append, View.writes_append]
    refine (trip3_rows 𝒱 c bd i arg3 harg3 arg4 harg4 arg5 harg5 arg6 harg6 arg7 harg7 arg8 harg8 arg9 harg9 arg10 harg10 arg11 harg11 arg12 harg12 q0 q1 w X6 X7 ⟨n, hn⟩ _ _).trans ?_
    rw [ih (Nat.le_of_succ_le hn)]
    rfl

/-- Head 1's careful loop leaves the other head's rows alone. -/
theorem loop3_other (G9 : arg9.view.ty.Contents (Elt F)) (G10 : arg10.view.ty.Contents (Elt F)) :
    ∀ n, n ≤ k0_t3_loop.trips →
      (arg9.view.readAt (Elt F) mrow0.toLoadRect (arg9.view.writes (Elt F) G9 (pb_k0_t3 𝒱 c bd i arg3 harg3 arg4 harg4 arg5 harg5 arg6 harg6 arg7 harg7 arg8 harg8 arg9 harg9 arg10 harg10 arg11 harg11 arg12 harg12 q0 q1 w X6 X7 G9 G10 n).1),
        arg10.view.readAt (Elt F) arow0.toLoadRect (arg10.view.writes (Elt F) G10 (pb_k0_t3 𝒱 c bd i arg3 harg3 arg4 harg4 arg5 harg5 arg6 harg6 arg7 harg7 arg8 harg8 arg9 harg9 arg10 harg10 arg11 harg11 arg12 harg12 q0 q1 w X6 X7 G9 G10 n).2))
      = (arg9.view.readAt (Elt F) mrow0.toLoadRect G9, arg10.view.readAt (Elt F) arow0.toLoadRect G10) := by
  intro n
  induction n with
  | zero => intro _; rfl
  | succ n ih =>
    intro hn
    have e := pb_k0_t3_succ 𝒱 c bd i arg3 harg3 arg4 harg4 arg5 harg5 arg6 harg6 arg7 harg7 arg8 harg8 arg9 harg9 arg10 harg10 arg11 harg11 arg12 harg12 q0 q1 w X6 X7 G9 G10 ⟨n, hn⟩
    dsimp only at e
    rw [e]
    dsimp only
    rw [View.writes_append, View.writes_append]
    exact (trip3_other 𝒱 c bd i arg3 harg3 arg4 harg4 arg5 harg5 arg6 harg6 arg7 harg7 arg8 harg8 arg9 harg9 arg10 harg10 arg11 harg11 arg12 harg12 q0 q1 w X6 X7 ⟨n, hn⟩ _ _).trans (ih (Nat.le_of_succ_le hn))

end Loop3

/-! ## What the body computes from its blocks -/

theorem qinb (h : ℕ) : ∀ a, (![0, 0, 128 * (h % 2)] : Fin 3 → ℕ) a + S1x4096x128.size a ≤ S1x4096x256.size a := by
  have h2 := Nat.mod_lt h (show 0 < 2 by decide)
  intro a
  fin_cases a
  · exact Nat.le_refl 1
  · exact Nat.le_refl 4096
  · show 128 * (h % 2) + 128 ≤ 256
    omega

/-- A head's context keys lie inside the context key block. -/
theorem cinb (h : ℕ) : ∀ a, (![0, 0, 128 * (h % 2)] : Fin 3 → ℕ) a + S1x256x128.size a ≤ S1x256x256.size a := by
  have h2 := Nat.mod_lt h (show 0 < 2 by decide)
  intro a
  fin_cases a
  · exact Nat.le_refl 1
  · exact Nat.le_refl 256
  · show 128 * (h % 2) + 128 ≤ 256
    omega

/-- A head's context values lie inside the context value block. -/
theorem winb (h : ℕ) : ∀ a, (![0, h % 2, 0, 0, 0] : Fin 5 → ℕ) a + S1x1x1x80x256.size a ≤ S1x2x1x80x256.size a := by
  have h2 := Nat.mod_lt h (show 0 < 2 by decide)
  intro a
  fin_cases a
  · exact Nat.le_refl 1
  · show h % 2 + 1 ≤ 2
    omega
  · exact Nat.le_refl 1
  · exact Nat.le_refl 80
  · exact Nat.le_refl 256

/-- Head `h`'s queries in the block of queries. -/
def qslice (x : Vec F S1x4096x256 .bf16) (h : ℕ) : Vec F S1x4096x128 .bf16 := fun y =>
  x ((Rect.unit (s := S1x4096x256) ![0, 0, 128 * (h % 2)] S1x4096x128.size (qinb h)).idx y)

/-- Head `h`'s context keys. -/
def kctx (x : Vec F S1x256x256 .bf16) (h : ℕ) : Vec F S1x256x128 .bf16 := fun y =>
  x ((Rect.unit (s := S1x256x256) ![0, 0, 128 * (h % 2)] S1x256x128.size (cinb h)).idx y)

/-- Head `h`'s context values. -/
def vctx (x : Vec F S1x2x1x80x256 .bf16) (h : ℕ) : Vec F S1x1x1x80x256 .bf16 := fun y =>
  x ((Rect.unit (s := S1x2x1x80x256) ![0, h % 2, 0, 0, 0] S1x1x1x80x256.size (winb h)).idx y)

/-- An excess of zero. -/
def exZero : MT' F := fun _ => Scalar.ofBits .f32 0x00000000#32

/-- The maximum and the accumulator after the context's tile. -/
def start (q : QT F) (kc : Vec F S1x256x128 .bf16) (vc : Vec F S1x1x1x80x256 .bf16) : MT' F × AT' F :=
  (k0_pay88 q kc, k0_pay87 q kc vc)

/-- Whether some tile's maximum passed the running maximum by more than sixty. -/
def Passed (ex : MT' F) : Prop :=
  Scalar.cmpi .ne (Scalar.extui (Scalar.cmpf .ogt (k0_pay84 ex) (Scalar.ofBits .f32 0x42700000#32)) : BitVec 32) 0#32 = 1#1

/-- The state after the trusting pass. -/
def lazyEnd (q : QT F) (K : ℕ → KT' F) (V : ℕ → VT' F) (s : MT' F × AT' F) : MT' F × AT' F × MT' F :=
  lazySt q K V (s.1, s.2, exZero) 32

open Classical in
/-- The accumulator a head ends with: the trusting pass's, or the careful pass's where the trusting one's excess was too large. -/
def accEnd (q : QT F) (K : ℕ → KT' F) (V : ℕ → VT' F) (s : MT' F × AT' F) : AT' F :=
  if Passed (lazyEnd q K V s).2.2 then (exactSt q K V s 32).2 else (lazyEnd q K V s).2.1

/-- The accumulator head `h` ends with, from the blocks. -/
def headAcc (x3 : Vec F S1x4096x256 .bf16) (x4 : Vec F S1x256x256 .bf16) (x5 : Vec F S1x2x1x80x256 .bf16)
    (x6 : Vec F S1x16384x256 .bf16) (x7 : Vec F S1x2x32x80x512 .bf16) (h : ℕ) : AT' F :=
  accEnd (k0_pay72 (qslice x3 h)) (ktile x6 h) (vtile x7 h) (start (k0_pay72 (qslice x3 h)) (kctx x4 h) (vctx x5 h))

/-- The two heads' quotients, one above the other. -/
def stacked (a0 a1 : AT' F) : Vec F S128x4096 .f32 :=
  View.canon (Val := Elt F) (s := S128x4096) (e := .f32)
    [⟨Rect.unit (s := S128x4096) ![64, 0] S64x4096.size inb_S128x4096_S64x4096_64_0, k0_pay97 a1⟩,
     ⟨Rect.unit (s := S128x4096) ![0, 0] S64x4096.size inb_S128x4096_S64x4096_0_0, k0_pay96 a0⟩]

/-- The block of the result. -/
def outBlk (x3 : Vec F S1x4096x256 .bf16) (x4 : Vec F S1x256x256 .bf16) (x5 : Vec F S1x2x1x80x256 .bf16)
    (x6 : Vec F S1x16384x256 .bf16) (x7 : Vec F S1x2x32x80x512 .bf16) : Vec F S1x4096x128 .bf16 :=
  k0_pay1 (k0_pay98 (stacked (headAcc x3 x4 x5 x6 x7 0) (headAcc x3 x4 x5 x6 x7 1)))

end Cert.Proof.Attn
end
-- ==== Proof.Pay.lean ====
module

public import proofs.«01_k».proof.Proof.Trips
public import proofs.«01_k».proof.Proof.Host
public import Idealize.ShloMosaic.Lib.Pointwise

/-!
# One head of one grid step

The kernel's running maximum and accumulator of one query, at the ideal values. Whatever the order of the rescalings, after
`n` tiles the accumulator's row `r` is the weighted sum of row `r` of the values so far, under some real shift that the
maximum row holds. The quotient by the row of ones does not depend on the shift.
-/

@[expose] public section

set_option maxRecDepth 16384

noncomputable section

namespace Cert.Proof.Attn

open Cert.KernelIdeal Cert.KernelIdeal.Gen
open Idealize.ShloMosaic

/-- The score of key `x` of a tile against query `j`. -/
def tscore (q : QT Ideal) (kt : Vec Ideal S1x512x128 .bf16) (j : Fin 4096) (x : Fin 512) : EReal :=
  ∑ l : Fin 128, kt (ix3 0 x l) * q (ix2 l j)

/-- The score of key `x` of the context against query `j`. -/
def cscore (q : QT Ideal) (kt : Vec Ideal S1x256x128 .bf16) (j : Fin 4096) (x : Fin 256) : EReal :=
  ∑ l : Fin 128, kt (ix3 0 x l) * q (ix2 l j)

/-- The greatest score of a tile. -/
def ttop (q : QT Ideal) (kt : Vec Ideal S1x512x128 .bf16) (j : Fin 4096) : EReal :=
  Finset.fold max (Ideal.ofBits .f32 0xFF800000#32) (fun x => tscore q kt j x) Finset.univ

/-- The greatest score of the context. -/
def ctop (q : QT Ideal) (kt : Vec Ideal S1x256x128 .bf16) (j : Fin 4096) : EReal :=
  Finset.fold max (Ideal.ofBits .f32 0xFF800000#32) (fun x => cscore q kt j x) Finset.univ

variable (q : QT Ideal) (kt : Vec Ideal S1x512x128 .bf16) (vt : Vec Ideal S1x1x1x80x512 .bf16) (r : Fin 80) (j : Fin 4096)

/-- The maximum row after a lazy tile. -/
theorem lazy_m (s) : (lazyStep (F := Ideal) q kt vt s).1 (ix3 0 0 j) = max (s.1 (ix3 0 0 j)) (ttop q kt j) := by
  pointwise [lazyStep, k0_pay7, k0_pay6, k0_pay5, k0_pay4, k0_pay3, k0_pay2, ttop, tscore]

/-- The accumulator after a lazy tile. -/
theorem lazy_a (s) : (lazyStep (F := Ideal) q kt vt s).2.1 (ix3 0 r j)
    = (s.2.1 (ix3 0 r j) + ∑ x, vt (ix5 0 0 0 r x) * FloatOps.exp2 (F := Ideal) (φ := .f32) (tscore q kt j x - s.1 (ix3 0 0 j)))
      * FloatOps.exp2 (F := Ideal) (φ := .f32) (s.1 (ix3 0 0 j) - max (s.1 (ix3 0 0 j)) (ttop q kt j)) := by
  pointwise [lazyStep, k0_pay6, k0_pay5, k0_pay4, k0_pay3, k0_pay2, ttop, tscore]

/-- The maximum row after an exact tile. -/
theorem exact_m (s) : (exactStep (F := Ideal) q kt vt s).1 (ix3 0 0 j) = max (s.1 (ix3 0 0 j)) (ttop q kt j) := by
  pointwise [exactStep, k0_pay89, k0_pay68, k0_pay67, k0_pay66, ttop, tscore]

/-- The accumulator after an exact tile. -/
theorem exact_a (s) : (exactStep (F := Ideal) q kt vt s).2 (ix3 0 r j)
    = FloatOps.exp2 (F := Ideal) (φ := .f32) (s.1 (ix3 0 0 j) - max (s.1 (ix3 0 0 j)) (ttop q kt j)) * s.2 (ix3 0 r j)
      + ∑ x, vt (ix5 0 0 0 r x) * FloatOps.exp2 (F := Ideal) (φ := .f32) (tscore q kt j x - max (s.1 (ix3 0 0 j)) (ttop q kt j)) := by
  pointwise [exactStep, k0_pay68, k0_pay67, k0_pay66, ttop, tscore]

/-- The maximum row after the context. -/
theorem start_m (kc vc) : (start (F := Ideal) q kc vc).1 (ix3 0 0 j) = ctop q kc j := by
  pointwise [start, k0_pay88, k0_pay87, k0_pay86, k0_pay85, ctop, cscore]

/-- The accumulator after the context. -/
theorem start_a (kc vc) : (start (F := Ideal) q kc vc).2 (ix3 0 r j)
    = ∑ x, vc (ix5 0 0 0 r x) * FloatOps.exp2 (F := Ideal) (φ := .f32) (cscore q kc j x - ctop q kc j) := by
  pointwise [start, k0_pay88, k0_pay87, k0_pay86, k0_pay85, ctop, cscore]

/-- The first head's quotient. -/
theorem quot0 (a) (d : Fin 64) : k0_pay96 (F := Ideal) a (ix2 d j) = Ideal.div (a (ix3 0 ⟨d, by omega⟩ j)) (a (ix3 0 64 j)) := by
  pointwise [k0_pay96]

/-- The second head's quotient. -/
theorem quot1 (a) (d : Fin 64) : k0_pay97 (F := Ideal) a (ix2 d j) = Ideal.div (a (ix3 0 ⟨d, by omega⟩ j)) (a (ix3 0 64 j)) := by
  pointwise [k0_pay97]

/-- The step's block is the two quotients transposed. -/
theorem flip_out (a) (o : Fin 128) : k0_pay1 (F := Ideal) (k0_pay98 a) (ix3 0 j o) = a (ix2 o j) := by
  pointwise [k0_pay1, k0_pay98]

/-- The queries transposed. -/
theorem flip_q (a) (l : Fin 128) : k0_pay72 (F := Ideal) a (ix2 l j) = a (ix3 0 j l) := by
  pointwise [k0_pay72]

end Cert.Proof.Attn

end
-- ==== Proof.Head.lean ====
module

public import proofs.«01_k».proof.Proof.Pay

/-!
# The accumulator of one head

After every tile the accumulator holds the weighted sums of the keys seen so far, in the lazy loop and in the careful one.
-/

@[expose] public section

set_option maxRecDepth 16384

noncomputable section

namespace Cert.Proof.Attn

open Cert.KernelIdeal Cert.KernelIdeal.Gen
open Idealize.ShloMosaic

/-- What is known of one query `j` of a head: the scores `s` of the keys and the rows `vv` of the values, key by key. -/
structure Column (q : QT Ideal) (K : ℕ → KT' Ideal) (V : ℕ → VT' Ideal) (kc : Vec Ideal S1x256x128 .bf16)
    (vc : Vec Ideal S1x1x1x80x256 .bf16) (j : Fin 4096) (s : ℕ → ℝ) (vv : Fin 80 → ℕ → EReal) : Prop where
  /-- The context's scores. -/
  ck : ∀ x : Fin 256, cscore q kc j x = ((s x : ℝ) : EReal)
  /-- The scores of a tile. -/
  xk : ∀ t < 32, ∀ x : Fin 512, tscore q (K t) j x = ((s (256 + 512 * t + x) : ℝ) : EReal)
  /-- The context's values. -/
  cv : ∀ (r : Fin 80) (x : Fin 256), vc (ix5 0 0 0 r x) = vv r x
  /-- The values of a tile. -/
  xv : ∀ t < 32, ∀ (r : Fin 80) (x : Fin 512), V t (ix5 0 0 0 r x) = vv r (256 + 512 * t + x)

/-- After `n` tiles: a real shift in the maximum row, the weighted sums under it in the accumulator. -/
def Sums (j : Fin 4096) (s : ℕ → ℝ) (vv : Fin 80 → ℕ → EReal) (n : ℕ) (m : MT' Ideal) (a : AT' Ideal) : Prop :=
  ∃ μ : ℝ, m (ix3 0 0 j) = (μ : EReal) ∧ ∀ r : Fin 80, a (ix3 0 r j) = wsum (vv r) s (256 + 512 * n) μ

variable {q : QT Ideal} {K : ℕ → KT' Ideal} {V : ℕ → VT' Ideal} {kc : Vec Ideal S1x256x128 .bf16}
    {vc : Vec Ideal S1x1x1x80x256 .bf16} {j : Fin 4096} {s : ℕ → ℝ} {vv : Fin 80 → ℕ → EReal}

/-- The context starts the sums. -/
theorem sums_start (h : Column q K V kc vc j s vv) : Sums j s vv 0 (start q kc vc).1 (start q kc vc).2 := by
  obtain ⟨μ, e⟩ := fold_real (by norm_num) (fun x => cscore q kc j x) (fun x => s x) h.ck
  have e' : ctop q kc j = (μ : EReal) := by rw [ctop, wordBot, e]
  refine ⟨μ, (start_m q j kc vc).trans e', fun r => ?_⟩
  rw [start_a, e', wsum_fin]
  refine (Finset.sum_congr rfl fun x _ => ?_ : (_ : EReal) = _)
  rw [h.cv, h.ck, exp2_sub]

/-- The greatest score of a tile is real. -/
theorem top_real (h : Column q K V kc vc j s vv) {n : ℕ} (hn : n < 32) : ∃ τ : ℝ, ttop q (K n) j = (τ : EReal) := by
  obtain ⟨μ, e⟩ := fold_real (by norm_num) (fun x => tscore q (K n) j x) (fun x => s (256 + 512 * n + x)) (h.xk n hn)
  exact ⟨μ, by rw [ttop, wordBot, e]⟩

/-- A tile's own weighted values. -/
theorem tile_sum (h : Column q K V kc vc j s vv) {n : ℕ} (hn : n < 32) (r : Fin 80) (μ : ℝ) :
    wsum (vv r) s (256 + 512 * n) μ
      + (∑ x : Fin 512, (V n (ix5 0 0 0 r x) : EReal) * FloatOps.exp2 (F := Ideal) (φ := .f32) (tscore q (K n) j x - (μ : EReal)))
      = wsum (vv r) s (256 + 512 * (n + 1)) μ := by
  rw [show 256 + 512 * (n + 1) = 256 + 512 * n + 512 by ring, wsum_add _ _ (256 + 512 * n) 512]
  congr 1
  refine (Finset.sum_congr rfl fun x _ => ?_ : (_ : EReal) = _)
  rw [h.xv n hn, h.xk n hn, exp2_sub]

/-- A lazy tile keeps the sums: it weighs the tile under the old maximum and rescales afterwards. -/
theorem sums_lazy (h : Column q K V kc vc j s vv) {n : ℕ} (hn : n < 32) (st : MT' Ideal × AT' Ideal × MT' Ideal)
    (hs : Sums j s vv n st.1 st.2.1) :
    Sums j s vv (n + 1) (lazyStep q (K n) (V n) st).1 (lazyStep q (K n) (V n) st).2.1 := by
  obtain ⟨μ, e, ha⟩ := hs
  obtain ⟨τ, et⟩ := top_real h hn
  refine ⟨max μ τ, by rw [lazy_m, e, et, max_coe], fun r => ?_⟩
  rw [lazy_a, e, et, max_coe, ha, tile_sum h hn, exp2_sub, wsum_shift]

/-- A careful tile keeps the sums: it rescales first and weighs the tile under the new maximum. -/
theorem sums_exact (h : Column q K V kc vc j s vv) {n : ℕ} (hn : n < 32) (st : MT' Ideal × AT' Ideal)
    (hs : Sums j s vv n st.1 st.2) :
    Sums j s vv (n + 1) (exactStep q (K n) (V n) st).1 (exactStep q (K n) (V n) st).2 := by
  obtain ⟨μ, e, ha⟩ := hs
  obtain ⟨τ, et⟩ := top_real h hn
  refine ⟨max μ τ, by rw [exact_m, e, et, max_coe], fun r => ?_⟩
  rw [exact_a, e, et, max_coe, ha, exp2_sub, mul_comm, wsum_shift, tile_sum h hn]

/-- The lazy loop. -/
theorem sums_lazySt (h : Column q K V kc vc j s vv) (m : MT' Ideal) (a : AT' Ideal) (e : MT' Ideal)
    (hs : Sums j s vv 0 m a) : ∀ n ≤ 32, Sums j s vv n (lazySt q K V (m, a, e) n).1 (lazySt q K V (m, a, e) n).2.1
  | 0, _ => hs
  | n + 1, hn => sums_lazy h (n := n) (by omega) (lazySt q K V (m, a, e) n) (sums_lazySt h m a e hs n (by omega))

/-- The careful loop. -/
theorem sums_exactSt (h : Column q K V kc vc j s vv) (st : MT' Ideal × AT' Ideal)
    (hs : Sums j s vv 0 st.1 st.2) : ∀ n ≤ 32, Sums j s vv n (exactSt q K V st n).1 (exactSt q K V st n).2
  | 0, _ => hs
  | n + 1, hn => sums_exact h (n := n) (by omega) (exactSt q K V st n) (sums_exactSt h st hs n (by omega))

/-- The accumulator a head ends with, whichever loop it is taken from: the weighted sums of all keys under one shift. -/
theorem accEnd_sums (h : Column q K V kc vc j s vv) :
    ∃ μ : ℝ, ∀ r : Fin 80, accEnd q K V (start q kc vc) (ix3 0 r j) = wsum (vv r) s 16640 μ := by
  have h0 := sums_start h
  have e : 256 + 512 * 32 = 16640 := by norm_num
  obtain ⟨μ, -, ha⟩ := sums_exactSt h (start q kc vc) h0 32 (le_refl 32)
  obtain ⟨ν, -, hb⟩ := sums_lazySt h (start q kc vc).1 (start q kc vc).2 exZero h0 32 (le_refl 32)
  rw [e] at ha hb
  by_cases hp : Passed (lazyEnd q K V (start q kc vc)).2.2
  · refine ⟨μ, fun r => ?_⟩
    rw [accEnd, if_pos hp]
    exact ha r
  · refine ⟨ν, fun r => ?_⟩
    rw [accEnd, if_neg hp, lazyEnd]
    exact hb r

/-- A head's quotient is the attention of the query. -/
theorem accEnd_quot (h : Column q K V kc vc j s vv) (σ : ℕ → ℝ) (hσ : ∀ k < 16640, σ k = s k * Real.log 2)
    (hone : ∀ k < 16640, vv 64 k = 1) (d : Fin 64) :
    Ideal.div (accEnd q K V (start q kc vc) (ix3 0 ⟨d, by omega⟩ j)) (accEnd q K V (start q kc vc) (ix3 0 64 j))
      = softSum (vv ⟨d, by omega⟩) σ 16640 := by
  obtain ⟨μ, ha⟩ := accEnd_sums h
  rw [ha, ha]
  exact quotient _ _ s σ 16640 (by norm_num) μ hone hσ

end Cert.Proof.Attn

end
-- ==== Proof.Blocks.lean ====
module

public import proofs.«01_k».proof.Proof.Spec
public import proofs.«01_k».proof.Proof.Head

/-!
# A block of the result

A grid point reads a block of each array: the queries of two heads, and those heads' keys and values. From blocks so
read, the block the point leaves holds the attention of its queries.
-/

@[expose] public section

set_option maxRecDepth 16384

noncomputable section

namespace Cert.Proof.Attn

open Cert.KernelIdeal Cert.KernelIdeal.Gen
open Idealize.ShloMosaic

/-- What the five blocks of a point hold: batch `b`, head pair `p`, query block `g`. -/
structure Blk (A : Args) (b : Fin 2) (p g : Fin 4) (x3 : Vec Ideal S1x4096x256 .bf16) (x4 : Vec Ideal S1x256x256 .bf16)
    (x5 : Vec Ideal S1x2x1x80x256 .bf16) (x6 : Vec Ideal S1x16384x256 .bf16) (x7 : Vec Ideal S1x2x32x80x512 .bf16) : Prop where
  q : ∀ (j : Fin 4096) (y : Fin 256), x3 (ix3 0 j y)
    = qArr (F := Ideal) A.a0 A.a1 qscale (ix3 b ⟨g * 4096 + j, by omega⟩ ⟨p * 256 + y, by omega⟩)
  kc : ∀ (k : Fin 256) (y : Fin 256), x4 (ix3 0 k y) = kcArr (F := Ideal) A.a2 A.a3 (ix3 b k ⟨p * 256 + y, by omega⟩)
  vc : ∀ (e : Fin 2) (r : Fin 80) (k : Fin 256), x5 (ix5 0 e 0 r k) = vcArr (F := Ideal) A.a4 (ix5 b ⟨p * 2 + e, by omega⟩ 0 r k)
  kx : ∀ (k : Fin 16384) (y : Fin 256), x6 (ix3 0 k y) = kxArr (F := Ideal) A.a5 A.a6 (ix3 b k ⟨p * 256 + y, by omega⟩)
  vx : ∀ (e : Fin 2) (t : Fin 32) (r : Fin 80) (k : Fin 512), x7 (ix5 0 e t r k)
    = vxArr (F := Ideal) A.a7 (ix5 b ⟨p * 2 + e, by omega⟩ t r k)

/-- A head's lanes: its own part, the rotary part, and padding. -/
def lane (own : Fin 64 → ℝ) (rot : Fin 32 → ℝ) (l : Fin 128) : ℝ :=
  if h1 : (l : ℕ) < 64 then own ⟨l, h1⟩ else if h2 : (l : ℕ) < 96 then rot ⟨l - 64, by omega⟩ else 0

/-- Over a head's lanes two rows' product is the own parts' product and the rotary parts'. -/
theorem lane_dot (ko qo : Fin 64 → ℝ) (kr qr : Fin 32 → ℝ) :
    (∑ l : Fin 128, lane ko kr l * lane qo qr l) = (∑ d, ko d * qo d) + ∑ d, kr d * qr d := by
  have h := Fin.sum_univ_add (a := 64) (b := 32 + 32) (fun l : Fin (64 + (32 + 32)) => lane ko kr l * lane qo qr l)
  have h' := Fin.sum_univ_add (a := 32) (b := 32)
    (fun l : Fin (32 + 32) => lane ko kr (Fin.natAdd 64 l) * lane qo qr (Fin.natAdd 64 l))
  rw [h'] at h
  refine h.trans ?_
  have z : (∑ x : Fin 32, lane ko kr (Fin.natAdd 64 (Fin.natAdd 32 x)) * lane qo qr (Fin.natAdd 64 (Fin.natAdd 32 x))) = 0 := by
    refine Finset.sum_eq_zero fun x _ => ?_
    have h1 : ¬ ((Fin.natAdd 64 (Fin.natAdd 32 x) : Fin 128) : ℕ) < 64 := by simp [Fin.natAdd]
    have h2 : ¬ ((Fin.natAdd 64 (Fin.natAdd 32 x) : Fin 128) : ℕ) < 96 := by simp [Fin.natAdd]; omega
    rw [lane, dif_neg h1, dif_neg h2, zero_mul]
  rw [z, add_zero]
  refine congrArg₂ (· + ·) ?_ ?_
  · refine Finset.sum_congr rfl fun x _ => ?_
    have h1 : ((Fin.castAdd (32 + 32) x : Fin 128) : ℕ) < 64 := by simp
    rw [lane, dif_pos h1, lane, dif_pos h1]
    rfl
  · refine Finset.sum_congr rfl fun x _ => ?_
    have h1 : ¬ ((Fin.natAdd 64 (Fin.castAdd 32 x) : Fin 128) : ℕ) < 64 := by simp [Fin.natAdd]
    have h2 : ((Fin.natAdd 64 (Fin.castAdd 32 x) : Fin 128) : ℕ) < 96 := by simp [Fin.natAdd]; omega
    have h3 : (⟨((Fin.natAdd 64 (Fin.castAdd 32 x) : Fin 128) : ℕ) - 64, by omega⟩ : Fin 32) = x := by
      apply Fin.ext; simp [Fin.natAdd]
    rw [lane, dif_neg h1, dif_pos h2, lane, dif_neg h1, dif_pos h2, h3]

/-- A head's slice of a block of queries. -/
theorem qslice_at (x : Vec Ideal S1x4096x256 .bf16) (e : Fin 2) (j : Fin 4096) (l : Fin 128) :
    qslice x (e : ℕ) (ix3 0 j l) = x (ix3 0 j ⟨128 * e + l, by omega⟩) := by
  have he : (e : ℕ) % 2 = e := by omega
  unfold qslice
  congr 1
  funext a
  apply Fin.ext
  match a with
  | ⟨0, _⟩ => rfl
  | ⟨1, _⟩ => show 0 + 1 * (j : ℕ) = j; omega
  | ⟨2, _⟩ => show 128 * ((e : ℕ) % 2) + 1 * (l : ℕ) = 128 * e + l; omega

/-- A head's slice of a block of context keys. -/
theorem kctx_at (x : Vec Ideal S1x256x256 .bf16) (e : Fin 2) (j : Fin 256) (l : Fin 128) :
    kctx x (e : ℕ) (ix3 0 j l) = x (ix3 0 j ⟨128 * e + l, by omega⟩) := by
  unfold kctx
  congr 1
  funext a
  apply Fin.ext
  match a with
  | ⟨0, _⟩ => rfl
  | ⟨1, _⟩ => show 0 + 1 * (j : ℕ) = j; omega
  | ⟨2, _⟩ => show 128 * ((e : ℕ) % 2) + 1 * (l : ℕ) = 128 * e + l; omega

/-- A head's context values in a block of them. -/
theorem vctx_at (x : Vec Ideal S1x2x1x80x256 .bf16) (e : Fin 2) (r : Fin 80) (k : Fin 256) :
    vctx x (e : ℕ) (ix5 0 0 0 r k) = x (ix5 0 e 0 r k) := by
  unfold vctx
  congr 1
  funext a
  apply Fin.ext
  match a with
  | ⟨0, _⟩ => rfl
  | ⟨1, _⟩ => show (e : ℕ) % 2 + 1 * 0 = e; omega
  | ⟨2, _⟩ => rfl
  | ⟨3, _⟩ => show 0 + 1 * (r : ℕ) = r; omega
  | ⟨4, _⟩ => show 0 + 1 * (k : ℕ) = k; omega

/-- A head's tile of keys in a block of keys. -/
theorem ktile_at (x : Vec Ideal S1x16384x256 .bf16) (e : Fin 2) (t : Fin 32) (k : Fin 512) (l : Fin 128) :
    ktile x (e : ℕ) (t : ℕ) (ix3 0 k l) = x (ix3 0 ⟨t * 512 + k, by omega⟩ ⟨128 * e + l, by omega⟩) := by
  unfold ktile
  congr 1
  funext a
  apply Fin.ext
  match a with
  | ⟨0, _⟩ => rfl
  | ⟨1, _⟩ => show 512 * ((t : ℕ) % 32) + 1 * (k : ℕ) = t * 512 + k; omega
  | ⟨2, _⟩ => show 128 * ((e : ℕ) % 2) + 1 * (l : ℕ) = 128 * e + l; omega

/-- A head's tile of values in a block of values. -/
theorem vtile_at (x : Vec Ideal S1x2x32x80x512 .bf16) (e : Fin 2) (t : Fin 32) (r : Fin 80) (k : Fin 512) :
    vtile x (e : ℕ) (t : ℕ) (ix5 0 0 0 r k) = x (ix5 0 e t r k) := by
  unfold vtile
  congr 1
  funext a
  apply Fin.ext
  match a with
  | ⟨0, _⟩ => rfl
  | ⟨1, _⟩ => show (e : ℕ) % 2 + 1 * 0 = e; omega
  | ⟨2, _⟩ => show (t : ℕ) % 32 + 1 * 0 = t; omega
  | ⟨3, _⟩ => show 0 + 1 * (r : ℕ) = r; omega
  | ⟨4, _⟩ => show 0 + 1 * (k : ℕ) = k; omega

/-- The query's scale with the change of base. -/
def qs : ℝ := (Real.sqrt 96)⁻¹ / Real.log 2

/-- A query's lanes, scaled. -/
def Args.qlane (A : Args) (b : Fin 2) (h : Fin 8) (i : Fin 16384) : Fin 128 → ℝ :=
  lane (fun d => (A.a0 (ix4 b i h d)).toReal * qs) (fun d => (A.a1 (ix4 b i h d)).toReal * qs)

/-- A key's lanes. -/
def Args.klane (A : Args) (b : Fin 2) (h : Fin 8) (k : ℕ) : Fin 128 → ℝ :=
  lane (fun d => (row64 A.a2 A.a5 b h d k).toReal) (fun d => (row32 A.a3 A.a6 b d k).toReal)

variable {A : Args}

/-- The laid-out queries hold the scaled lanes. -/
theorem q_lane (hA : A.Ok) (b : Fin 2) (h : Fin 8) (i : Fin 16384) (l : Fin 128) :
    qArr (F := Ideal) A.a0 A.a1 qscale (ix3 b i ⟨128 * h + l, by omega⟩) = ((A.qlane b h i l : ℝ) : EReal) := by
  rw [qArr_at, qscale_at, Args.qlane, lane]
  split_ifs
  · rw [hA.f0, EReal.coe_mul]; rfl
  · rw [hA.f1, EReal.coe_mul]; rfl
  · rfl

/-- The laid-out context keys hold the keys' lanes. -/
theorem kc_lane (hA : A.Ok) (b : Fin 2) (h : Fin 8) (k : Fin 256) (l : Fin 128) :
    kcArr (F := Ideal) A.a2 A.a3 (ix3 b k ⟨128 * h + l, by omega⟩) = ((A.klane b h k l : ℝ) : EReal) := by
  have hk := k.isLt
  rw [kcArr_at, Args.klane, lane]
  split_ifs
  · rw [row64, dif_pos hk, hA.f2]; rfl
  · rw [row32, dif_pos hk, hA.f3]; rfl
  · rfl

/-- The laid-out keys of the sequence hold the keys' lanes. -/
theorem kx_lane (hA : A.Ok) (b : Fin 2) (h : Fin 8) (k : Fin 16384) (l : Fin 128) (n : ℕ) (hn : n = 256 + k) :
    kxArr (F := Ideal) A.a5 A.a6 (ix3 b k ⟨128 * h + l, by omega⟩) = ((A.klane b h n l : ℝ) : EReal) := by
  have h1 : ¬ n < 256 := by omega
  have h2 : n - 256 < 16384 := by omega
  have h3 : (⟨n - 256, h2⟩ : Fin 16384) = k := by apply Fin.ext; show n - 256 = (k : ℕ); omega
  rw [kxArr_at, Args.klane, lane]
  split_ifs
  · rw [row64, dif_neg h1, dif_pos h2, h3, hA.f5]; rfl
  · rw [row32, dif_neg h1, dif_pos h2, h3, hA.f6]; rfl
  · rfl

/-- A key's lanes against a query's are the scaled product. -/
theorem lanes_score (A : Args) (b : Fin 2) (h : Fin 8) (i : Fin 16384) (k : ℕ) :
    (∑ l : Fin 128, ((A.klane b h k l : ℝ) : EReal) * ((A.qlane b h i l : ℝ) : EReal)) = ((A.dot b h i k * qs : ℝ) : EReal) := by
  rw [show (∑ l : Fin 128, ((A.klane b h k l : ℝ) : EReal) * ((A.qlane b h i l : ℝ) : EReal))
    = ∑ l : Fin 128, ((A.klane b h k l * A.qlane b h i l : ℝ) : EReal) from
      Finset.sum_congr rfl fun l _ => (EReal.coe_mul _ _).symm, coe_sum]
  congr 1
  rw [Args.klane, Args.qlane, lane_dot, Args.dot, add_mul, Finset.sum_mul, Finset.sum_mul]
  refine congrArg₂ (· + ·) ?_ ?_
  · exact Finset.sum_congr rfl fun d _ => by ring
  · exact Finset.sum_congr rfl fun d _ => by ring

/-- The rows of the values as the kernel lays them: the values, a row of ones, rows of zeros. -/
def Args.vrow (A : Args) (b : Fin 2) (h : Fin 8) (r : Fin 80) (k : ℕ) : EReal :=
  if h1 : (r : ℕ) < 64 then row64 A.a4 A.a7 b h ⟨r, h1⟩ k else if (r : ℕ) - 64 < 1 then 1 else 0

variable {x3 : Vec Ideal S1x4096x256 .bf16} {x4 : Vec Ideal S1x256x256 .bf16}
    {x5 : Vec Ideal S1x2x1x80x256 .bf16} {x6 : Vec Ideal S1x16384x256 .bf16} {x7 : Vec Ideal S1x2x32x80x512 .bf16}

/-- What a point's blocks say of one query of one of its heads. -/
theorem column (hA : A.Ok) {b : Fin 2} {p g : Fin 4} (hB : Blk A b p g x3 x4 x5 x6 x7) (e : Fin 2) (j : Fin 4096) :
    Column (k0_pay72 (qslice x3 (e : ℕ))) (ktile x6 (e : ℕ)) (vtile x7 (e : ℕ)) (kctx x4 (e : ℕ)) (vctx x5 (e : ℕ)) j
      (fun k => A.dot b ⟨p * 2 + e, by omega⟩ ⟨g * 4096 + j, by omega⟩ k * qs) (A.vrow b ⟨p * 2 + e, by omega⟩) := by
  have hl : ∀ l : Fin 128, (⟨p * 256 + (⟨128 * e + l, by omega⟩ : Fin 256), by dsimp only; omega⟩ : Fin 1024)
      = ⟨128 * (⟨p * 2 + e, by omega⟩ : Fin 8) + l, by dsimp only; omega⟩ := fun l => by
    apply Fin.ext; show (p : ℕ) * 256 + (128 * e + l) = 128 * (p * 2 + e) + l; omega
  have hq : ∀ l : Fin 128, k0_pay72 (qslice x3 (e : ℕ)) (ix2 l j)
      = ((A.qlane b ⟨p * 2 + e, by omega⟩ ⟨g * 4096 + j, by omega⟩ l : ℝ) : EReal) := fun l => by
    rw [flip_q, qslice_at, hB.q, hl, q_lane hA]
  refine ⟨fun x => ?_, fun t ht x => ?_, fun r x => ?_, fun t ht r x => ?_⟩
  · rw [← lanes_score, cscore]
    refine Finset.sum_congr rfl fun l _ => ?_
    rw [hq, kctx_at, hB.kc, hl, kc_lane hA]
  · rw [← lanes_score, tscore]
    refine Finset.sum_congr rfl fun l _ => ?_
    have := ktile_at x6 e ⟨t, ht⟩ x l
    dsimp only at this
    rw [hq, this, hB.kx, hl, kx_lane hA _ _ _ _ (256 + 512 * t + x) (by show 256 + 512 * t + (x : ℕ) = 256 + (t * 512 + x); omega)]
  · have hx := x.isLt
    rw [vctx_at, hB.vc, vcArr_at, Args.vrow]
    split_ifs
    · rw [row64, dif_pos hx]
    · rfl
    · rfl
  · have := vtile_at x7 e ⟨t, ht⟩ r x
    dsimp only at this
    rw [this, hB.vx, vxArr_at, Args.vrow]
    split_ifs
    · have h1 : ¬ 256 + 512 * t + (x : ℕ) < 256 := by omega
      have h2 : 256 + 512 * t + (x : ℕ) - 256 < 16384 := by omega
      rw [row64, dif_neg h1, dif_pos h2]
      congr 2
      apply Fin.ext
      show t * 512 + (x : ℕ) = 256 + 512 * t + x - 256
      omega
    · rfl
    · rfl

/-- A head's quotient at one query is the attention. -/
theorem quotient_at (hA : A.Ok) {b : Fin 2} {p g : Fin 4} (hB : Blk A b p g x3 x4 x5 x6 x7) (e : Fin 2) (d : Fin 64) (j : Fin 4096) :
    Ideal.div (headAcc x3 x4 x5 x6 x7 (e : ℕ) (ix3 0 ⟨d, by omega⟩ j)) (headAcc x3 x4 x5 x6 x7 (e : ℕ) (ix3 0 64 j))
      = A.attn b ⟨p * 2 + e, by omega⟩ ⟨g * 4096 + j, by omega⟩ d := by
  have hlog : Real.log 2 ≠ 0 := (Real.log_pos (by norm_num)).ne'
  have hd := d.isLt
  have key := accEnd_quot (column hA hB e j) (A.sig b ⟨p * 2 + e, by omega⟩ ⟨g * 4096 + j, by omega⟩)
    (fun k _ => by show _ = A.dot _ _ _ k * qs * Real.log 2; rw [qs, mul_assoc, div_mul_cancel₀ _ hlog]; rfl)
    (fun k _ => rfl) d
  refine (show _ = _ from key).trans ?_
  rw [Args.attn]
  congr 1
  funext k
  rw [Args.vrow, dif_pos hd]

/-- The second head's rectangle. -/
abbrev hiRect : Rect S128x4096 := Rect.unit (s := S128x4096) ![64, 0] S64x4096.size inb_S128x4096_S64x4096_64_0

/-- The first head's rectangle. -/
abbrev loRect : Rect S128x4096 := Rect.unit (s := S128x4096) ![0, 0] S64x4096.size inb_S128x4096_S64x4096_0_0

/-- The first head's rows are not the second's. -/
theorem not_hi (o : Fin 128) (ho : (o : ℕ) < 64) (j : Fin 4096) : (ix2 o j : S128x4096.Idx) ∉ hiRect.set := fun h => by
  have h' : 64 ≤ (o : ℕ) := (Rect.mem_set_unit.mp h 0).1
  omega

/-- The first head's rows are in its rectangle. -/
theorem lo_emb (o : Fin 128) (ho : (o : ℕ) < 64) (j : Fin 4096) :
    (ix2 o j : S128x4096.Idx) = loRect.emb (ix2 (n0 := 64) ⟨o, ho⟩ j) := by
  funext a
  apply Fin.ext
  match a with
  | ⟨0, _⟩ => show (o : ℕ) = 0 + 1 * (o : ℕ); omega
  | ⟨1, _⟩ => show (j : ℕ) = 0 + 1 * (j : ℕ); omega

/-- The first head's rows of the two heads' quotients. -/
theorem stacked_lo (a0 a1 : AT' Ideal) (o : Fin 128) (o' : Fin 64) (ho : (o : ℕ) < 64) (ho' : o' = ⟨o, ho⟩) (j : Fin 4096) :
    stacked a0 a1 (ix2 o j) = k0_pay96 a0 (ix2 o' j) := by
  subst ho'
  have h := View.canon_cons_of_not_mem (Val := Elt Ideal) (e := .f32) ⟨hiRect, k0_pay97 a1⟩ [⟨loRect, k0_pay96 a0⟩] (not_hi o ho j)
  refine (show stacked a0 a1 (ix2 o j) = _ from h).trans ?_
  rw [lo_emb o ho j]
  exact View.canon_cons_emb (Val := Elt Ideal) (e := .f32) loRect (k0_pay96 a0) [] _

/-- The second head's rows of the two heads' quotients. -/
theorem stacked_hi (a0 a1 : AT' Ideal) (o : Fin 128) (ho : ¬ (o : ℕ) < 64) (j : Fin 4096) :
    stacked a0 a1 (ix2 o j) = k0_pay97 a1 (ix2 ⟨o - 64, by omega⟩ j) := by
  have h1 : (ix2 o j : S128x4096.Idx) = (Rect.unit (s := S128x4096) ![64, 0] S64x4096.size inb_S128x4096_S64x4096_64_0).emb
      (ix2 ⟨o - 64, by omega⟩ j) := by
    funext a
    apply Fin.ext
    match a with
    | ⟨0, _⟩ => show (o : ℕ) = 64 + 1 * ((o : ℕ) - 64); omega
    | ⟨1, _⟩ => show (j : ℕ) = 0 + 1 * (j : ℕ); omega
  unfold stacked
  rw [h1, View.canon_cons_emb]

/-- The block a point leaves holds its queries' attention. -/
theorem outBlk_at (hA : A.Ok) {b : Fin 2} {p g : Fin 4} (hB : Blk A b p g x3 x4 x5 x6 x7) (j : Fin 4096) (o : Fin 128) :
    outBlk x3 x4 x5 x6 x7 (ix3 0 j o)
      = A.attn b ⟨p * 2 + o / 64, by omega⟩ ⟨g * 4096 + j, by omega⟩ ⟨o % 64, by omega⟩ := by
  rw [outBlk, flip_out]
  by_cases ho : (o : ℕ) < 64
  · rw [stacked_lo _ _ _ _ ho rfl, quot0]
    refine (quotient_at hA hB 0 ⟨o, ho⟩ j).trans ?_
    congr 1
    · apply Fin.ext; show (p : ℕ) * 2 + 0 = p * 2 + o / 64; omega
    · apply Fin.ext; show (o : ℕ) = o % 64; omega
  · rw [stacked_hi _ _ _ ho, quot1]
    refine (quotient_at hA hB 1 ⟨o - 64, by omega⟩ j).trans ?_
    congr 1
    · apply Fin.ext; show (p : ℕ) * 2 + 1 = p * 2 + o / 64; omega
    · apply Fin.ext; show (o : ℕ) - 64 = o % 64; omega

end Cert.Proof.Attn

end
-- ==== Proof.Entry.lean ====
module

public import proofs.«01_k».proof.Proof.Host
public import Idealize.ShloMosaic.Lib.Claim

/-!
# What the call finds

Each of the call's five input arrays holds the layout of the arguments that `Host` writes as one expression.
-/

@[expose] public section

set_option maxRecDepth 16384

noncomputable section

namespace Cert.Proof.Attn

open Cert.KernelIdeal Cert.KernelIdeal.Gen
open Idealize.ShloMosaic Idealize.SL.Sem Idealize.ShloMosaic.TcCoe

variable {F : FTy → Type} [FloatOps F]

variable (m : (ℓ : Loc nD τ sig) → Buf (Elt F) ℓ) (c : Dev nD)

/-- The contents of one buffer on a device. -/
abbrev A (r : Ref sig .tc) := m ((c.tc : Thread nD τ).loc r)

/-- The call finds the queries laid out. -/
theorem V_q : V m c main_v8 = qArr (A m c main_arg0) (A m c main_arg1) qscale := by
  show StableHlo.after (List.flatten [hostOps0, hostOps0_1, hostOps0_2, hostOps0_3, hostOps0_4, hostOps0_5, hostOps0_6]) _
    (Proc.devRef .tc main_v8) = _
  simp only [hostOps0, hostOps0_1, hostOps0_2, hostOps0_3, hostOps0_4, hostOps0_5, hostOps0_6, List.flatten_cons, List.flatten_nil,
    List.append_nil, List.cons_append, List.nil_append]
  after_results_simp
  after_results_loop
  have e1 : ∀ u : (⟨S2x16384x8x96, .f32⟩ : BufTy).Contents (Elt F),
      (StableHlo.TRef.of main_v5 : StableHlo.TRef sig ⟨S2x16384x8x96, .f32⟩).ofBuf u = u := fun _ => rfl
  have e2 : ∀ u : (⟨S2x16384x8x128, .f32⟩ : BufTy).Contents (Elt F),
      (StableHlo.TRef.of main_v6 : StableHlo.TRef sig ⟨S2x16384x8x128, .f32⟩).toBuf u = u := fun _ => rfl
  have e3 : ∀ u : (⟨S_, .i32⟩ : BufTy).Contents (Elt F),
      (StableHlo.TRef.of main_c : StableHlo.TRef sig ⟨S_, .i32⟩).ofBuf u = u := fun _ => rfl
  rw [StableHlo.TRef.ofBuf_toBuf, e1, e2, e3]
  unfold qArr qscale
  rfl

/-- The call finds the context's keys laid out. -/
theorem V_kc : V m c main_v14 = kcArr (A m c main_arg2) (A m c main_arg3) := by
  show StableHlo.after (List.flatten [hostOps0, hostOps0_1, hostOps0_2, hostOps0_3, hostOps0_4, hostOps0_5, hostOps0_6]) _
    (Proc.devRef .tc main_v14) = _
  simp only [hostOps0, hostOps0_1, hostOps0_2, hostOps0_3, hostOps0_4, hostOps0_5, hostOps0_6, List.flatten_cons, List.flatten_nil,
    List.append_nil, List.cons_append, List.nil_append]
  after_results_simp
  after_results_loop
  have e1 : ∀ u : (⟨S2x256x8x96, .f32⟩ : BufTy).Contents (Elt F),
      (StableHlo.TRef.of main_v11 : StableHlo.TRef sig ⟨S2x256x8x96, .f32⟩).ofBuf u = u := fun _ => rfl
  have e2 : ∀ u : (⟨S2x256x8x128, .f32⟩ : BufTy).Contents (Elt F),
      (StableHlo.TRef.of main_v12 : StableHlo.TRef sig ⟨S2x256x8x128, .f32⟩).toBuf u = u := fun _ => rfl
  have e3 : ∀ u : (⟨S_, .i32⟩ : BufTy).Contents (Elt F),
      (StableHlo.TRef.of main_c_1 : StableHlo.TRef sig ⟨S_, .i32⟩).ofBuf u = u := fun _ => rfl
  rw [StableHlo.TRef.ofBuf_toBuf, e1, e2, e3]
  unfold kcArr
  rfl

/-- The call finds the context's values laid out. -/
theorem V_vc : V m c main_v20 = vcArr (A m c main_arg4) := by
  show StableHlo.after (List.flatten [hostOps0, hostOps0_1, hostOps0_2, hostOps0_3, hostOps0_4, hostOps0_5, hostOps0_6]) _
    (Proc.devRef .tc main_v20) = _
  simp only [hostOps0, hostOps0_1, hostOps0_2, hostOps0_3, hostOps0_4, hostOps0_5, hostOps0_6, List.flatten_cons, List.flatten_nil,
    List.append_nil, List.cons_append, List.nil_append]
  after_results_simp
  have key : ∀ (x : Vec F S2x8x1x64x256 .f32) (y : Vec F S2x8x1x1x256 .f32) (z : Vec F S2x8x1x15x256 .f32),
      x = vcArrRows (A m c main_arg4) → y = broadcastInDim S2x8x1x1x256 ![] bcast_S_S2x8x1x1x256 (constant S_ .f32 0x3F800000#32) →
      z = broadcastInDim S2x8x1x15x256 ![] bcast_S_S2x8x1x15x256 (constant S_ .f32 0x00000000#32) →
      truncf .bf16 (concatenate S2x8x1x80x256 3 [⟨S2x8x1x64x256, x⟩, ⟨S2x8x1x1x256, y⟩, ⟨S2x8x1x15x256, z⟩]
        concatenates_S2x8x1x64x256_S2x8x1x1x256_S2x8x1x15x256_S2x8x1x80x256_d3) bitsLt_bf16_f32 = vcArr (A m c main_arg4) := by
    rintro _ _ _ rfl rfl rfl
    rfl
  refine key _ _ _ ?_ ?_ ?_
  · dsimp only [Matrix.cons_val]
    after_results_simp
    unfold vcArrRows
    rfl
  · dsimp only [Matrix.cons_val]
    after_results_simp
  · dsimp only [Matrix.cons_val]
    after_results_simp

/-- The call finds the sequence's keys laid out. -/
theorem V_kx : V m c main_v26 = kxArr (A m c main_arg5) (A m c main_arg6) := by
  show StableHlo.after (List.flatten [hostOps0, hostOps0_1, hostOps0_2, hostOps0_3, hostOps0_4, hostOps0_5, hostOps0_6]) _
    (Proc.devRef .tc main_v26) = _
  simp only [hostOps0, hostOps0_1, hostOps0_2, hostOps0_3, hostOps0_4, hostOps0_5, hostOps0_6, List.flatten_cons, List.flatten_nil,
    List.append_nil, List.cons_append, List.nil_append]
  after_results_simp
  after_results_loop
  have e1 : ∀ u : (⟨S2x16384x8x96, .f32⟩ : BufTy).Contents (Elt F),
      (StableHlo.TRef.of main_v23 : StableHlo.TRef sig ⟨S2x16384x8x96, .f32⟩).ofBuf u = u := fun _ => rfl
  have e2 : ∀ u : (⟨S2x16384x8x128, .f32⟩ : BufTy).Contents (Elt F),
      (StableHlo.TRef.of main_v24 : StableHlo.TRef sig ⟨S2x16384x8x128, .f32⟩).toBuf u = u := fun _ => rfl
  have e3 : ∀ u : (⟨S_, .i32⟩ : BufTy).Contents (Elt F),
      (StableHlo.TRef.of main_c_4 : StableHlo.TRef sig ⟨S_, .i32⟩).ofBuf u = u := fun _ => rfl
  rw [StableHlo.TRef.ofBuf_toBuf, e1, e2, e3]
  unfold kxArr
  rfl

/-- The call finds the sequence's values laid out. -/
theorem V_vx : V m c main_v32 = vxArr (A m c main_arg7) := by
  show StableHlo.after (List.flatten [hostOps0, hostOps0_1, hostOps0_2, hostOps0_3, hostOps0_4, hostOps0_5, hostOps0_6]) _
    (Proc.devRef .tc main_v32) = _
  simp only [hostOps0, hostOps0_1, hostOps0_2, hostOps0_3, hostOps0_4, hostOps0_5, hostOps0_6, List.flatten_cons, List.flatten_nil,
    List.append_nil, List.cons_append, List.nil_append]
  after_results_simp
  have key : ∀ (x : Vec F S2x8x32x64x512 .f32) (y : Vec F S2x8x32x1x512 .f32) (z : Vec F S2x8x32x15x512 .f32),
      x = vxArrRows (A m c main_arg7) → y = broadcastInDim S2x8x32x1x512 ![] bcast_S_S2x8x32x1x512 (constant S_ .f32 0x3F800000#32) →
      z = broadcastInDim S2x8x32x15x512 ![] bcast_S_S2x8x32x15x512 (constant S_ .f32 0x00000000#32) →
      truncf .bf16 (concatenate S2x8x32x80x512 3 [⟨S2x8x32x64x512, x⟩, ⟨S2x8x32x1x512, y⟩, ⟨S2x8x32x15x512, z⟩]
        concatenates_S2x8x32x64x512_S2x8x32x1x512_S2x8x32x15x512_S2x8x32x80x512_d3) bitsLt_bf16_f32 = vxArr (A m c main_arg7) := by
    rintro _ _ _ rfl rfl rfl
    rfl
  refine key _ _ _ ?_ ?_ ?_
  · dsimp only [Matrix.cons_val]
    after_results_simp
    unfold vxArrRows
    rfl
  · dsimp only [Matrix.cons_val]
    after_results_simp
  · dsimp only [Matrix.cons_val]
    after_results_simp

end Cert.Proof.Attn

end
-- ==== Proof.Enter.lean ====
module

public import Idealize.ShloMosaic.Lib.Pipeline.Value
public import proofs.«01_k».proof.Proof.Trips

/-! # The loops from where the body enters them -/

@[expose] public section

set_option maxRecDepth 16384

noncomputable section

namespace Cert.Proof.Attn

open Cert.KernelIdeal Cert.KernelIdeal.Gen
open Idealize.ShloMosaic Idealize.ShloMosaic.TcCoe

variable {F : FTy → Type} [FloatOps F] {sp8 sp11 : Space}

/-! ## The body's loops from where the body enters them -/

theorem zero3 : (![0, 0, 0] : Fin 3 → ℕ) = fun _ => 0 := by funext a; fin_cases a <;> rfl
/-- The two-coordinate origin is the zero offset. -/
theorem zero2 : (![0, 0] : Fin 2 → ℕ) = fun _ => 0 := by funext a; fin_cases a <;> rfl

/-- The excess buffer, filled with zeros, holds a zero row for each head. -/
theorem ex_row0 (v : View sig .tc .vmem S2x1x4096 .f32) (f : v.ty.Contents (Elt F)) :
    v.readAt (Elt F) mrow0.toLoadRect (v.writes (Elt F) f [⟨Rect.unit (s := S2x1x4096) ![0, 0, 0] S2x1x4096.size inb_S2x1x4096_S2x1x4096_0_0_0, k0_pay82⟩]) = exZero (F := F) := by
  have e := View.read_writes_eq_canon v f [(⟨Rect.unit (s := S2x1x4096) ![0, 0, 0] S2x1x4096.size inb_S2x1x4096_S2x1x4096_0_0_0, k0_pay82⟩ : View.Piece (Elt F) S2x1x4096 .f32)]
    (fun y => ⟨_, List.mem_singleton_self _, View.mem_set_unit_zero zero3 inb_S2x1x4096_S2x1x4096_0_0_0 y⟩)
  rw [View.canon_unit_zero zero3] at e
  funext j
  exact congrFun e (mrow0.idx j)
/-- The excess buffer, filled with zeros, holds a zero row for each head. -/
theorem ex_row1 (v : View sig .tc .vmem S2x1x4096 .f32) (f : v.ty.Contents (Elt F)) :
    v.readAt (Elt F) mrow1.toLoadRect (v.writes (Elt F) f [⟨Rect.unit (s := S2x1x4096) ![0, 0, 0] S2x1x4096.size inb_S2x1x4096_S2x1x4096_0_0_0, k0_pay82⟩]) = exZero (F := F) := by
  have e := View.read_writes_eq_canon v f [(⟨Rect.unit (s := S2x1x4096) ![0, 0, 0] S2x1x4096.size inb_S2x1x4096_S2x1x4096_0_0_0, k0_pay82⟩ : View.Piece (Elt F) S2x1x4096 .f32)]
    (fun y => ⟨_, List.mem_singleton_self _, View.mem_set_unit_zero zero3 inb_S2x1x4096_S2x1x4096_0_0_0 y⟩)
  rw [View.canon_unit_zero zero3] at e
  funext j
  exact congrFun e (mrow1.idx j)

/-- The lazy loop's passes, four tiles each, walk thirty-two tiles. -/
theorem trips1 : 4 * Scf.trips k0_t1_loop.lb k0_t1_loop.ub k0_t1_loop.st = 32 := by decide
/-- The first head's exact loop walks thirty-two tiles. -/
theorem trips2 : Scf.trips k0_t2_loop.lb k0_t2_loop.ub k0_t2_loop.st = 32 := by decide
/-- The second head's exact loop walks thirty-two tiles. -/
theorem trips3 : Scf.trips k0_t3_loop.lb k0_t3_loop.ub k0_t3_loop.st = 32 := by decide

section Enter
variable (𝒱 : Variants) (c : Dev nD) (bd : Option 𝒱.V) (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x2x1x80x256 .bf16) (harg5 : arg5.IsWhole) (arg6 : Memref sig .tc .vmem S1x16384x256 .bf16) (harg6 : arg6.IsWhole) (arg7 : Memref sig .tc .vmem S1x2x32x80x512 .bf16) (harg7 : arg7.IsWhole) (arg8 : Memref sig .tc .vmem S1x4096x128 .bf16) (harg8 : arg8.IsWhole) (arg9 : Memref sig .tc .vmem S2x1x4096 .f32) (harg9 : arg9.IsWhole) (arg10 : Memref sig .tc .vmem S2x80x4096 .f32) (harg10 : arg10.IsWhole) (arg11 : Memref sig .tc .vmem S128x4096 .f32) (harg11 : arg11.IsWhole) (arg12 : Memref sig .tc .vmem S2x1x4096 .f32) (harg12 : arg12.IsWhole)
  (q0 q1 : QT F) (X6 : arg6.view.ty.Contents (Elt F)) (X7 : arg7.view.ty.Contents (Elt F))

section
variable (kc : Vec F S1x256x128 .bf16)

/-- Head 0's rows after the trusting loop, entered with the context's tile taken and no excess. -/
theorem lazy_rows0 (m0 m1 : MT' F) (a0 a1 : AT' F) :
    rows0 arg9.view arg10.view arg12.view
        (arg9.view.writes (Elt F) arg9.view.junk ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).1 ++ [⟨mrow1, m1⟩, ⟨mrow0, m0⟩]))
        (arg10.view.writes (Elt F) arg10.view.junk ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).2.1 ++ [⟨arow1, a1⟩, ⟨arow0, a0⟩]))
        (arg12.view.writes (Elt F) arg12.view.junk ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).2.2 ++ [⟨Rect.unit (s := S2x1x4096) ![0, 0, 0] S2x1x4096.size inb_S2x1x4096_S2x1x4096_0_0_0, k0_pay82⟩]))
      = lazyEnd q0 (ktile (arg6.view.read (Elt F) X6) 0) (vtile (arg7.view.read (Elt F) X7) 0) (m0, a0) := by
  rw [View.writes_append, View.writes_append, View.writes_append]
  refine (loop1_rows0 𝒱 c bd i arg3 harg3 arg4 harg4 arg5 harg5 arg6 harg6 arg7 harg7 arg8 harg8 arg9 harg9 arg10 harg10 arg11 harg11 arg12 harg12 q0 q1 kc X6 X7 _ _ _ (Scf.trips k0_t1_loop.lb k0_t1_loop.ub k0_t1_loop.st) (Nat.le_refl _)).trans ?_
  unfold lazyEnd
  rw [trips1]
  congr 1
  exact Prod.ext ((mmiss01 arg9.view _ _ _).trans (mhit0 arg9.view _ _ _)) (Prod.ext ((amiss01 arg10.view _ _ _).trans (ahit0 arg10.view _ _ _)) (ex_row0 arg12.view _))

/-- Head 1's rows after the trusting loop, entered with the context's tile taken and no excess. -/
theorem lazy_rows1 (m0 m1 : MT' F) (a0 a1 : AT' F) :
    rows1 arg9.view arg10.view arg12.view
        (arg9.view.writes (Elt F) arg9.view.junk ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).1 ++ [⟨mrow1, m1⟩, ⟨mrow0, m0⟩]))
        (arg10.view.writes (Elt F) arg10.view.junk ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).2.1 ++ [⟨arow1, a1⟩, ⟨arow0, a0⟩]))
        (arg12.view.writes (Elt F) arg12.view.junk ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).2.2 ++ [⟨Rect.unit (s := S2x1x4096) ![0, 0, 0] S2x1x4096.size inb_S2x1x4096_S2x1x4096_0_0_0, k0_pay82⟩]))
      = lazyEnd q1 (ktile (arg6.view.read (Elt F) X6) 1) (vtile (arg7.view.read (Elt F) X7) 1) (m1, a1) := by
  rw [View.writes_append, View.writes_append, View.writes_append]
  refine (loop1_rows1 𝒱 c bd i arg3 harg3 arg4 harg4 arg5 harg5 arg6 harg6 arg7 harg7 arg8 harg8 arg9 harg9 arg10 harg10 arg11 harg11 arg12 harg12 q0 q1 kc X6 X7 _ _ _ (Scf.trips k0_t1_loop.lb k0_t1_loop.ub k0_t1_loop.st) (Nat.le_refl _)).trans ?_
  unfold lazyEnd
  rw [trips1]
  congr 1
  exact Prod.ext (mhit1 arg9.view _ _ _) (Prod.ext (ahit1 arg10.view _ _ _) (ex_row1 arg12.view _))

/-- Head 0's accumulator after the trusting loop. -/
theorem lazy_acc0 (m0 m1 : MT' F) (a0 a1 : AT' F) (q : QT F) (s : MT' F × AT' F) (hq : q0 = q) (hs : (m0, a0) = s) :
    arg10.view.readCov ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).2.1 ++ [⟨arow1, a1⟩, ⟨arow0, a0⟩]) arow0.toLoadRect
      = (lazyEnd q (ktile (arg6.view.read (Elt F) X6) 0) (vtile (arg7.view.read (Elt F) X7) 0) s).2.1 := by
  subst hq hs
  exact congrArg (fun s => s.2.1) (lazy_rows0 𝒱 c bd i arg3 harg3 arg4 harg4 arg5 harg5 arg6 harg6 arg7 harg7 arg8 harg8 arg9 harg9 arg10 harg10 arg11 harg11 arg12 harg12 q0 q1 X6 X7 kc m0 m1 a0 a1)

/-- Head 0's excess after the trusting loop is the trusting state's. -/
theorem lazy_ex0 (m0 m1 : MT' F) (a0 a1 : AT' F) (q : QT F) (s : MT' F × AT' F) (hq : q0 = q) (hs : (m0, a0) = s) :
    (arg12.view.readCov ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).2.2 ++ [⟨Rect.unit (s := S2x1x4096) ![0, 0, 0] S2x1x4096.size inb_S2x1x4096_S2x1x4096_0_0_0, k0_pay82⟩]) mrow0.toLoadRect)
      = (lazyEnd q (ktile (arg6.view.read (Elt F) X6) 0) (vtile (arg7.view.read (Elt F) X7) 0) s).2.2 := by
  subst hq hs
  exact congrArg (fun s => s.2.2) (lazy_rows0 𝒱 c bd i arg3 harg3 arg4 harg4 arg5 harg5 arg6 harg6 arg7 harg7 arg8 harg8 arg9 harg9 arg10 harg10 arg11 harg11 arg12 harg12 q0 q1 X6 X7 kc m0 m1 a0 a1)

/-- Head 0's excess after the trusting loop decides as the trusting state's does. -/
theorem lazy_passed0 (m0 m1 : MT' F) (a0 a1 : AT' F) (q : QT F) (s : MT' F × AT' F) (hq : q0 = q) (hs : (m0, a0) = s) :
    Passed (arg12.view.readCov ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).2.2 ++ [⟨Rect.unit (s := S2x1x4096) ![0, 0, 0] S2x1x4096.size inb_S2x1x4096_S2x1x4096_0_0_0, k0_pay82⟩]) mrow0.toLoadRect)
      = Passed (lazyEnd q (ktile (arg6.view.read (Elt F) X6) 0) (vtile (arg7.view.read (Elt F) X7) 0) s).2.2 := by
  exact congrArg Passed (lazy_ex0 𝒱 c bd i arg3 harg3 arg4 harg4 arg5 harg5 arg6 harg6 arg7 harg7 arg8 harg8 arg9 harg9 arg10 harg10 arg11 harg11 arg12 harg12 q0 q1 X6 X7 kc m0 m1 a0 a1 q s hq hs)

/-- Head 1's accumulator after the trusting loop. -/
theorem lazy_acc1 (m0 m1 : MT' F) (a0 a1 : AT' F) (q : QT F) (s : MT' F × AT' F) (hq : q1 = q) (hs : (m1, a1) = s) :
    arg10.view.readCov ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).2.1 ++ [⟨arow1, a1⟩, ⟨arow0, a0⟩]) arow1.toLoadRect
      = (lazyEnd q (ktile (arg6.view.read (Elt F) X6) 1) (vtile (arg7.view.read (Elt F) X7) 1) s).2.1 := by
  subst hq hs
  exact congrArg (fun s => s.2.1) (lazy_rows1 𝒱 c bd i arg3 harg3 arg4 harg4 arg5 harg5 arg6 harg6 arg7 harg7 arg8 harg8 arg9 harg9 arg10 harg10 arg11 harg11 arg12 harg12 q0 q1 X6 X7 kc m0 m1 a0 a1)

/-- Head 1's excess after the trusting loop is the trusting state's. -/
theorem lazy_ex1 (m0 m1 : MT' F) (a0 a1 : AT' F) (q : QT F) (s : MT' F × AT' F) (hq : q1 = q) (hs : (m1, a1) = s) :
    (arg12.view.readCov ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).2.2 ++ [⟨Rect.unit (s := S2x1x4096) ![0, 0, 0] S2x1x4096.size inb_S2x1x4096_S2x1x4096_0_0_0, k0_pay82⟩]) mrow1.toLoadRect)
      = (lazyEnd q (ktile (arg6.view.read (Elt F) X6) 1) (vtile (arg7.view.read (Elt F) X7) 1) s).2.2 := by
  subst hq hs
  exact congrArg (fun s => s.2.2) (lazy_rows1 𝒱 c bd i arg3 harg3 arg4 harg4 arg5 harg5 arg6 harg6 arg7 harg7 arg8 harg8 arg9 harg9 arg10 harg10 arg11 harg11 arg12 harg12 q0 q1 X6 X7 kc m0 m1 a0 a1)

/-- Head 1's excess after the trusting loop decides as the trusting state's does. -/
theorem lazy_passed1 (m0 m1 : MT' F) (a0 a1 : AT' F) (q : QT F) (s : MT' F × AT' F) (hq : q1 = q) (hs : (m1, a1) = s) :
    Passed (arg12.view.readCov ((pb_k0_t1 𝒱 c bd i arg3 harg3 arg4 harg4 arg5 harg5 arg6 harg6 arg7 harg7 arg8 harg8 arg9 harg9 arg10 harg10 arg11 harg11 arg12 harg12 q0 q1 kc X6 X7 (arg9.view.writes (Elt F) arg9.view.junk [⟨mrow1, m1⟩, ⟨mrow0, m0⟩]) (arg10.view.writes (Elt F) arg10.view.junk [⟨arow1, a1⟩, ⟨arow0, a0⟩]) (arg12.view.writes (Elt F) arg12.view.junk [⟨Rect.unit (s := S2x1x4096) ![0, 0, 0] S2x1x4096.size inb_S2x1x4096_S2x1x4096_0_0_0, k0_pay82⟩]) (Scf.trips k0_t1_loop.lb k0_t1_loop.ub k0_t1_loop.st)).2.2 ++ [⟨Rect.unit (s := S2x1x4096) ![0, 0, 0] S2x1x4096.size inb_S2x1x4096_S2x1x4096_0_0_0, k0_pay82⟩]) mrow1.toLoadRect)
      = Passed (lazyEnd q (ktile (arg6.view.read (Elt F) X6) 1) (vtile (arg7.view.read (Elt F) X7) 1) s).2.2 := by
  exact congrArg Passed (lazy_ex1 𝒱 c bd i arg3 harg3 arg4 harg4 arg5 harg5 arg6 harg6 arg7 harg7 arg8 harg8 arg9 harg9 arg10 harg10 arg11 harg11 arg12 harg12 q0 q1 X6 X7 kc m0 m1 a0 a1 q s hq hs)

end

/-- Head 0's accumulator after its careful loop, entered with the context's tile just taken again. -/
theorem exact_acc0 (w : BitVec 1) (m : MT' F) (a : AT' F) (q : QT F) (s : MT' F × AT' F) (hq : q0 = q) (hs : (m, a) = s) (L9 : List (View.Piece (Elt F) S2x1x4096 .f32)) (L10 : List (View.Piece (Elt F) S2x80x4096 .f32)) :
    arg10.view.readCov ((pb_k0_t2 𝒱 c bd i arg3 harg3 arg4 harg4 arg5 harg5 arg6 harg6 arg7 harg7 arg8 harg8 arg9 harg9 arg10 harg10 arg11 harg11 arg12 harg12 q0 q1 w X6 X7 (arg9.view.writes (Elt F) arg9.view.junk (⟨mrow0, m⟩ :: L9)) (arg10.view.writes (Elt F) arg10.view.junk (⟨arow0, a⟩ :: L10)) (Scf.trips k0_t2_loop.lb k0_t2_loop.ub k0_t2_loop.st)).2 ++ ⟨arow0, a⟩ :: L10) arow0.toLoadRect
      = (exactSt q (ktile (arg6.view.read (Elt F) X6) 0) (vtile (arg7.view.read (Elt F) X7) 0) s 32).2 := by
  subst hq hs
  unfold View.readCov
  rw [View.writes_append]
  refine (congrArg Prod.snd (loop2_rows 𝒱 c bd i arg3 harg3 arg4 harg4 arg5 harg5 arg6 harg6 arg7 harg7 arg8 harg8 arg9 harg9 arg10 harg10 arg11 harg11 arg12 harg12 q0 q1 w X6 X7 _ _ (Scf.trips k0_t2_loop.lb k0_t2_loop.ub k0_t2_loop.st) (Nat.le_refl _))).trans ?_
  rw [trips2]
  congr 2
  exact Prod.ext (mhit0 arg9.view _ _ _) (ahit0 arg10.view _ _ _)

/-- Head 0's careful loop leaves the other head's accumulator. -/
theorem exact_other0 (w : BitVec 1) (m : MT' F) (a : AT' F) (L9 : List (View.Piece (Elt F) S2x1x4096 .f32)) (L10 : List (View.Piece (Elt F) S2x80x4096 .f32)) :
    arg10.view.readCov ((pb_k0_t2 𝒱 c bd i arg3 harg3 arg4 harg4 arg5 harg5 arg6 harg6 arg7 harg7 arg8 harg8 arg9 harg9 arg10 harg10 arg11 harg11 arg12 harg12 q0 q1 w X6 X7 (arg9.view.writes (Elt F) arg9.view.junk (⟨mrow0, m⟩ :: L9)) (arg10.view.writes (Elt F) arg10.view.junk (⟨arow0, a⟩ :: L10)) (Scf.trips k0_t2_loop.lb k0_t2_loop.ub k0_t2_loop.st)).2 ++ ⟨arow0, a⟩ :: L10) arow1.toLoadRect
      = arg10.view.readCov L10 arow1.toLoadRect := by
  unfold View.readCov
  rw [View.writes_append]
  refine (congrArg Prod.snd (loop2_other 𝒱 c bd i arg3 harg3 arg4 harg4 arg5 harg5 arg6 harg6 arg7 harg7 arg8 harg8 arg9 harg9 arg10 harg10 arg11 harg11 arg12 harg12 q0 q1 w X6 X7 _ _ (Scf.trips k0_t2_loop.lb k0_t2_loop.ub k0_t2_loop.st) (Nat.le_refl _))).trans ?_
  exact amiss10 arg10.view _ _ _

/-- Head 1's accumulator after its careful loop, entered with the context's tile just taken again. -/
theorem exact_acc1 (w : BitVec 1) (m : MT' F) (a : AT' F) (q : QT F) (s : MT' F × AT' F) (hq : q1 = q) (hs : (m, a) = s) (L9 : List (View.Piece (Elt F) S2x1x4096 .f32)) (L10 : List (View.Piece (Elt F) S2x80x4096 .f32)) :
    arg10.view.readCov ((pb_k0_t3 𝒱 c bd i arg3 harg3 arg4 harg4 arg5 harg5 arg6 harg6 arg7 harg7 arg8 harg8 arg9 harg9 arg10 harg10 arg11 harg11 arg12 harg12 q0 q1 w X6 X7 (arg9.view.writes (Elt F) arg9.view.junk (⟨mrow1, m⟩ :: L9)) (arg10.view.writes (Elt F) arg10.view.junk (⟨arow1, a⟩ :: L10)) (Scf.trips k0_t3_loop.lb k0_t3_loop.ub k0_t3_loop.st)).2 ++ ⟨arow1, a⟩ :: L10) arow1.toLoadRect
      = (exactSt q (ktile (arg6.view.read (Elt F) X6) 1) (vtile (arg7.view.read (Elt F) X7) 1) s 32).2 := by
  subst hq hs
  unfold View.readCov
  rw [View.writes_append]
  refine (congrArg Prod.snd (loop3_rows 𝒱 c bd i arg3 harg3 arg4 harg4 arg5 harg5 arg6 harg6 arg7 harg7 arg8 harg8 arg9 harg9 arg10 harg10 arg11 harg11 arg12 harg12 q0 q1 w X6 X7 _ _ (Scf.trips k0_t3_loop.lb k0_t3_loop.ub k0_t3_loop.st) (Nat.le_refl _))).trans ?_
  rw [trips3]
  congr 2
  exact Prod.ext (mhit1 arg9.view _ _ _) (ahit1 arg10.view _ _ _)

/-- Head 1's careful loop leaves the other head's accumulator. -/
theorem exact_other1 (w : BitVec 1) (m : MT' F) (a : AT' F) (L9 : List (View.Piece (Elt F) S2x1x4096 .f32)) (L10 : List (View.Piece (Elt F) S2x80x4096 .f32)) :
    arg10.view.readCov ((pb_k0_t3 𝒱 c bd i arg3 harg3 arg4 harg4 arg5 harg5 arg6 harg6 arg7 harg7 arg8 harg8 arg9 harg9 arg10 harg10 arg11 harg11 arg12 harg12 q0 q1 w X6 X7 (arg9.view.writes (Elt F) arg9.view.junk (⟨mrow1, m⟩ :: L9)) (arg10.view.writes (Elt F) arg10.view.junk (⟨arow1, a⟩ :: L10)) (Scf.trips k0_t3_loop.lb k0_t3_loop.ub k0_t3_loop.st)).2 ++ ⟨arow1, a⟩ :: L10) arow0.toLoadRect
      = arg10.view.readCov L10 arow0.toLoadRect := by
  unfold View.readCov
  rw [View.writes_append]
  refine (congrArg Prod.snd (loop3_other 𝒱 c bd i arg3 harg3 arg4 harg4 arg5 harg5 arg6 harg6 arg7 harg7 arg8 harg8 arg9 harg9 arg10 harg10 arg11 harg11 arg12 harg12 q0 q1 w X6 X7 _ _ (Scf.trips k0_t3_loop.lb k0_t3_loop.ub k0_t3_loop.st) (Nat.le_refl _))).trans ?_
  exact amiss01 arg10.view _ _ _

end Enter

section Pays
variable (x : Vec F S1x4096x128 .bf16) (q : QT F) (y : Vec F S1x256x128 .bf16) (z : Vec F S1x1x1x80x256 .bf16)
/-! The context's tile, at each place the body takes it. -/
theorem ctx0 : (k0_pay77 x y, k0_pay76 x y z) = start (k0_pay72 x) y z := rfl
/-- The second head enters the context block as the first does. -/
theorem ctx1 : (k0_pay81 q y, k0_pay80 q y z) = start q y z := rfl
/-- The first head's exact pass begins from the context block again. -/
theorem again0 : (k0_pay88 q y, k0_pay87 q y z) = start q y z := rfl
/-- The second head's exact pass begins from the context block again. -/
theorem again1 : (k0_pay94 q y, k0_pay93 q y z) = start q y z := rfl
end Pays

/-- The load of head 0's queries. -/
theorem read_q0 (v : View sig .tc sp8 S1x4096x256 .bf16) (f : v.ty.Contents (Elt F)) :
    v.readAt (Elt F) (Rect.unit (s := S1x4096x256) ![0, 0, 0] S1x4096x128.size inb_S1x4096x256_S1x4096x128_0_0_0).toLoadRect f = qslice (v.read (Elt F) f) 0 := by
  rfl
/-- The load of head 1's queries. -/
theorem read_q1 (v : View sig .tc sp8 S1x4096x256 .bf16) (f : v.ty.Contents (Elt F)) :
    v.readAt (Elt F) (Rect.unit (s := S1x4096x256) ![0, 0, 128] S1x4096x128.size inb_S1x4096x256_S1x4096x128_0_0_128).toLoadRect f = qslice (v.read (Elt F) f) 1 := by
  rfl
/-- The load of head 0's context keys. -/
theorem read_k0 (v : View sig .tc sp8 S1x256x256 .bf16) (f : v.ty.Contents (Elt F)) :
    v.readAt (Elt F) (Rect.unit (s := S1x256x256) ![0, 0, 0] S1x256x128.size inb_S1x256x256_S1x256x128_0_0_0).toLoadRect f = kctx (v.read (Elt F) f) 0 := by
  rfl
/-- The load of head 1's context keys. -/
theorem read_k1 (v : View sig .tc sp8 S1x256x256 .bf16) (f : v.ty.Contents (Elt F)) :
    v.readAt (Elt F) (Rect.unit (s := S1x256x256) ![0, 0, 128] S1x256x128.size inb_S1x256x256_S1x256x128_0_0_128).toLoadRect f = kctx (v.read (Elt F) f) 1 := by
  rfl
/-- The load of head 0's context values. -/
theorem read_v0 (v : View sig .tc sp8 S1x2x1x80x256 .bf16) (f : v.ty.Contents (Elt F)) :
    v.readAt (Elt F) (Rect.unit (s := S1x2x1x80x256) ![0, 0, 0, 0, 0] S1x1x1x80x256.size inb_S1x2x1x80x256_S1x1x1x80x256_0_0_0_0_0).toLoadRect f = vctx (v.read (Elt F) f) 0 := by
  rfl
/-- The load of head 1's context values. -/
theorem read_v1 (v : View sig .tc sp8 S1x2x1x80x256 .bf16) (f : v.ty.Contents (Elt F)) :
    v.readAt (Elt F) (Rect.unit (s := S1x2x1x80x256) ![0, 1, 0, 0, 0] S1x1x1x80x256.size inb_S1x2x1x80x256_S1x1x1x80x256_0_1_0_0_0).toLoadRect f = vctx (v.read (Elt F) f) 1 := by
  rfl

/-- What is stored of the two heads' quotients: the block, once the two accumulators are known. -/
theorem out_of (v8 : View sig .tc sp8 S1x4096x128 .bf16) (v11 : View sig .tc sp11 S128x4096 .f32) (f8 : v8.ty.Contents (Elt F))
    (a0 a1 : AT' F) (x3 : Vec F S1x4096x256 .bf16) (x4 : Vec F S1x256x256 .bf16) (x5 : Vec F S1x2x1x80x256 .bf16)
    (x6 : Vec F S1x16384x256 .bf16) (x7 : Vec F S1x2x32x80x512 .bf16) (h0 : a0 = headAcc x3 x4 x5 x6 x7 0) (h1 : a1 = headAcc x3 x4 x5 x6 x7 1) :
    v8.read (Elt F) (v8.writes (Elt F) f8 [⟨Rect.unit (s := S1x4096x128) ![0, 0, 0] S1x4096x128.size inb_S1x4096x128_S1x4096x128_0_0_0,
        k0_pay1 (k0_pay98 (v11.readCov
          [⟨Rect.unit (s := S128x4096) ![64, 0] S64x4096.size inb_S128x4096_S64x4096_64_0, k0_pay97 a1⟩,
           ⟨Rect.unit (s := S128x4096) ![0, 0] S64x4096.size inb_S128x4096_S64x4096_0_0, k0_pay96 a0⟩]
          (Rect.unit (s := S128x4096) ![0, 0] S128x4096.size inb_S128x4096_S128x4096_0_0).toLoadRect))⟩])
      = outBlk x3 x4 x5 x6 x7 := by
  subst h0 h1
  have e (X : Vec F S128x4096 .f32) : (fun j => X ((Rect.unit (s := S128x4096) ![0, 0] S128x4096.size inb_S128x4096_S128x4096_0_0).toLoadRect.idx j)) = X :=
    View.ld_unit_zero (Val := Elt F) (S := S128x4096) (e := .f32) zero2 _ X
  rw [View.readCov_eq_canon', View.read_writes_eq_canon _ _ _ (fun y => ⟨_, List.mem_singleton_self _, View.mem_set_unit_zero zero3 inb_S1x4096x128_S1x4096x128_0_0_0 y⟩),
    View.canon_unit_zero zero3]
  unfold outBlk
  exact congrArg (fun X => k0_pay1 (k0_pay98 X)) (e _)

end Cert.Proof.Attn
end
-- ==== Proof.Body.lean ====
module

public import proofs.«01_k».proof.Proof.Enter
public import proofs.«01_k».proof.Proof.Gen.KernelIdeal.Frame
public import Idealize.ShloMosaic.Lib.Tactic
public import Idealize.ShloMosaic.Lib.Pipeline.Kit

@[expose] public section
set_option maxRecDepth 16384
noncomputable section
namespace Cert.Proof.Attn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

section Whole
variable (c : Dev nD) (arg3 : Memref sig .tc .vmem S1x4096x256 .bf16) (arg4 : Memref sig .tc .vmem S1x256x256 .bf16) (arg5 : Memref sig .tc .vmem S1x2x1x80x256 .bf16)
    (f3 : arg3.view.ty.Contents (Elt F)) (f4 : arg4.view.ty.Contents (Elt F)) (f5 : arg5.view.ty.Contents (Elt F))

/-- Head `h`'s queries, transposed, as the body loads them. -/
abbrev qOf (h : ℕ) : QT F := k0_pay72 (qslice (arg3.view.read (Elt F) f3) h)
/-- Head `h`'s maximum and accumulator after the context's tile. -/
abbrev sOf (h : ℕ) : MT' F × AT' F := start (qOf arg3 f3 h) (kctx (arg4.view.read (Elt F) f4) h) (vctx (arg5.view.read (Elt F) f5) h)
end Whole

set_option maxHeartbeats 1000000 in
theorem sound_kernel (c : Dev nD) (E : Set ℕ) (i : grid0.Coords) (arg3 : Memref sig .tc .vmem S1x4096x256 .bf16) (harg3 : arg3.IsWhole) (arg4 : Memref sig .tc .vmem S1x256x256 .bf16) (harg4 : arg4.IsWhole) (arg5 : Memref sig .tc .vmem S1x2x1x80x256 .bf16) (harg5 : arg5.IsWhole) (arg6 : Memref sig .tc .vmem S1x16384x256 .bf16) (harg6 : arg6.IsWhole) (arg7 : Memref sig .tc .vmem S1x2x32x80x512 .bf16) (harg7 : arg7.IsWhole) (arg8 : Memref sig .tc .vmem S1x4096x128 .bf16) (harg8 : arg8.IsWhole) (arg9 : Memref sig .tc .vmem S2x1x4096 .f32) (harg9 : arg9.IsWhole) (arg10 : Memref sig .tc .vmem S2x80x4096 .f32) (harg10 : arg10.IsWhole) (arg11 : Memref sig .tc .vmem S128x4096 .f32) (harg11 : arg11.IsWhole) (arg12 : Memref sig .tc .vmem S2x1x4096 .f32) (harg12 : arg12.IsWhole)
    (x3 : Vec F S1x4096x256 .bf16) (x4 : Vec F S1x256x256 .bf16) (x5 : Vec F S1x2x1x80x256 .bf16) (x6 : Vec F S1x16384x256 .bf16) (x7 : Vec F S1x2x32x80x512 .bf16) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
        ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ owns (c : Thread nD τ) arg8 fullShare (outBlk x3 x4 x5 x6 x7) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
      ⊢ wp frame (wpE (defs₀ (F := F)) Variants.none c none) E (cc0_attn_x i arg3 harg3 arg4 harg4 arg5 harg5 arg6 harg6 arg7 harg7 arg8 harg8 arg9 harg9 arg10 harg10 arg11 harg11 arg12 harg12) K := by
  simp only [cc0_attn_x_eq_skeleton]; unfold cc0_attn_x_skel
  unfold owns
  iintro ⟨⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  subst hf3 hf4 hf5 hf6 hf7
  sl_exec
  split
  · rename_i hc0
    sl_exec
    split
    · rename_i hc1
      sl_exec
      sl_step
      iapply Hk
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists _; isplitr
        swap; · iexact H8
        ipureintro
        have hq0 : (sound_kernel.sl.r c arg3 f3) = (qOf arg3 f3 0) := congrArg k0_pay72 (read_q0 arg3.view f3)
        have hq1 : (sound_kernel.sl.r_1 c arg3 f3) = (qOf arg3 f3 1) := congrArg k0_pay72 (read_q1 arg3.view f3)
        have hs0 := (ctx0 _ _ _).trans (congr (congr (congrArg start hq0) (read_k0 arg4.view f4)) (read_v0 arg5.view f5))
        have hs1 := (ctx1 _ _ _).trans (congr (congr (congrArg start hq1) (read_k1 arg4.view f4)) (read_v1 arg5.view f5))
        have ha0 := (again0 _ _ _).trans (congr (congr (congrArg start hq0) (read_k0 arg4.view f4)) (read_v0 arg5.view f5))
        have ha1 := (again1 _ _ _).trans (congr (congr (congrArg start hq1) (read_k1 arg4.view f4)) (read_v1 arg5.view f5))
        refine out_of arg8.view arg11.view f8 _ _ _ _ _ _ _ ?_ ?_
        · have p : Passed (lazyEnd (qOf arg3 f3 0) (ktile (arg6.view.read (Elt F) f6) 0) (vtile (arg7.view.read (Elt F) f7) 0) (sOf arg3 arg4 arg5 f3 f4 f5 0)).2.2 :=
            (iff_of_eq (lazy_passed0 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 0) (sOf arg3 arg4 arg5 f3 f4 f5 0) hq0 hs0)).mp (show Passed (sound_kernel.sl.v51 c i arg3 harg3 arg4 harg4 arg5 harg5 arg6 harg6 arg7 harg7 arg8 harg8 arg9 harg9 arg10 harg10 arg11 harg11 arg12 harg12 f3 f4 f5 f6 f7) from hc0)
          unfold headAcc accEnd
          rw [if_pos p]
          exact (exact_other1 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 _ _ _ _ _).trans
            (exact_acc0 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 _ _ _ (qOf arg3 f3 0) (sOf arg3 arg4 arg5 f3 f4 f5 0) hq0 ha0 _ _)
        · have p : Passed (lazyEnd (qOf arg3 f3 1) (ktile (arg6.view.read (Elt F) f6) 1) (vtile (arg7.view.read (Elt F) f7) 1) (sOf arg3 arg4 arg5 f3 f4 f5 1)).2.2 :=
            (iff_of_eq (lazy_passed1 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 1) (sOf arg3 arg4 arg5 f3 f4 f5 1) hq1 hs1)).mp (show Passed (sound_kernel.sl.v60 c i arg3 harg3 arg4 harg4 arg5 harg5 arg6 harg6 arg7 harg7 arg8 harg8 arg9 harg9 arg10 harg10 arg11 harg11 arg12 harg12 f3 f4 f5 f6 f7) from hc1)
          unfold headAcc accEnd
          rw [if_pos p]
          exact (exact_acc1 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 _ _ _ (qOf arg3 f3 1) (sOf arg3 arg4 arg5 f3 f4 f5 1) hq1 ha1 _ _)
      isplitl [H9]
      · iexists _; iexists _; isplitr
        swap; · iexact H9
        ipureintro; rfl
      isplitl [H10]
      · iexists _; iexists _; isplitr
        swap; · iexact H10
        ipureintro; rfl
      isplitl [H11]
      · iexists _; iexists _; isplitr
        swap; · iexact H11
        ipureintro; rfl
      iexists _; iexists _; isplitr
      swap; · iexact H12
      ipureintro; rfl
    · rename_i hc1
      sl_exec
      sl_step
      iapply Hk
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists _; isplitr
        swap; · iexact H8
        ipureintro
        have hq0 : (sound_kernel.sl.r c arg3 f3) = (qOf arg3 f3 0) := congrArg k0_pay72 (read_q0 arg3.view f3)
        have hq1 : (sound_kernel.sl.r_1 c arg3 f3) = (qOf arg3 f3 1) := congrArg k0_pay72 (read_q1 arg3.view f3)
        have hs0 := (ctx0 _ _ _).trans (congr (congr (congrArg start hq0) (read_k0 arg4.view f4)) (read_v0 arg5.view f5))
        have hs1 := (ctx1 _ _ _).trans (congr (congr (congrArg start hq1) (read_k1 arg4.view f4)) (read_v1 arg5.view f5))
        have ha0 := (again0 _ _ _).trans (congr (congr (congrArg start hq0) (read_k0 arg4.view f4)) (read_v0 arg5.view f5))
        have ha1 := (again1 _ _ _).trans (congr (congr (congrArg start hq1) (read_k1 arg4.view f4)) (read_v1 arg5.view f5))
        refine out_of arg8.view arg11.view f8 _ _ _ _ _ _ _ ?_ ?_
        · have p : Passed (lazyEnd (qOf arg3 f3 0) (ktile (arg6.view.read (Elt F) f6) 0) (vtile (arg7.view.read (Elt F) f7) 0) (sOf arg3 arg4 arg5 f3 f4 f5 0)).2.2 :=
            (iff_of_eq (lazy_passed0 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 0) (sOf arg3 arg4 arg5 f3 f4 f5 0) hq0 hs0)).mp (show Passed (sound_kernel.sl.v51 c i arg3 harg3 arg4 harg4 arg5 harg5 arg6 harg6 arg7 harg7 arg8 harg8 arg9 harg9 arg10 harg10 arg11 harg11 arg12 harg12 f3 f4 f5 f6 f7) from hc0)
          unfold headAcc accEnd
          rw [if_pos p]
          exact (exact_acc0 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 _ _ _ (qOf arg3 f3 0) (sOf arg3 arg4 arg5 f3 f4 f5 0) hq0 ha0 _ _)
        · have p : ¬ Passed (lazyEnd (qOf arg3 f3 1) (ktile (arg6.view.read (Elt F) f6) 1) (vtile (arg7.view.read (Elt F) f7) 1) (sOf arg3 arg4 arg5 f3 f4 f5 1)).2.2 := fun z => (show ¬ Passed (sound_kernel.sl.v60 c i arg3 harg3 arg4 harg4 arg5 harg5 arg6 harg6 arg7 harg7 arg8 harg8 arg9 harg9 arg10 harg10 arg11 harg11 arg12 harg12 f3 f4 f5 f6 f7) from hc1)
            ((iff_of_eq (lazy_passed1 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 1) (sOf arg3 arg4 arg5 f3 f4 f5 1) hq1 hs1)).mpr z)
          unfold headAcc accEnd
          rw [if_neg p]
          exact (exact_other0 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 _ _ _ _ _).trans
            (lazy_acc1 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 1) (sOf arg3 arg4 arg5 f3 f4 f5 1) hq1 hs1)
      isplitl [H9]
      · iexists _; iexists _; isplitr
        swap; · iexact H9
        ipureintro; rfl
      isplitl [H10]
      · iexists _; iexists _; isplitr
        swap; · iexact H10
        ipureintro; rfl
      isplitl [H11]
      · iexists _; iexists _; isplitr
        swap; · iexact H11
        ipureintro; rfl
      iexists _; iexists _; isplitr
      swap; · iexact H12
      ipureintro; rfl
  · rename_i hc0
    sl_exec
    split
    · rename_i hc1
      sl_exec
      sl_step
      iapply Hk
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists _; isplitr
        swap; · iexact H8
        ipureintro
        have hq0 : (sound_kernel.sl.r c arg3 f3) = (qOf arg3 f3 0) := congrArg k0_pay72 (read_q0 arg3.view f3)
        have hq1 : (sound_kernel.sl.r_1 c arg3 f3) = (qOf arg3 f3 1) := congrArg k0_pay72 (read_q1 arg3.view f3)
        have hs0 := (ctx0 _ _ _).trans (congr (congr (congrArg start hq0) (read_k0 arg4.view f4)) (read_v0 arg5.view f5))
        have hs1 := (ctx1 _ _ _).trans (congr (congr (congrArg start hq1) (read_k1 arg4.view f4)) (read_v1 arg5.view f5))
        have ha0 := (again0 _ _ _).trans (congr (congr (congrArg start hq0) (read_k0 arg4.view f4)) (read_v0 arg5.view f5))
        have ha1 := (again1 _ _ _).trans (congr (congr (congrArg start hq1) (read_k1 arg4.view f4)) (read_v1 arg5.view f5))
        refine out_of arg8.view arg11.view f8 _ _ _ _ _ _ _ ?_ ?_
        · have p : ¬ Passed (lazyEnd (qOf arg3 f3 0) (ktile (arg6.view.read (Elt F) f6) 0) (vtile (arg7.view.read (Elt F) f7) 0) (sOf arg3 arg4 arg5 f3 f4 f5 0)).2.2 := fun z => (show ¬ Passed (sound_kernel.sl.v51 c i arg3 harg3 arg4 harg4 arg5 harg5 arg6 harg6 arg7 harg7 arg8 harg8 arg9 harg9 arg10 harg10 arg11 harg11 arg12 harg12 f3 f4 f5 f6 f7) from hc0)
            ((iff_of_eq (lazy_passed0 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 0) (sOf arg3 arg4 arg5 f3 f4 f5 0) hq0 hs0)).mpr z)
          unfold headAcc accEnd
          rw [if_neg p]
          exact (exact_other1 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 _ _ _ _ _).trans
            (lazy_acc0 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 0) (sOf arg3 arg4 arg5 f3 f4 f5 0) hq0 hs0)
        · have p : Passed (lazyEnd (qOf arg3 f3 1) (ktile (arg6.view.read (Elt F) f6) 1) (vtile (arg7.view.read (Elt F) f7) 1) (sOf arg3 arg4 arg5 f3 f4 f5 1)).2.2 :=
            (iff_of_eq (lazy_passed1 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 1) (sOf arg3 arg4 arg5 f3 f4 f5 1) hq1 hs1)).mp (show Passed (sound_kernel.sl.v60_1 c i arg3 harg3 arg4 harg4 arg5 harg5 arg6 harg6 arg7 harg7 arg8 harg8 arg9 harg9 arg10 harg10 arg11 harg11 arg12 harg12 f3 f4 f5 f6 f7) from hc1)
          unfold headAcc accEnd
          rw [if_pos p]
          exact (exact_acc1 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 _ _ _ (qOf arg3 f3 1) (sOf arg3 arg4 arg5 f3 f4 f5 1) hq1 ha1 _ _)
      isplitl [H9]
      · iexists _; iexists _; isplitr
        swap; · iexact H9
        ipureintro; rfl
      isplitl [H10]
      · iexists _; iexists _; isplitr
        swap; · iexact H10
        ipureintro; rfl
      isplitl [H11]
      · iexists _; iexists _; isplitr
        swap; · iexact H11
        ipureintro; rfl
      iexists _; iexists _; isplitr
      swap; · iexact H12
      ipureintro; rfl
    · rename_i hc1
      sl_exec
      sl_step
      iapply Hk
      isplitl [H3]
      · iexists f3; isplitr; · ipureintro; rfl
        iexact H3
      isplitl [H4]
      · iexists f4; isplitr; · ipureintro; rfl
        iexact H4
      isplitl [H5]
      · iexists f5; isplitr; · ipureintro; rfl
        iexact H5
      isplitl [H6]
      · iexists f6; isplitr; · ipureintro; rfl
        iexact H6
      isplitl [H7]
      · iexists f7; isplitr; · ipureintro; rfl
        iexact H7
      isplitl [H8]
      · iexists _; isplitr
        swap; · iexact H8
        ipureintro
        have hq0 : (sound_kernel.sl.r c arg3 f3) = (qOf arg3 f3 0) := congrArg k0_pay72 (read_q0 arg3.view f3)
        have hq1 : (sound_kernel.sl.r_1 c arg3 f3) = (qOf arg3 f3 1) := congrArg k0_pay72 (read_q1 arg3.view f3)
        have hs0 := (ctx0 _ _ _).trans (congr (congr (congrArg start hq0) (read_k0 arg4.view f4)) (read_v0 arg5.view f5))
        have hs1 := (ctx1 _ _ _).trans (congr (congr (congrArg start hq1) (read_k1 arg4.view f4)) (read_v1 arg5.view f5))
        have ha0 := (again0 _ _ _).trans (congr (congr (congrArg start hq0) (read_k0 arg4.view f4)) (read_v0 arg5.view f5))
        have ha1 := (again1 _ _ _).trans (congr (congr (congrArg start hq1) (read_k1 arg4.view f4)) (read_v1 arg5.view f5))
        refine out_of arg8.view arg11.view f8 _ _ _ _ _ _ _ ?_ ?_
        · have p : ¬ Passed (lazyEnd (qOf arg3 f3 0) (ktile (arg6.view.read (Elt F) f6) 0) (vtile (arg7.view.read (Elt F) f7) 0) (sOf arg3 arg4 arg5 f3 f4 f5 0)).2.2 := fun z => (show ¬ Passed (sound_kernel.sl.v51 c i arg3 harg3 arg4 harg4 arg5 harg5 arg6 harg6 arg7 harg7 arg8 harg8 arg9 harg9 arg10 harg10 arg11 harg11 arg12 harg12 f3 f4 f5 f6 f7) from hc0)
            ((iff_of_eq (lazy_passed0 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 0) (sOf arg3 arg4 arg5 f3 f4 f5 0) hq0 hs0)).mpr z)
          unfold headAcc accEnd
          rw [if_neg p]
          exact (lazy_acc0 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 0) (sOf arg3 arg4 arg5 f3 f4 f5 0) hq0 hs0)
        · have p : ¬ Passed (lazyEnd (qOf arg3 f3 1) (ktile (arg6.view.read (Elt F) f6) 1) (vtile (arg7.view.read (Elt F) f7) 1) (sOf arg3 arg4 arg5 f3 f4 f5 1)).2.2 := fun z => (show ¬ Passed (sound_kernel.sl.v60_1 c i arg3 harg3 arg4 harg4 arg5 harg5 arg6 harg6 arg7 harg7 arg8 harg8 arg9 harg9 arg10 harg10 arg11 harg11 arg12 harg12 f3 f4 f5 f6 f7) from hc1)
            ((iff_of_eq (lazy_passed1 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 1) (sOf arg3 arg4 arg5 f3 f4 f5 1) hq1 hs1)).mpr z)
          unfold headAcc accEnd
          rw [if_neg p]
          exact (lazy_acc1 Variants.none c none i arg3 harg3 arg4 harg4 arg5 harg5 arg6 harg6 arg7 harg7 arg8 harg8 arg9 harg9 arg10 harg10 arg11 harg11 arg12 harg12 (sound_kernel.sl.r c arg3 f3) (sound_kernel.sl.r_1 c arg3 f3) f6 f7 (sound_kernel.sl.r_2 c arg4 f4) _ _ _ _ (qOf arg3 f3 1) (sOf arg3 arg4 arg5 f3 f4 f5 1) hq1 hs1)
      isplitl [H9]
      · iexists _; iexists _; isplitr
        swap; · iexact H9
        ipureintro; rfl
      isplitl [H10]
      · iexists _; iexists _; isplitr
        swap; · iexact H10
        ipureintro; rfl
      isplitl [H11]
      · iexists _; iexists _; isplitr
        swap; · iexact H11
        ipureintro; rfl
      iexists _; iexists _; isplitr
      swap; · iexact H12
      ipureintro; rfl

end Cert.Proof.Attn
end
-- ==== Proof.Run.lean ====
module

public import proofs.«01_k».proof.Proof.Body
public import Idealize.ShloMosaic.Lib.Claim
public import proofs.«01_k».proof.Proof.Gen.KernelIdeal.Frame
public import Idealize.ShloMosaic.Lib.Tactic
public import Idealize.ShloMosaic.Lib.Pipeline.Kit

/-! # The launch: every grid point's body, the run of the whole program, and its frame -/

@[expose] public section
set_option maxRecDepth 16384
noncomputable section
namespace Cert.Proof.Attn
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- What each window's buffer holds after a grid point: the inputs their blocks, the output the block of the result. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlk (iblk m c 0 t) (iblk m c 1 t) (iblk m c 2 t) (iblk m c 3 t) (iblk m c 4 t)
  Φ _ := Pipeline.ΦA spec0 c
  q _ := fullShare
  owed _ := 0

/-- The arrays are as the host left them. -/
theorem A_eq (c : Dev nD) (w : Fin cfg0.W) : (dats m 0 c).A w = V m c (Pipeline.arrRef spec0 w) := by
  dsimp only [dats]

/-- Argument 0's block is left as it was found. -/
theorem after0_0 (c : Dev nD) (t : Fin cfg0.N) : (dats m 0 c).after 0 t = iblk m c 0 t := by dsimp only [dats]
/-- Argument 1's block is left as it was found. -/
theorem after0_1 (c : Dev nD) (t : Fin cfg0.N) : (dats m 0 c).after 1 t = iblk m c 1 t := by dsimp only [dats]
/-- Argument 2's block is left as it was found. -/
theorem after0_2 (c : Dev nD) (t : Fin cfg0.N) : (dats m 0 c).after 2 t = iblk m c 2 t := by dsimp only [dats]
/-- Argument 3's block is left as it was found. -/
theorem after0_3 (c : Dev nD) (t : Fin cfg0.N) : (dats m 0 c).after 3 t = iblk m c 3 t := by dsimp only [dats]
/-- Argument 4's block is left as it was found. -/
theorem after0_4 (c : Dev nD) (t : Fin cfg0.N) : (dats m 0 c).after 4 t = iblk m c 4 t := by dsimp only [dats]
/-- After a point the output's buffer holds the block of the result. -/
theorem after0_5 (c : Dev nD) (t : Fin cfg0.N) : (dats m 0 c).after 5 t = outBlk (iblk m c 0 t) (iblk m c 1 t) (iblk m c 2 t) (iblk m c 3 t) (iblk m c 4 t) := by dsimp only [dats]
/-- Argument 0's window holds its block when the step begins. -/
theorem before0_0 (c : Dev nD) (t : Fin cfg0.N) (d) : (dats m 0 c).before 0 t d = iblk m c 0 t :=
  before0_0_of m (dats m 0 c) (A_eq m c 0) (after0_0 m c) t d
/-- Argument 1's window holds its block when the step begins. -/
theorem before0_1 (c : Dev nD) (t : Fin cfg0.N) (d) : (dats m 0 c).before 1 t d = iblk m c 1 t :=
  before0_1_of m (dats m 0 c) (A_eq m c 1) (after0_1 m c) t d
/-- Argument 2's window holds its block when the step begins. -/
theorem before0_2 (c : Dev nD) (t : Fin cfg0.N) (d) : (dats m 0 c).before 2 t d = iblk m c 2 t :=
  before0_2_of m (dats m 0 c) (A_eq m c 2) (after0_2 m c) t d
/-- Argument 3's window holds its block when the step begins. -/
theorem before0_3 (c : Dev nD) (t : Fin cfg0.N) (d) : (dats m 0 c).before 3 t d = iblk m c 3 t :=
  before0_3_of m (dats m 0 c) (A_eq m c 3) (after0_3 m c) t d
/-- Argument 4's window holds its block when the step begins. -/
theorem before0_4 (c : Dev nD) (t : Fin cfg0.N) (d) : (dats m 0 c).before 4 t d = iblk m c 4 t :=
  before0_4_of m (dats m 0 c) (A_eq m c 4) (after0_4 m c) t d

/-- What a point's body is given. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it gives back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl]
  unfold Pipeline.ΦA
  rw [scopedRest0_eq]
  iintro ⟨⟨⟨⟨%g0, G0⟩, ⟨%g1, G1⟩, ⟨%g2, G2⟩, ⟨%g3, G3⟩⟩, Hr⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ _ _ _ _ (iblk m c 0 t) (iblk m c 1 t) (iblk m c 2 t) (iblk m c 3 t) (iblk m c 4 t) _)
  isplitl [H0]; · iexact H0
  isplitl [H1]; · iexact H1
  isplitl [H2]; · iexact H2
  isplitl [H3]; · iexact H3
  isplitl [H4]; · iexact H4
  isplitl [H5]; · iexists _; iexact H5
  isplitl [G0]; · iexists _; rw [owns_whole]; iexact G0
  isplitl [G1]; · iexists _; rw [owns_whole]; iexact G1
  isplitl [G2]; · iexists _; rw [owns_whole]; iexact G2
  isplitl [G3]; · iexists _; rw [owns_whole]; iexact G3
  iintro ⟨H0, H1, H2, H3, H4, H5, ⟨%e0, G0⟩, ⟨%e1, G1⟩, ⟨%e2, G2⟩, ⟨%e3, G3⟩⟩
  isplitl [G0 G1 G2 G3 Hr]
  · isplitl [G0 G1 G2 G3]
    · isplitl [G0]; · iexists e0; rw [← owns_whole]; iexact G0
      isplitl [G1]; · iexists e1; rw [← owns_whole]; iexact G1
      isplitl [G2]; · iexists e2; rw [← owns_whole]; iexact G2
      iexists e3; rw [← owns_whole]; iexact G3
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body table's row is the body. -/
theorem defs₀_row (t : Fin cfg0.N) :
    defs₀ (F := F) .tc cfg0.body (cfg0.bodyArgs t (cfg0.slots t)) = bodyAt0 t := by
  unfold defs₀; rw [Defs.onTc_tc]

/-- The obligation of the pipeline's run, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array of the pipeline ends at what the points' blocks make it, every counter at zero. -/
theorem run_counters : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.FramePost cfgs (dats m) 0 (V m)) :=
  (θ_run defs _ _).mono (fun _ h => h.1) (run_counters m ρ)

/-- The frame: the arguments end as they were launched, every counter at zero. -/
theorem frame : θ_run defs (onTc (τ := τ) (main (F := F))) ⟨m, fun _ => 0, ρ⟩ (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) (run_main m ρ)) ((θ_run defs _ _).mono (fun _ h => h.2) (run_counters m ρ))

end Cert.Proof.Attn
end
-- ==== Proof.Point.lean ====
module

public import proofs.«01_k».proof.Proof.Blocks
public import proofs.«01_k».proof.Proof.Entry
public import proofs.«01_k».proof.Proof.Run
public import Idealize.ShloMosaic.Lib.Pipeline.Value
public import Idealize.ShloMosaic.Lib.Pipeline.ValueKit
public import Idealize.ShloMosaic.Lib.Pipeline.Covers

/-!
# Where a grid point's blocks lie

A point is a batch, a pair of heads and a block of 4096 queries. Each window's block at a point is found in its array.
-/

@[expose] public section

set_option maxRecDepth 16384

noncomputable section

namespace Cert.Proof.Attn

open Cert.KernelIdeal Cert.KernelIdeal.Gen
open Idealize.ShloMosaic Idealize.SL.Sem Idealize.ShloMosaic.TcCoe

/-- A point's batch. -/
def pb (t : Fin cfg0.N) : Fin 2 := grid0.coords t 0

/-- A point's pair of heads. -/
def pp (t : Fin cfg0.N) : Fin 4 := grid0.coords t 1

/-- A point's block of queries. -/
def pg (t : Fin cfg0.N) : Fin 4 := grid0.coords t 2

/-- A small number survives as a machine word. -/
theorem word_small (n : ℕ) (h : n < 4) : (BitVec.ofNat 32 n).toNat = n := by
  rw [BitVec.toNat_ofNat]; omega

/-- Which block of the queries a point reads. -/
theorem idx0 (t : Fin cfg0.N) : win0_0.index t = ![(pb t : ℕ), pg t, pp t] := by
  have h0 := word_small (pb t) (by omega)
  have h1 := word_small (pp t) (by omega)
  have h2 := word_small (pg t) (by omega)
  funext a
  match a with
  | ⟨0, _⟩ => exact h0
  | ⟨1, _⟩ => exact h2
  | ⟨2, _⟩ => exact h1

/-- Which block of the context keys a point reads. -/
theorem idx1 (t : Fin cfg0.N) : win0_1.index t = ![(pb t : ℕ), 0, pp t] := by
  have h0 := word_small (pb t) (by omega)
  have h1 := word_small (pp t) (by omega)
  funext a
  match a with
  | ⟨0, _⟩ => exact h0
  | ⟨1, _⟩ => rfl
  | ⟨2, _⟩ => exact h1

/-- Which block of the context values a point reads. -/
theorem idx2 (t : Fin cfg0.N) : win0_2.index t = ![(pb t : ℕ), pp t, 0, 0, 0] := by
  have h0 := word_small (pb t) (by omega)
  have h1 := word_small (pp t) (by omega)
  funext a
  match a with
  | ⟨0, _⟩ => exact h0
  | ⟨1, _⟩ => exact h1
  | ⟨2, _⟩ => rfl
  | ⟨3, _⟩ => rfl
  | ⟨4, _⟩ => rfl

/-- Which block of the sequence keys a point reads. -/
theorem idx3 (t : Fin cfg0.N) : win0_3.index t = ![(pb t : ℕ), 0, pp t] := by
  have h0 := word_small (pb t) (by omega)
  have h1 := word_small (pp t) (by omega)
  funext a
  match a with
  | ⟨0, _⟩ => exact h0
  | ⟨1, _⟩ => rfl
  | ⟨2, _⟩ => exact h1

/-- Which block of the sequence values a point reads. -/
theorem idx4 (t : Fin cfg0.N) : win0_4.index t = ![(pb t : ℕ), pp t, 0, 0, 0] := by
  have h0 := word_small (pb t) (by omega)
  have h1 := word_small (pp t) (by omega)
  funext a
  match a with
  | ⟨0, _⟩ => exact h0
  | ⟨1, _⟩ => exact h1
  | ⟨2, _⟩ => rfl
  | ⟨3, _⟩ => rfl
  | ⟨4, _⟩ => rfl

/-- Which block of the result a point writes. -/
theorem idx5 (t : Fin cfg0.N) : win0_5.index t = ![(pb t : ℕ), pg t, pp t] := by
  have h0 := word_small (pb t) (by omega)
  have h1 := word_small (pp t) (by omega)
  have h2 := word_small (pg t) (by omega)
  funext a
  match a with
  | ⟨0, _⟩ => exact h0
  | ⟨1, _⟩ => exact h2
  | ⟨2, _⟩ => exact h1

/-- Where a point's block of the queries lies. -/
theorem read0 (X : Vec Ideal S2x16384x1024 .bf16) (t : Fin cfg0.N) (j : Fin 4096) (y : Fin 256) :
    (win0_0.blk t).view.read (Elt Ideal) X (ix3 0 j y)
      = X (ix3 (pb t) ⟨pg t * 4096 + j, by omega⟩ ⟨pp t * 256 + y, by omega⟩) := by
  rw [View.read_apply]
  show X _ = X _
  congr 1
  funext a
  apply Fin.ext
  match a with
  | ⟨0, _⟩ => show win0_0.index t 0 * 1 + 1 * 0 = _; rw [idx0]; show (pb t : ℕ) * 1 + 1 * 0 = pb t; omega
  | ⟨1, _⟩ => show win0_0.index t 1 * 4096 + 1 * (j : ℕ) = _; rw [idx0]; show (pg t : ℕ) * 4096 + 1 * j = pg t * 4096 + j; omega
  | ⟨2, _⟩ => show win0_0.index t 2 * 256 + 1 * (y : ℕ) = _; rw [idx0]; show (pp t : ℕ) * 256 + 1 * y = pp t * 256 + y; omega

/-- Where a point's block of the context keys lies. -/
theorem read1 (X : Vec Ideal S2x256x1024 .bf16) (t : Fin cfg0.N) (k : Fin 256) (y : Fin 256) :
    (win0_1.blk t).view.read (Elt Ideal) X (ix3 0 k y) = X (ix3 (pb t) k ⟨pp t * 256 + y, by omega⟩) := by
  rw [View.read_apply]
  show X _ = X _
  congr 1
  funext a
  apply Fin.ext
  match a with
  | ⟨0, _⟩ => show win0_1.index t 0 * 1 + 1 * 0 = _; rw [idx1]; show (pb t : ℕ) * 1 + 1 * 0 = pb t; omega
  | ⟨1, _⟩ => show win0_1.index t 1 * 256 + 1 * (k : ℕ) = _; rw [idx1]; show 0 * 256 + 1 * (k : ℕ) = k; omega
  | ⟨2, _⟩ => show win0_1.index t 2 * 256 + 1 * (y : ℕ) = _; rw [idx1]; show (pp t : ℕ) * 256 + 1 * (y : ℕ) = pp t * 256 + y; omega

/-- Where a point's block of the context values lies. -/
theorem read2 (X : Vec Ideal S2x8x1x80x256 .bf16) (t : Fin cfg0.N) (e : Fin 2) (r : Fin 80) (k : Fin 256) :
    (win0_2.blk t).view.read (Elt Ideal) X (ix5 0 e 0 r k) = X (ix5 (pb t) ⟨pp t * 2 + e, by omega⟩ 0 r k) := by
  rw [View.read_apply]
  show X _ = X _
  congr 1
  funext a
  apply Fin.ext
  match a with
  | ⟨0, _⟩ => show win0_2.index t 0 * 1 + 1 * 0 = _; rw [idx2]; show (pb t : ℕ) * 1 + 1 * 0 = pb t; omega
  | ⟨1, _⟩ => show win0_2.index t 1 * 2 + 1 * (e : ℕ) = _; rw [idx2]; show (pp t : ℕ) * 2 + 1 * (e : ℕ) = pp t * 2 + e; omega
  | ⟨2, _⟩ => show win0_2.index t 2 * 1 + 1 * 0 = _; rw [idx2]; show 0 * 1 + 1 * 0 = 0; omega
  | ⟨3, _⟩ => show win0_2.index t 3 * 80 + 1 * (r : ℕ) = _; rw [idx2]; show 0 * 80 + 1 * (r : ℕ) = r; omega
  | ⟨4, _⟩ => show win0_2.index t 4 * 256 + 1 * (k : ℕ) = _; rw [idx2]; show 0 * 256 + 1 * (k : ℕ) = k; omega

/-- Where a point's block of the sequence keys lies. -/
theorem read3 (X : Vec Ideal S2x16384x1024 .bf16) (t : Fin cfg0.N) (k : Fin 16384) (y : Fin 256) :
    (win0_3.blk t).view.read (Elt Ideal) X (ix3 0 k y) = X (ix3 (pb t) k ⟨pp t * 256 + y, by omega⟩) := by
  rw [View.read_apply]
  show X _ = X _
  congr 1
  funext a
  apply Fin.ext
  match a with
  | ⟨0, _⟩ => show win0_3.index t 0 * 1 + 1 * 0 = _; rw [idx3]; show (pb t : ℕ) * 1 + 1 * 0 = pb t; omega
  | ⟨1, _⟩ => show win0_3.index t 1 * 16384 + 1 * (k : ℕ) = _; rw [idx3]; show 0 * 16384 + 1 * (k : ℕ) = k; omega
  | ⟨2, _⟩ => show win0_3.index t 2 * 256 + 1 * (y : ℕ) = _; rw [idx3]; show (pp t : ℕ) * 256 + 1 * (y : ℕ) = pp t * 256 + y; omega

/-- Where a point's block of the sequence values lies. -/
theorem read4 (X : Vec Ideal S2x8x32x80x512 .bf16) (t : Fin cfg0.N) (e : Fin 2) (u : Fin 32) (r : Fin 80) (k : Fin 512) :
    (win0_4.blk t).view.read (Elt Ideal) X (ix5 0 e u r k) = X (ix5 (pb t) ⟨pp t * 2 + e, by omega⟩ u r k) := by
  rw [View.read_apply]
  show X _ = X _
  congr 1
  funext a
  apply Fin.ext
  match a with
  | ⟨0, _⟩ => show win0_4.index t 0 * 1 + 1 * 0 = _; rw [idx4]; show (pb t : ℕ) * 1 + 1 * 0 = pb t; omega
  | ⟨1, _⟩ => show win0_4.index t 1 * 2 + 1 * (e : ℕ) = _; rw [idx4]; show (pp t : ℕ) * 2 + 1 * (e : ℕ) = pp t * 2 + e; omega
  | ⟨2, _⟩ => show win0_4.index t 2 * 32 + 1 * (u : ℕ) = _; rw [idx4]; show 0 * 32 + 1 * (u : ℕ) = u; omega
  | ⟨3, _⟩ => show win0_4.index t 3 * 80 + 1 * (r : ℕ) = _; rw [idx4]; show 0 * 80 + 1 * (r : ℕ) = r; omega
  | ⟨4, _⟩ => show win0_4.index t 4 * 512 + 1 * (k : ℕ) = _; rw [idx4]; show 0 * 512 + 1 * (k : ℕ) = k; omega

/-- Where a point's block of the result lies. -/
theorem emb5 (t : Fin cfg0.N) (j : Fin 4096) (o : Fin 128) : (win0_5.blk t).view.emb (ix3 0 j o)
    = (ix3 (pb t) ⟨pg t * 4096 + j, by omega⟩ ⟨pp t * 128 + o, by omega⟩ : S2x16384x512.Idx) := by
  funext a
  apply Fin.ext
  match a with
  | ⟨0, _⟩ => show win0_5.index t 0 * 1 + 1 * 0 = _; rw [idx5]; show (pb t : ℕ) * 1 + 1 * 0 = pb t; omega
  | ⟨1, _⟩ => show win0_5.index t 1 * 4096 + 1 * (j : ℕ) = _; rw [idx5]; show (pg t : ℕ) * 4096 + 1 * j = pg t * 4096 + j; omega
  | ⟨2, _⟩ => show win0_5.index t 2 * 128 + 1 * (o : ℕ) = _; rw [idx5]; show (pp t : ℕ) * 128 + 1 * o = pp t * 128 + o; omega

/-- The blocks of the result tile it. -/
theorem covers5 : (cfg0.win 5).Covers :=
  (cfg0.win 5).covers_of_indexMap_surj rfl (by decide) fun β =>
    ⟨fun a => match a with
      | ⟨0, _⟩ => (⟨(β 0).val, (β 0).isLt⟩ : Fin 2)
      | ⟨1, _⟩ => (⟨(β 2).val, (β 2).isLt⟩ : Fin 4)
      | ⟨2, _⟩ => (⟨(β 1).val, (β 1).isLt⟩ : Fin 4), fun a => by
      have h0 := word_small (β 0).val (lt_of_lt_of_le (β 0).isLt (by decide : 2 ≤ 4))
      have h1 := word_small (β 1).val (β 1).isLt
      have h2 := word_small (β 2).val (β 2).isLt
      match a with
      | ⟨0, _⟩ => exact h0
      | ⟨1, _⟩ => exact h1
      | ⟨2, _⟩ => exact h2⟩

end Cert.Proof.Attn

end
-- ==== Proof.Result.lean ====
module

public import proofs.«01_k».proof.Proof.Point

/-!
# The kernel's result

Every grid point reads its blocks of the laid-out arrays and writes its block of the attention; the blocks tile the
result.
-/

@[expose] public section

set_option maxRecDepth 16384

noncomputable section

namespace Cert.Proof.Attn

open Cert.KernelIdeal Cert.KernelIdeal.Gen
open Idealize.ShloMosaic Idealize.SL.Sem Idealize.ShloMosaic.TcCoe

/-- The attention as the result's array: a query's row holds its eight heads of 64 entries. -/
def Args.out (A : Args) : Vec Ideal S2x16384x512 .bf16 := fun i =>
  A.attn ⟨(i 0).val, (i 0).isLt⟩ ⟨(i 2).val / 64, by have h : (i 2).val < 512 := (i 2).isLt; omega⟩
    ⟨(i 1).val, (i 1).isLt⟩ ⟨(i 2).val % 64, by omega⟩

/-- The array at an index. -/
theorem out_at (A : Args) (b : Fin 2) (i : Fin 16384) (o : Fin 512) :
    A.out (ix3 b i o) = A.attn b ⟨o / 64, by omega⟩ i ⟨o % 64, by omega⟩ := rfl

variable (m : (ℓ : Loc nD τ sig) → Buf (Elt Ideal) ℓ) (c : Dev nD)

/-- A device's eight arguments. -/
def args : Args where
  a0 := A m c main_arg0
  a1 := A m c main_arg1
  a2 := A m c main_arg2
  a3 := A m c main_arg3
  a4 := A m c main_arg4
  a5 := A m c main_arg5
  a6 := A m c main_arg6
  a7 := A m c main_arg7

/-- The blocks a point reads. -/
theorem point_blk (t : Fin cfg0.N) : Blk (args m c) (pb t) (pp t) (pg t) (iblk m c 0 t) (iblk m c 1 t) (iblk m c 2 t)
    (iblk m c 3 t) (iblk m c 4 t) where
  q j y := by
    have h : iblk m c 0 t = (win0_0.blk t).view.read (Elt Ideal) (V m c main_v8) := rfl
    rw [h, V_q]
    exact read0 _ t j y
  kc k y := by
    have h : iblk m c 1 t = (win0_1.blk t).view.read (Elt Ideal) (V m c main_v14) := rfl
    rw [h, V_kc]
    exact read1 _ t k y
  vc e r k := by
    have h : iblk m c 2 t = (win0_2.blk t).view.read (Elt Ideal) (V m c main_v20) := rfl
    rw [h, V_vc]
    exact read2 _ t e r k
  kx k y := by
    have h : iblk m c 3 t = (win0_3.blk t).view.read (Elt Ideal) (V m c main_v26) := rfl
    rw [h, V_kx]
    exact read3 _ t k y
  vx e u r k := by
    have h : iblk m c 4 t = (win0_4.blk t).view.read (Elt Ideal) (V m c main_v32) := rfl
    rw [h, V_vx]
    exact read4 _ t e u r k

/-- The block a point writes is the attention's. -/
theorem point_out (hA : (args m c).Ok) (t : Fin cfg0.N) (j : Fin 4096) (o : Fin 128) :
    outBlk (iblk m c 0 t) (iblk m c 1 t) (iblk m c 2 t) (iblk m c 3 t) (iblk m c 4 t) (ix3 0 j o)
      = (args m c).out (ix3 (pb t) ⟨pg t * 4096 + j, by omega⟩ ⟨pp t * 128 + o, by omega⟩) := by
  rw [outBlk_at hA (point_blk m c t), out_at]
  congr 1
  · apply Fin.ext; show (pp t : ℕ) * 2 + o / 64 = (pp t * 128 + o) / 64; omega
  · apply Fin.ext; show (o : ℕ) % 64 = (pp t * 128 + o) % 64; omega

/-- After the run the result's array holds the attention. -/
theorem arr_out (hA : (args m c).Ok) : (dats m 0 c).arrAt 5 (cfgs 0).N = (args m c).out := by
  refine (dats m 0 c).arrAt_eq_of_covers 5 _ covers5 fun t _ y => ?_
  rw [after0_5]
  obtain ⟨j, o, rfl⟩ : ∃ (j : Fin 4096) (o : Fin 128), y = (ix3 0 j o : S1x4096x128.Idx) := ⟨y 1, y 2, by
    funext a
    match a with
    | ⟨0, _⟩ => exact Subsingleton.elim (α := Fin 1) _ _
    | ⟨1, _⟩ => rfl
    | ⟨2, _⟩ => rfl⟩
  exact (point_out m c hA t j o).trans (congrArg (args m c).out (emb5 t j o).symm)

end Cert.Proof.Attn

end
-- ==== Proof.RefOut.lean ====
module

public import proofs.«01_k».proof.Proof.Result
public import Idealize.ShloMosaic.Lib.StableHlo.Run

/-!
# The reference's result

The reference ends with the attention of its arguments.
-/

@[expose] public section

set_option maxRecDepth 16384

noncomputable section

namespace Cert.Proof.Attn.Ref

open Cert.ReferenceIdeal Cert.ReferenceIdeal.Gen Cert.ReferenceIdeal.Value
open Idealize.ShloMosaic Idealize.SL.Sem Idealize.ShloMosaic.TcCoe

/-- The steps of the reference give the attention. -/
theorem steps_out {A : Args} (hA : A.Ok) :
    mix (vals A.a4 A.a7) (probs (exps A.rscores (tops A.rscores))) = A.out := by
  funext i
  obtain ⟨b, q, o, rfl⟩ : ∃ (b : Fin 2) (q : Fin 16384) (o : Fin 512), i = ix3 b q o := ⟨i 0, i 1, i 2, by
    funext a
    match a with
    | ⟨0, _⟩ => rfl
    | ⟨1, _⟩ => rfl
    | ⟨2, _⟩ => rfl⟩
  exact (reference_at hA b q o).trans (out_at A b q o).symm

/-- The reference's result, of arguments equal to the given. -/
theorem res_out (m : (ℓ : Loc nD τ sig) → Buf (Elt Ideal) ℓ) (c : Dev nD) {A : Args} (hA : A.Ok)
    (h0 : B m c main_arg0 = A.a0) (h1 : B m c main_arg1 = A.a1) (h2 : B m c main_arg2 = A.a2) (h3 : B m c main_arg3 = A.a3)
    (h4 : B m c main_arg4 = A.a4) (h5 : B m c main_arg5 = A.a5) (h6 : B m c main_arg6 = A.a6) (h7 : B m c main_arg7 = A.a7) :
    res_main_v24 m c = A.out := by
  rw [res_eq, refScores, h0, h1, h2, h3, h4, h5, h6, h7]
  exact steps_out hA

end Cert.Proof.Attn.Ref

end
-- ==== Proof.Finite.lean ====
module

public import proofs.«01_k».proof.Proof.Spec
public import proofs.«01_k».proof.Pre_finite_scores
public import Idealize.ShloMosaic.Lib.ReduceAll

/-!
# The precondition

The condition on the arguments, all ones, says that no query and no key has an infinite entry.
-/

@[expose] public section

set_option maxRecDepth 16384

noncomputable section

namespace Cert.Proof.Attn

open Idealize.ShloMosaic

/-- The word the condition compares with is infinity. -/
theorem wordTop : Ideal.ofBits .f32 0x7F800000#32 = (⊤ : EReal) := by
  simp [Ideal.ofBits, Ideal.ieee]

/-- A number whose absolute value is below infinity is real. -/
theorem real_of_abs_lt (x : EReal)
    (h : FloatOps.cmpf (F := Ideal) (φ := .f32) .olt (FloatOps.hostAbsf (F := Ideal) (φ := .f32) x) (Ideal.ofBits .f32 0x7F800000#32) = 1#1) :
    x = (x.toReal : EReal) := by
  rw [wordTop] at h
  induction x using EReal.rec with
  | bot => exact absurd h (by simp [FloatOps.cmpf, FloatOps.hostAbsf, Ideal.cmp])
  | top => exact absurd h (by simp [FloatOps.cmpf, FloatOps.hostAbsf, Ideal.cmp])
  | coe r => rfl

/-- The scalar shape has one index. -/
instance : Subsingleton (Cert.Pre_finite_scores.S_.Idx) := ⟨fun a b => funext fun i => i.elim0⟩

/-- The bit of one argument: every entry is finite. -/
theorem finite_of_all {s u : Shape} (axes : List (Fin s.rank)) (a : s.Idx → EReal) (w : s.Idx → EReal) (hw : ∀ i, w i = Ideal.ofBits .f32 0x7F800000#32)
    (init : u.Idx → BitVec 1) (h : s.ReducesTo axes Cert.Pre_finite_scores.S_) (hu : 0 < u.numel) (j : Cert.Pre_finite_scores.S_.Idx)
    (e : Host.reduce IntOp.andi (cmpf (F := Ideal) (φ := .f32) .olt (Host.absf a) w) init h hu j = 1#1) : Finite a := fun i => by
  have := Host.reduce_andi_all _ init h hu j e i
  refine real_of_abs_lt _ ?_
  rw [← hw i]
  exact this

/-- Two bits whose conjunction is one are both one. -/
theorem and_one {x y : BitVec 1} (h : IntOp.andi x y = 1#1) : x = 1#1 ∧ y = 1#1 := by
  revert h; revert x y; decide

/-- The condition makes the queries and the keys finite. -/
theorem ok_of_pre [hPre : Cert.Pre_finite_scores.Facts] (A : Args)
    (h : Cert.Pre_finite_scores.fn (F := Ideal) A.a0 A.a1 A.a2 A.a3 A.a4 A.a5 A.a6 A.a7 = fun _ => 1#1) : A.Ok := by
  have h := congrFun h ix0
  dsimp only [Cert.Pre_finite_scores.fn, Cert.Pre_finite_scores.fn_part1] at h
  obtain ⟨hE, h6⟩ := and_one h
  obtain ⟨hD, h5⟩ := and_one hE
  obtain ⟨hC, h3⟩ := and_one hD
  obtain ⟨hB, h2⟩ := and_one hC
  obtain ⟨h0, h1⟩ := and_one hB
  clear h hE hD hC hB
  constructor
  · exact finite_of_all _ _ _ (fun _ => rfl) _ _ _ _ h0
  · exact finite_of_all _ _ _ (fun _ => rfl) _ _ _ _ h1
  · exact finite_of_all _ _ _ (fun _ => rfl) _ _ _ _ h2
  · exact finite_of_all _ _ _ (fun _ => rfl) _ _ _ _ h3
  · exact finite_of_all _ _ _ (fun _ => rfl) _ _ _ _ h5
  · exact finite_of_all _ _ _ (fun _ => rfl) _ _ _ _ h6

end Cert.Proof.Attn

end
-- ==== Proof.Same.lean ====
module

public import proofs.«01_k».proof.Proof.Run
public import proofs.«01_k».proof.Proof.Gen.Kernel.Frame
public import proofs.«01_k».proof.Defs

/-!
# The two printings are one program

The kernel as printed for the device and as printed for the extended reals have the same text.
-/

@[expose] public section

set_option maxRecDepth 16384

noncomputable section

namespace Cert.Proof.Attn

open Idealize.ShloMosaic

attribute [local instance] Cert.Kernel.Gen.facts Cert.KernelIdeal.Gen.facts

/-- The call's body is the same. -/
theorem bodies_eq : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) => rfl

/-- The definitions are the same. -/
theorem defs_eq : Cert.Kernel.defs (F := Bits) = Cert.KernelIdeal.defs (F := Bits) :=
  congrArg (Pipeline.defs Cert.KernelIdeal.pcfgs) bodies_eq

set_option maxHeartbeats 2000000 in
/-- The main function is the same. -/
theorem mains_eq : Cert.Kernel.main (F := Bits) = Cert.KernelIdeal.main (F := Bits) := by
  funext d
  with_unfolding_all rfl

end Cert.Proof.Attn

end
-- ==== Proof.MlpRow.lean ====
module

public import proofs.«01_k».proof.Proof.Gen.Kernel2Ideal.Frame
public import Idealize.ShloMosaic.Lib.Pointwise
public import Idealize.ShloMosaic.Lib.Pipeline.Value

/-!
# One token of the output projection, the channel mixer and the final norm

The formula of one token's row, and the body of the call read at one token: the three products of the projection are one
over the mixers' outputs side by side, and the four pieces of the hidden layer are one hidden layer.
-/

@[expose] public section

set_option maxRecDepth 16384

noncomputable section

namespace Cert.Proof.Mlp

open Idealize.ShloMosaic

/-- What the call is given of one token: its row, the mixers' outputs, and its batch's gates, shift and scale. -/
structure Tok where
  /-- the residual row -/
  x : Fin 1024 → EReal
  /-- the Fourier mixing, before its linear map -/
  yf : Fin 256 → EReal
  /-- the attention -/
  att : Fin 512 → EReal
  /-- the convolution -/
  yc : Fin 256 → EReal
  /-- the gate of the mixers -/
  gate : Fin 1024 → EReal
  /-- the shift before the channel mixer -/
  shift : Fin 1024 → EReal
  /-- the scale before the channel mixer -/
  scale : Fin 1024 → EReal
  /-- the gate of the channel mixer -/
  gate' : Fin 1024 → EReal

/-- The layer's weights. -/
structure Wts where
  /-- the Fourier mixing's linear map -/
  wf : Fin 256 → Fin 256 → EReal
  /-- the output projection -/
  wo : Fin 1024 → Fin 1024 → EReal
  /-- the gains of the norm before the channel mixer -/
  n2 : Fin 1024 → EReal
  /-- the channel mixer's first product -/
  w1 : Fin 1024 → Fin 4096 → EReal
  /-- the channel mixer's second product -/
  w2 : Fin 4096 → Fin 1024 → EReal
  /-- the gains of the final norm -/
  nf : Fin 1024 → EReal

/-- A row over its root mean square, times the gains. -/
def rms (v g : Fin 1024 → EReal) (d : Fin 1024) : EReal :=
  v d * Ideal.rsqrt (Ideal.div (∑ x, v x * v x) (Ideal.ofBits .f32 0x44800000#32) + Ideal.ofBits .f32 0x358637BD#32) * g d

/-- The mixers' outputs side by side. -/
def cat (T : Tok) (W : Wts) (e : Fin 1024) : EReal :=
  if h1 : (e : ℕ) < 256 then ∑ x, T.yf x * W.wf x ⟨e, h1⟩
  else if h2 : (e : ℕ) < 768 then T.att ⟨e - 256, by omega⟩ else T.yc ⟨e - 768, by omega⟩

/-- The row after the mixers. -/
def mid (T : Tok) (W : Wts) (d : Fin 1024) : EReal := T.x d + T.gate d * ∑ e, cat T W e * W.wo e d

/-- The channel mixer's input. -/
def inp (T : Tok) (W : Wts) (d : Fin 1024) : EReal :=
  rms (mid T W) W.n2 d * (Ideal.ofBits .f32 0x3F800000#32 + T.scale d) + T.shift d

/-- A hidden unit, before its square. -/
def hid (v : Fin 1024 → EReal) (w : Fin 1024 → EReal) : EReal := max (∑ d, v d * w d) (Ideal.ofBits .f32 0x00000000#32)

/-- The row after the channel mixer. -/
def fin (T : Tok) (W : Wts) (d : Fin 1024) : EReal :=
  mid T W d + T.gate' d * ∑ f, hid (inp T W) (W.w1 · f) * hid (inp T W) (W.w1 · f) * W.w2 f d

/-- The token's row of the result. -/
def out (T : Tok) (W : Wts) (d : Fin 1024) : EReal := rms (fin T W) W.nf d

/-- A sum over the three mixers' channels. -/
theorem sum_cat (f : Fin 1024 → EReal) : ∑ e, f e
    = (∑ e : Fin 256, f ⟨e, by omega⟩) + (∑ e : Fin 512, f ⟨256 + e, by omega⟩) + ∑ e : Fin 256, f ⟨768 + e, by omega⟩ := by
  rw [show ∑ e, f e = (∑ e : Fin 768, f ⟨e, by omega⟩) + ∑ e : Fin 256, f ⟨768 + e, by omega⟩ from
      Fin.sum_univ_add (a := 768) (b := 256) f,
    show (∑ e : Fin 768, f ⟨e, by omega⟩) = (∑ e : Fin 256, f ⟨e, by omega⟩) + ∑ e : Fin 512, f ⟨256 + e, by omega⟩ from
      Fin.sum_univ_add (a := 256) (b := 512) fun e : Fin 768 => f ⟨e, by omega⟩]

/-- A sum over the four pieces of the hidden layer. -/
theorem sum_hid (f : Fin 4096 → EReal) : ∑ e, f e
    = (∑ e : Fin 1024, f ⟨e, by omega⟩) + (∑ e : Fin 1024, f ⟨1024 + e, by omega⟩)
      + (∑ e : Fin 1024, f ⟨2048 + e, by omega⟩) + ∑ e : Fin 1024, f ⟨3072 + e, by omega⟩ := by
  rw [show ∑ e, f e = (∑ e : Fin 3072, f ⟨e, by omega⟩) + ∑ e : Fin 1024, f ⟨3072 + e, by omega⟩ from
      Fin.sum_univ_add (a := 3072) (b := 1024) f,
    show (∑ e : Fin 3072, f ⟨e, by omega⟩) = (∑ e : Fin 2048, f ⟨e, by omega⟩) + ∑ e : Fin 1024, f ⟨2048 + e, by omega⟩ from
      Fin.sum_univ_add (a := 2048) (b := 1024) fun e : Fin 3072 => f ⟨e, by omega⟩,
    show (∑ e : Fin 2048, f ⟨e, by omega⟩) = (∑ e : Fin 1024, f ⟨e, by omega⟩) + ∑ e : Fin 1024, f ⟨1024 + e, by omega⟩ from
      Fin.sum_univ_add (a := 1024) (b := 1024) fun e : Fin 2048 => f ⟨e, by omega⟩]

end Cert.Proof.Mlp

namespace Cert.Proof.Mlp

open Cert.Kernel2Ideal Cert.Kernel2Ideal.Gen
open Idealize.ShloMosaic

variable {F : FTy → Type} [FloatOps F]

/-- One piece of the hidden layer added to the sum so far. -/
def piece (h : FVec F S1024x1024 .bf16) (acc : FVec F S1024x1024 .f32) (u v : Vec F S1x1024x1024 .bf16) : FVec F S1024x1024 .f32 :=
  have a : FVec F S1024x1024 .f32 := maximumf (matmul dot_S1024x1024_S1024x1024_S1024x1024_1_0_0_1_n_n none h
    (shapeCast S1024x1024 u shapeCasts_S1x1024x1024_S1024x1024) (constant S1024x1024 .f32 0x00000000#32))
    (broadcast S1024x1024 (Scalar.ofBits .f32 0x00000000#32))
  addf acc (matmul dot_S1024x1024_S1024x1024_S1024x1024_1_0_0_1_n_n none (truncf .bf16 (mulf a a) bitsLt_bf16_f32)
    (shapeCast S1024x1024 v shapeCasts_S1x1024x1024_S1024x1024) (constant S1024x1024 .f32 0x00000000#32))

/-- The first piece, from nothing. -/
theorem pay4_eq (x : FVec F S1024x1024 .f32) (g s t u v) : k0_pay4 x g s t u v
    = piece (k0_pay3 x g s t) (broadcast S1024x1024 (Scalar.ofBits .f32 0x00000000#32)) u v := rfl

/-- The other three. -/
theorem pay5_eq (h : FVec F S1024x1024 .bf16) (acc : FVec F S1024x1024 .f32) (u1 v1 u2 v2 u3 v3) :
    k0_pay5 h acc u1 v1 u2 v2 u3 v3 = piece h (piece h (piece h acc u1 v1) u2 v2) u3 v3 := rfl

end Cert.Proof.Mlp

namespace Cert.Proof.Mlp

open Cert.Kernel2Ideal Cert.Kernel2Ideal.Gen
open Idealize.ShloMosaic

variable (r d : Fin 1024)

/-- The row after the mixers, as the body sums it. -/
theorem pay2_at (p0 p1 p2 p3 p4 p5 p6 p7 p8) : k0_pay2 (F := Ideal) p0 p1 p2 p3 p4 p5 p6 p7 p8 (ix2 r d)
    = p7 (ix3 0 r d) + p8 (ix4 0 0 0 d)
      * ((∑ e : Fin 256, (∑ x : Fin 256, p0 (ix3 0 r x) * p1 (ix2 x e)) * p2 (ix2 e d))
        + (∑ x : Fin 512, p3 (ix3 0 r x) * p4 (ix2 x d)) + ∑ x : Fin 256, p5 (ix3 0 r x) * p6 (ix2 x d)) := by
  pointwise [k0_pay2]

/-- The channel mixer's input. -/
theorem pay3_at (v g s t) : k0_pay3 (F := Ideal) v g s t (ix2 r d)
    = rms (fun x => v (ix2 r x)) (fun x => g (ix2 0 x)) d * (Ideal.ofBits .f32 0x3F800000#32 + s (ix4 0 0 0 d)) + t (ix4 0 0 0 d) := by
  pointwise [k0_pay3, rms]

/-- A piece of the hidden layer. -/
theorem piece_at (h acc u v) : piece (F := Ideal) h acc u v (ix2 r d) = acc (ix2 r d)
    + ∑ f : Fin 1024, hid (fun x => h (ix2 r x)) (fun x => u (ix3 0 x f)) * hid (fun x => h (ix2 r x)) (fun x => u (ix3 0 x f))
      * v (ix3 0 f d) := by
  pointwise [piece, hid]

/-- The row after the channel mixer, normed. -/
theorem pay1_at (x acc g n) : k0_pay1 (F := Ideal) x acc g n (ix3 0 r d)
    = rms (fun k => x (ix2 r k) + g (ix4 0 0 0 k) * acc (ix2 r k)) (fun k => n (ix2 0 k)) d := by
  pointwise [k0_pay1, rms]

end Cert.Proof.Mlp

end
-- ==== Proof.MlpBlk.lean ====
module

public import proofs.«01_k».proof.Proof.MlpRow

/-!
# The block that a grid point of the channel mixer writes

When the point's blocks are rows of tokens and the layer's weights, its block of the result holds each token's row.
-/

@[expose] public section

set_option maxRecDepth 16384

noncomputable section

namespace Cert.Proof.Mlp

open Cert.Kernel2Ideal Cert.Kernel2Ideal.Gen
open Idealize.ShloMosaic

/-- A point's sixteen blocks: those of 1024 tokens and of the weights. -/
structure Blk (T : Fin 1024 → Tok) (W : Wts) (x0 : Vec Ideal S1x1024x1024 .f32) (x1 x2 x3 x4 : Vec Ideal S1x1x1x1024 .f32)
    (x5 : Vec Ideal S1x1024x256 .f32) (x6 : Vec Ideal S1x1024x512 .bf16) (x7 : Vec Ideal S1x1024x256 .bf16)
    (x8 : Vec Ideal S256x256 .bf16) (x9 : Vec Ideal S256x1024 .bf16) (x10 : Vec Ideal S512x1024 .bf16)
    (x11 : Vec Ideal S256x1024 .bf16) (x12 : Vec Ideal S1x1024 .f32) (x13 : Vec Ideal S1x1024x4096 .bf16)
    (x14 : Vec Ideal S1x4096x1024 .bf16) (x15 : Vec Ideal S1x1024 .f32) : Prop where
  x : ∀ r d, x0 (ix3 0 r d) = (T r).x d
  gate : ∀ r d, x1 (ix4 0 0 0 d) = (T r).gate d
  shift : ∀ r d, x2 (ix4 0 0 0 d) = (T r).shift d
  scale : ∀ r d, x3 (ix4 0 0 0 d) = (T r).scale d
  gate' : ∀ r d, x4 (ix4 0 0 0 d) = (T r).gate' d
  yf : ∀ r d, x5 (ix3 0 r d) = (T r).yf d
  att : ∀ r d, x6 (ix3 0 r d) = (T r).att d
  yc : ∀ r d, x7 (ix3 0 r d) = (T r).yc d
  wf : ∀ e d, x8 (ix2 e d) = W.wf e d
  wof : ∀ (e : Fin 256) d, x9 (ix2 e d) = W.wo ⟨e, by omega⟩ d
  woa : ∀ (e : Fin 512) d, x10 (ix2 e d) = W.wo ⟨256 + e, by omega⟩ d
  woc : ∀ (e : Fin 256) d, x11 (ix2 e d) = W.wo ⟨768 + e, by omega⟩ d
  n2 : ∀ d, x12 (ix2 0 d) = W.n2 d
  w1 : ∀ e f, x13 (ix3 0 e f) = W.w1 e f
  w2 : ∀ f d, x14 (ix3 0 f d) = W.w2 f d
  nf : ∀ d, x15 (ix2 0 d) = W.nf d

/-- The origin of a block of four coordinates is the zero offset. -/
theorem zero4 : (![0, 0, 0, 0] : Fin 4 → ℕ) = fun _ => 0 := by funext a; fin_cases a <;> rfl
/-- The origin of a block of three. -/
theorem zero3 : (![0, 0, 0] : Fin 3 → ℕ) = fun _ => 0 := by funext a; fin_cases a <;> rfl
/-- The origin of a block of two. -/
theorem zero2 : (![0, 0] : Fin 2 → ℕ) = fun _ => 0 := by funext a; fin_cases a <;> rfl

/-- A piece of the first product's columns. -/
theorem ld_cols (X : Vec Ideal S1x1024x4096 .bf16) (n : ℕ) (inb : ∀ a, (![0, 0, n] : Fin 3 → ℕ) a + S1x1024x1024.size a ≤ S1x1024x4096.size a)
    (x f : Fin 1024) (g : Fin 4096) (hg : n + f = g) :
    View.ld X (Rect.unit (s := S1x1024x4096) ![0, 0, n] S1x1024x1024.size inb) (ix3 0 x f) = X (ix3 0 x g) := by
  refine congrArg X (funext fun a => Fin.ext ?_)
  match a with
  | ⟨0, _⟩ => rfl
  | ⟨1, _⟩ => show 0 + 1 * (x : ℕ) = x; omega
  | ⟨2, _⟩ => show n + 1 * (f : ℕ) = g; omega

/-- A piece of the second product's rows. -/
theorem ld_rows (X : Vec Ideal S1x4096x1024 .bf16) (n : ℕ) (inb : ∀ a, (![0, n, 0] : Fin 3 → ℕ) a + S1x1024x1024.size a ≤ S1x4096x1024.size a)
    (f x : Fin 1024) (g : Fin 4096) (hg : n + f = g) :
    View.ld X (Rect.unit (s := S1x4096x1024) ![0, n, 0] S1x1024x1024.size inb) (ix3 0 f x) = X (ix3 0 g x) := by
  refine congrArg X (funext fun a => Fin.ext ?_)
  match a with
  | ⟨0, _⟩ => rfl
  | ⟨1, _⟩ => show n + 1 * (f : ℕ) = g; omega
  | ⟨2, _⟩ => show 0 + 1 * (x : ℕ) = x; omega

section
variable {T : Fin 1024 → Tok} {W : Wts} {x0 : Vec Ideal S1x1024x1024 .f32} {x1 x2 x3 x4 : Vec Ideal S1x1x1x1024 .f32}
    {x5 : Vec Ideal S1x1024x256 .f32} {x6 : Vec Ideal S1x1024x512 .bf16} {x7 : Vec Ideal S1x1024x256 .bf16}
    {x8 : Vec Ideal S256x256 .bf16} {x9 : Vec Ideal S256x1024 .bf16} {x10 : Vec Ideal S512x1024 .bf16}
    {x11 : Vec Ideal S256x1024 .bf16} {x12 : Vec Ideal S1x1024 .f32} {x13 : Vec Ideal S1x1024x4096 .bf16}
    {x14 : Vec Ideal S1x4096x1024 .bf16} {x15 : Vec Ideal S1x1024 .f32}
    (B : Blk T W x0 x1 x2 x3 x4 x5 x6 x7 x8 x9 x10 x11 x12 x13 x14 x15)
include B

/-- The row after the mixers: the three products are one. -/
theorem mid_at (r d : Fin 1024) : k0_pay2 (F := Ideal) x5 x8 x9 x6 x10 x7 x11 x0 x1 (ix2 r d) = mid (T r) W d := by
  rw [pay2_at, mid, sum_cat, B.x, B.gate r]
  congr 2
  congr 1
  · congr 1
    · refine Finset.sum_congr rfl fun e _ => ?_
      rw [B.wof]
      congr 1
      unfold cat
      rw [dif_pos e.isLt]
      exact Finset.sum_congr rfl fun x _ => by rw [B.yf, B.wf]
    · refine Finset.sum_congr rfl fun e _ => ?_
      rw [B.woa, B.att]
      congr 1
      unfold cat
      rw [dif_neg (by show ¬ 256 + (e : ℕ) < 256; omega), dif_pos (by show 256 + (e : ℕ) < 768; omega)]
      congr 1
      exact Fin.ext (by show (e : ℕ) = 256 + e - 256; omega)
  · refine Finset.sum_congr rfl fun e _ => ?_
    rw [B.woc, B.yc]
    congr 1
    unfold cat
    rw [dif_neg (by show ¬ 768 + (e : ℕ) < 256; omega), dif_neg (by show ¬ 768 + (e : ℕ) < 768; omega)]
    congr 1
    exact Fin.ext (by show (e : ℕ) = 768 + e - 768; omega)

/-- The channel mixer's input. -/
theorem inp_at (v : FVec Ideal S1024x1024 .f32) (hv : ∀ r d, v (ix2 r d) = mid (T r) W d) (r d : Fin 1024) :
    k0_pay3 (F := Ideal) v x12 x3 x2 (ix2 r d) = inp (T r) W d := by
  rw [pay3_at, inp, B.scale r, B.shift r]
  simp only [hv, B.n2]

/-- The sum of the four pieces is the sum over the hidden layer. -/
theorem acc_at (h : FVec Ideal S1024x1024 .bf16) (hh : ∀ r d, h (ix2 r d) = inp (T r) W d) (r d : Fin 1024) :
    piece (F := Ideal) h (piece h (piece h (piece h (broadcast S1024x1024 (Scalar.ofBits .f32 0x00000000#32))
      (View.ld x13 r0_8) (View.ld x14 r0_9)) (View.ld x13 r0_10) (View.ld x14 r0_11)) (View.ld x13 r0_12) (View.ld x14 r0_13))
      (View.ld x13 r0_14) (View.ld x14 r0_15) (ix2 r d)
      = ∑ f, hid (inp (T r) W) (W.w1 · f) * hid (inp (T r) W) (W.w1 · f) * W.w2 f d := by
  have e8 : ∀ x f : Fin 1024, View.ld x13 r0_8 (ix3 0 x f) = W.w1 x ⟨f, by omega⟩ := fun x f =>
    (ld_cols x13 0 _ x f ⟨f, by omega⟩ (Nat.zero_add _)).trans (B.w1 _ _)
  have e10 : ∀ x f : Fin 1024, View.ld x13 r0_10 (ix3 0 x f) = W.w1 x ⟨1024 + f, by omega⟩ := fun x f =>
    (ld_cols x13 1024 _ x f ⟨_, _⟩ rfl).trans (B.w1 _ _)
  have e12 : ∀ x f : Fin 1024, View.ld x13 r0_12 (ix3 0 x f) = W.w1 x ⟨2048 + f, by omega⟩ := fun x f =>
    (ld_cols x13 2048 _ x f ⟨_, _⟩ rfl).trans (B.w1 _ _)
  have e14 : ∀ x f : Fin 1024, View.ld x13 r0_14 (ix3 0 x f) = W.w1 x ⟨3072 + f, by omega⟩ := fun x f =>
    (ld_cols x13 3072 _ x f ⟨_, _⟩ rfl).trans (B.w1 _ _)
  have e9 : ∀ f x : Fin 1024, View.ld x14 r0_9 (ix3 0 f x) = W.w2 ⟨f, by omega⟩ x := fun f x =>
    (ld_rows x14 0 _ f x ⟨f, by omega⟩ (Nat.zero_add _)).trans (B.w2 _ _)
  have e11 : ∀ f x : Fin 1024, View.ld x14 r0_11 (ix3 0 f x) = W.w2 ⟨1024 + f, by omega⟩ x := fun f x =>
    (ld_rows x14 1024 _ f x ⟨_, _⟩ rfl).trans (B.w2 _ _)
  have e13 : ∀ f x : Fin 1024, View.ld x14 r0_13 (ix3 0 f x) = W.w2 ⟨2048 + f, by omega⟩ x := fun f x =>
    (ld_rows x14 2048 _ f x ⟨_, _⟩ rfl).trans (B.w2 _ _)
  have e15 : ∀ f x : Fin 1024, View.ld x14 r0_15 (ix3 0 f x) = W.w2 ⟨3072 + f, by omega⟩ x := fun f x =>
    (ld_rows x14 3072 _ f x ⟨_, _⟩ rfl).trans (B.w2 _ _)
  rw [sum_hid, piece_at, piece_at, piece_at, piece_at]
  simp only [hh, e8, e9, e10, e11, e12, e13, e14, e15]
  rw [show (broadcast S1024x1024 (Scalar.ofBits (F := Ideal) .f32 0x00000000#32)) (ix2 r d) = (0 : EReal) from Ideal.ofBits_zero_f32,
    zero_add]

/-- The block a point writes: each token's row. -/
theorem outBlk_at (r d : Fin 1024) : out0_16 x0 x1 x2 x3 x4 x5 x6 x7 x8 x9 x10 x11 x12 x13 x14 x15 (ix3 0 r d)
    = out (T r) W d := by
  unfold out0_16 k0_pay6
  rw [View.canon_unit_zero zero3]
  have l0 : ∀ X : Vec Ideal S1x1024x256 .f32, View.ld X r0_0 = X := fun X => View.ld_unit_zero (S := S1x1024x256) zero3 _ X
  have l0' : ∀ X : Vec Ideal S1x1024x256 .bf16, View.ld X r0_0 = X := fun X => View.ld_unit_zero (S := S1x1024x256) zero3 _ X
  have l1 : ∀ X : Vec Ideal S256x256 .bf16, View.ld X r0_1 = X := fun X => View.ld_unit_zero (S := S256x256) zero2 _ X
  have l2 : ∀ X : Vec Ideal S256x1024 .bf16, View.ld X r0_2 = X := fun X => View.ld_unit_zero (S := S256x1024) zero2 _ X
  have l3 : ∀ X : Vec Ideal S1x1024x512 .bf16, View.ld X r0_3 = X := fun X => View.ld_unit_zero (S := S1x1024x512) zero3 _ X
  have l4 : ∀ X : Vec Ideal S512x1024 .bf16, View.ld X r0_4 = X := fun X => View.ld_unit_zero (S := S512x1024) zero2 _ X
  have l5 : ∀ X : Vec Ideal S1x1024x1024 .f32, View.ld X r0_5 = X := fun X => View.ld_unit_zero (S := S1x1024x1024) zero3 _ X
  have l6 : ∀ X : Vec Ideal S1x1x1x1024 .f32, View.ld X r0_6 = X := fun X => View.ld_unit_zero (S := S1x1x1x1024) zero4 _ X
  have l7 : ∀ X : Vec Ideal S1x1024 .f32, View.ld X r0_7 = X := fun X => View.ld_unit_zero (S := S1x1024) zero2 _ X
  simp only [l0, l0', l1, l2, l3, l4, l5, l6, l7]
  rw [pay4_eq, pay5_eq, pay1_at, out]
  have hm := mid_at B
  have ha := acc_at B _ (inp_at B _ hm)
  simp only [hm, ha, B.gate' r, B.nf]
  rfl

end

end Cert.Proof.Mlp

end
-- ==== Proof.MlpHost.lean ====
module

public import proofs.«01_k».proof.Proof.MlpBlk
public import Idealize.ShloMosaic.Lib.Claim

/-!
# What the second call finds

The arrays of the second call as expressions of its arguments, each read at one index: the modulation padded and laid out by
its six parts, the weights in the smaller format, the output projection cut in three.
-/

@[expose] public section

set_option maxRecDepth 16384

noncomputable section

namespace Cert.Proof.Mlp

open Cert.Kernel2Ideal Cert.Kernel2Ideal.Gen
open Idealize.ShloMosaic Idealize.SL.Sem Idealize.ShloMosaic.TcCoe

section
variable {F : FTy → Type} [FloatOps F]

/-- The modulation: eight rows, of which two are the batches', each in six parts. -/
def modArr (a1 : Vec F S2x6144 .f32) : Vec F S8x6x1x1024 .f32 :=
  shapeCast S8x6x1x1024 (pad S8x6144 ![0, 0] ![6, 0] ![0, 0] a1 (sitofp .f32 (constantI S_ 32 0#32)) pads_S2x6144_S8x6144_060_000 h_S_)
    shapeCasts_S8x6144_S8x6x1x1024

/-- The rows of the output projection that meet the Fourier mixing. -/
def woF (a6 : Vec F S1024x1024 .f32) : Vec F S256x1024 .bf16 :=
  truncf .bf16 (extractStridedSlice S256x1024 ![0, 0] a6 slices_S1024x1024_S256x1024_0_0) bitsLt_bf16_f32

/-- The rows that meet the attention. -/
def woA (a6 : Vec F S1024x1024 .f32) : Vec F S512x1024 .bf16 :=
  truncf .bf16 (extractStridedSlice S512x1024 ![256, 0] a6 slices_S1024x1024_S512x1024_256_0) bitsLt_bf16_f32

/-- The rows that meet the convolution. -/
def woC (a6 : Vec F S1024x1024 .f32) : Vec F S256x1024 .bf16 :=
  truncf .bf16 (extractStridedSlice S256x1024 ![768, 0] a6 slices_S1024x1024_S256x1024_768_0) bitsLt_bf16_f32

/-- Gains as one row. -/
def gains (a : Vec F S1024 .f32) : Vec F S1x1024 .f32 := shapeCast S1x1024 a shapeCasts_S1024_S1x1024

variable (m : (ℓ : Loc nD τ sig) → Buf (Elt F) ℓ) (c : Dev nD)

/-- The contents of one buffer on a device. -/
abbrev A (r : Ref sig .tc) := m ((c.tc : Thread nD τ).loc r)

/-- What the call finds is what the operations before it leave, one after the other. -/
theorem V_eq (b : Ref sig .tc) : V m c b = StableHlo.after (hostOps0 ++ (hostOps0_1 ++ hostOps0_2)) (fun b => m (c, b)) (Proc.devRef .tc b) := by
  rfl

/-- The call finds the residual rows as they were given. -/
theorem V_x : V m c main_arg0 = A m c main_arg0 := by
  rw [V_eq]
  simp only [hostOps0, hostOps0_1, hostOps0_2, List.cons_append, List.nil_append]
  after_results_simp

/-- The call finds the Fourier mixing as it was given. -/
theorem V_yf : V m c main_arg2 = A m c main_arg2 := by
  rw [V_eq]
  simp only [hostOps0, hostOps0_1, hostOps0_2, List.cons_append, List.nil_append]
  after_results_simp

/-- The call finds the modulation laid out. -/
theorem V_mod : V m c main_v1 = modArr (A m c main_arg1) := by
  rw [V_eq]
  simp only [hostOps0, hostOps0_1, hostOps0_2, List.cons_append, List.nil_append]
  after_results_simp
  after_results_loop
  unfold modArr
  rfl

/-- The call finds the attention in the smaller format. -/
theorem V_att : V m c main_v12 = truncf .bf16 (A m c main_arg3 : Vec F S2x16384x512 .f32) bitsLt_bf16_f32 := by
  rw [V_eq]
  simp only [hostOps0, hostOps0_1, hostOps0_2, List.cons_append, List.nil_append]
  after_results_simp

/-- The call finds the convolution in the smaller format. -/
theorem V_yc : V m c main_v13 = truncf .bf16 (A m c main_arg4 : Vec F S2x16384x256 .f32) bitsLt_bf16_f32 := by
  rw [V_eq]
  simp only [hostOps0, hostOps0_1, hostOps0_2, List.cons_append, List.nil_append]
  after_results_simp

/-- The call finds the Fourier mixing's map in the smaller format. -/
theorem V_wf : V m c main_v2 = truncf .bf16 (A m c main_arg5 : Vec F S256x256 .f32) bitsLt_bf16_f32 := by
  rw [V_eq]
  simp only [hostOps0, hostOps0_1, hostOps0_2, List.cons_append, List.nil_append]
  after_results_simp

/-- The call finds the projection's first rows. -/
theorem V_woF : V m c main_v4 = woF (A m c main_arg6) := by
  rw [V_eq]
  simp only [hostOps0, hostOps0_1, hostOps0_2, List.cons_append, List.nil_append]
  after_results_simp
  rfl

/-- The call finds the projection's middle rows. -/
theorem V_woA : V m c main_v6 = woA (A m c main_arg6) := by
  rw [V_eq]
  simp only [hostOps0, hostOps0_1, hostOps0_2, List.cons_append, List.nil_append]
  after_results_simp
  rfl

/-- The call finds the projection's last rows. -/
theorem V_woC : V m c main_v8 = woC (A m c main_arg6) := by
  rw [V_eq]
  simp only [hostOps0, hostOps0_1, hostOps0_2, List.cons_append, List.nil_append]
  after_results_simp
  rfl

/-- The call finds the gains before the channel mixer as a row. -/
theorem V_n2 : V m c main_v9 = gains (A m c main_arg7) := by
  rw [V_eq]
  simp only [hostOps0, hostOps0_1, hostOps0_2, List.cons_append, List.nil_append]
  after_results_simp
  rfl

/-- The call finds the first products in the smaller format. -/
theorem V_w1 : V m c main_v10 = truncf .bf16 (A m c main_arg8 : Vec F S4x1024x4096 .f32) bitsLt_bf16_f32 := by
  rw [V_eq]
  simp only [hostOps0, hostOps0_1, hostOps0_2, List.cons_append, List.nil_append]
  after_results_simp

/-- The call finds the second products in the smaller format. -/
theorem V_w2 : V m c main_v11 = truncf .bf16 (A m c main_arg9 : Vec F S4x4096x1024 .f32) bitsLt_bf16_f32 := by
  rw [V_eq]
  simp only [hostOps0, hostOps0_1, hostOps0_2, List.cons_append, List.nil_append]
  after_results_simp

/-- The call finds the final gains as a row. -/
theorem V_nf : V m c main_v14 = gains (A m c main_arg10) := by
  rw [V_eq]
  simp only [hostOps0, hostOps0_1, hostOps0_2, List.cons_append, List.nil_append]
  after_results_simp
  rfl

end

/-- A part of a batch's modulation. -/
theorem modArr_at (a1 : Vec Ideal S2x6144 .f32) (b : Fin 8) (hb : (b : ℕ) < 2) (k : Fin 6) (d : Fin 1024) :
    modArr a1 (ix4 b k 0 d) = a1 (ix2 ⟨b, hb⟩ ⟨1024 * k + d, by omega⟩) := by
  pointwise [modArr]
  rw [dif_pos ⟨hb, by omega⟩]
  simp only [Nat.mul_comm]

/-- The projection's first rows at an index. -/
theorem woF_at (a6 : Vec Ideal S1024x1024 .f32) (e : Fin 256) (d : Fin 1024) : woF a6 (ix2 e d) = a6 (ix2 ⟨e, by omega⟩ d) := by
  pointwise [woF]

/-- The projection's middle rows at an index. -/
theorem woA_at (a6 : Vec Ideal S1024x1024 .f32) (e : Fin 512) (d : Fin 1024) : woA a6 (ix2 e d) = a6 (ix2 ⟨256 + e, by omega⟩ d) := by
  pointwise [woA]

/-- The projection's last rows at an index. -/
theorem woC_at (a6 : Vec Ideal S1024x1024 .f32) (e : Fin 256) (d : Fin 1024) : woC a6 (ix2 e d) = a6 (ix2 ⟨768 + e, by omega⟩ d) := by
  pointwise [woC]

/-- Gains at an index. -/
theorem gains_at (a : Vec Ideal S1024 .f32) (d : Fin 1024) : gains a (ix2 0 d) = a (ix1 d) := by
  pointwise [gains]

end Cert.Proof.Mlp

end
-- ==== Proof.MlpRef.lean ====
module

public import proofs.«01_k».proof.Proof.Gen.Reference2Ideal.Run
public import proofs.«01_k».proof.Proof.MlpRow

/-!
# The second reference at an index

The reference of the output projection, the channel mixer and the final norm, in steps, each read at one index: an entry of
its result is the formula of its token.
-/

@[expose] public section

set_option maxRecDepth 16384

noncomputable section

namespace Cert.Proof.Mlp.Ref

open Cert.Reference2Ideal Cert.Reference2Ideal.Gen Cert.Reference2Ideal.Value
open Idealize.ShloMosaic Idealize.SL.Sem Idealize.ShloMosaic.TcCoe

variable {F : FTy → Type} [FloatOps F]

/-- The contents of one buffer on a device. -/
abbrev B (m : (ℓ : Loc nD τ sig) → Buf (Elt F) ℓ) (c : Dev nD) (r : Ref sig .tc) := m ((c.tc : Thread nD τ).loc r)

/-- A batch's modulation as a row of one token. -/
def mods (a1 : Vec F S2x6144 .f32) : Vec F S2x1x6144 .f32 := broadcastInDim S2x1x6144 ![0, 2] bcast_S2x6144_S2x1x6144_0_2 a1

/-- A batch's row given to all its tokens. -/
def spread (v : Vec F S2x1x1024 .f32) : Vec F S2x16384x1024 .f32 :=
  broadcastInDim S2x16384x1024 ![0, 1, 2] bcast_S2x1x1024_S2x16384x1024_0_1_2 v

/-- The gate of the mixers. -/
def gate (a1 : Vec F S2x6144 .f32) : Vec F S2x1x1024 .f32 :=
  extractStridedSlice S2x1x1024 ![0, 0, 2048] (mods a1) slices_S2x1x6144_S2x1x1024_0_0_2048

/-- The shift before the channel mixer. -/
def shift (a1 : Vec F S2x6144 .f32) : Vec F S2x1x1024 .f32 :=
  extractStridedSlice S2x1x1024 ![0, 0, 3072] (mods a1) slices_S2x1x6144_S2x1x1024_0_0_3072

/-- The scale before the channel mixer. -/
def scale (a1 : Vec F S2x6144 .f32) : Vec F S2x1x1024 .f32 :=
  extractStridedSlice S2x1x1024 ![0, 0, 4096] (mods a1) slices_S2x1x6144_S2x1x1024_0_0_4096

/-- The gate of the channel mixer. -/
def gate' (a1 : Vec F S2x6144 .f32) : Vec F S2x1x1024 .f32 :=
  extractStridedSlice S2x1x1024 ![0, 0, 5120] (mods a1) slices_S2x1x6144_S2x1x1024_0_0_5120

/-- The mixers' outputs side by side. -/
def joined (a2 : Vec F S2x16384x256 .f32) (a3 : Vec F S2x16384x512 .f32) (a4 : Vec F S2x16384x256 .f32)
    (a5 : Vec F S256x256 .f32) : Vec F S2x16384x1024 .f32 :=
  concatenate S2x16384x1024 2 [⟨S2x16384x256, Host.dotGeneral dot_S2x16384x256_S256x256_S2x16384x256_2_0_01_1_n_n none a2 a5⟩, ⟨S2x16384x512, a3⟩, ⟨S2x16384x256, a4⟩] concatenates_S2x16384x256_S2x16384x512_S2x16384x256_S2x16384x1024_d2

/-- The rows after the mixers. -/
def mixed (a0 : Vec F S2x16384x1024 .f32) (g : Vec F S2x1x1024 .f32) (j : Vec F S2x16384x1024 .f32) (a6 : Vec F S1024x1024 .f32) :
    Vec F S2x16384x1024 .f32 :=
  addf a0 (mulf (spread g) (Host.dotGeneral dot_S2x16384x1024_S1024x1024_S2x16384x1024_2_0_01_1_n_n none j a6))

/-- Every row over its root mean square, times the gains. -/
def norm (v : Vec F S2x16384x1024 .f32) (g : Vec F S1024 .f32) : Vec F S2x16384x1024 .f32 :=
  mulf (mulf v (broadcastInDim S2x16384x1024 ![0, 1, 2] bcast_S2x16384x1_S2x16384x1024_0_1_2 (Host.rsqrt (addf (Host.divf (broadcastInDim S2x16384x1 ![0, 1] bcast_S2x16384_S2x16384x1_0_1 (Host.reduceAdd (mulf v v) (constant S_ .f32 0x00000000#32) reducesTo_S2x16384x1024_S2x16384_d2 h_S_)) (broadcastInDim S2x16384x1 ![] bcast_S_S2x16384x1 (constant S_ .f32 0x44800000#32))) (broadcastInDim S2x16384x1 ![] bcast_S_S2x16384x1 (constant S_ .f32 0x358637BD#32)))))) (broadcastInDim S2x16384x1024 ![0, 1, 2] bcast_S1x1x1024_S2x16384x1024_0_1_2 (broadcastInDim S1x1x1024 ![2] bcast_S1024_S1x1x1024_2 g))

/-- Rows scaled and shifted by their batch. -/
def moved (v : Vec F S2x16384x1024 .f32) (s t : Vec F S2x1x1024 .f32) : Vec F S2x16384x1024 .f32 :=
  addf (mulf v (spread (addf (broadcastInDim S2x1x1024 ![] bcast_S_S2x1x1024 (constant S_ .f32 0x3F800000#32)) s))) (spread t)

/-- The hidden layer, before its square. -/
def hidden (h : Vec F S2x16384x1024 .f32) (a8 : Vec F S4x1024x4096 .f32) : Vec F S2x16384x4096 .f32 :=
  maximumf (Host.dotGeneral dot_S2x16384x1024_S1024x4096_S2x16384x4096_2_0_01_1_n_n none h (shapeCast _ (extractStridedSlice S1x1024x4096 ![3, 0, 0] a8 slices_S4x1024x4096_S1x1024x4096_3_0_0) shapeCasts_S1x1024x4096_S1024x4096)) (broadcastInDim S2x16384x4096 ![] bcast_S_S2x16384x4096 (constant S_ .f32 0x00000000#32))

/-- The rows after the channel mixer. -/
def stepped (v : Vec F S2x16384x1024 .f32) (g : Vec F S2x1x1024 .f32) (u : Vec F S2x16384x4096 .f32) (a9 : Vec F S4x4096x1024 .f32) :
    Vec F S2x16384x1024 .f32 :=
  addf v (mulf (spread g) (Host.dotGeneral dot_S2x16384x4096_S4096x1024_S2x16384x1024_2_0_01_1_n_n none (mulf u u) (shapeCast _ (extractStridedSlice S1x4096x1024 ![3, 0, 0] a9 slices_S4x4096x1024_S1x4096x1024_3_0_0) shapeCasts_S1x4096x1024_S4096x1024)))

/-- The rows after the mixers, of the reference's arguments. -/
def refMixed (m : (ℓ : Loc nD τ sig) → Buf (Elt F) ℓ) (c : Dev nD) : Vec F S2x16384x1024 .f32 :=
  mixed (B m c main_arg0) (gate (B m c main_arg1)) (joined (B m c main_arg2) (B m c main_arg3) (B m c main_arg4) (B m c main_arg5))
    (B m c main_arg6)

/-- The reference's result is these steps one after the other. -/
theorem res_eq (m : (ℓ : Loc nD τ sig) → Buf (Elt F) ℓ) (c : Dev nD) : res_main_v55 m c
    = norm (stepped (refMixed m c) (gate' (B m c main_arg1)) (hidden (moved (norm (refMixed m c) (B m c main_arg7))
        (scale (B m c main_arg1)) (shift (B m c main_arg1))) (B m c main_arg8)) (B m c main_arg9)) (B m c main_arg10) := by
  unfold res_main_v55
  rfl

end Cert.Proof.Mlp.Ref

namespace Cert.Proof.Mlp

open Cert.Reference2Ideal Cert.Reference2Ideal.Gen
open Idealize.ShloMosaic

/-- The call's eleven arguments. -/
structure Args where
  /-- the residual rows -/
  a0 : Vec Ideal S2x16384x1024 .f32
  /-- the modulation -/
  a1 : Vec Ideal S2x6144 .f32
  /-- the Fourier mixing -/
  a2 : Vec Ideal S2x16384x256 .f32
  /-- the attention -/
  a3 : Vec Ideal S2x16384x512 .f32
  /-- the convolution -/
  a4 : Vec Ideal S2x16384x256 .f32
  /-- the Fourier mixing's linear map -/
  a5 : Vec Ideal S256x256 .f32
  /-- the output projection -/
  a6 : Vec Ideal S1024x1024 .f32
  /-- the gains before the channel mixer -/
  a7 : Vec Ideal S1024 .f32
  /-- the first product of all layers' channel mixers -/
  a8 : Vec Ideal S4x1024x4096 .f32
  /-- the second product of all layers' channel mixers -/
  a9 : Vec Ideal S4x4096x1024 .f32
  /-- the gains of the final norm -/
  a10 : Vec Ideal S1024 .f32

/-- One token of a batch. -/
def Args.tok (A : Args) (b : Fin 2) (i : Fin 16384) : Tok where
  x d := A.a0 (ix3 b i d)
  yf d := A.a2 (ix3 b i d)
  att d := A.a3 (ix3 b i d)
  yc d := A.a4 (ix3 b i d)
  gate d := A.a1 (ix2 b ⟨2048 + d, by omega⟩)
  shift d := A.a1 (ix2 b ⟨3072 + d, by omega⟩)
  scale d := A.a1 (ix2 b ⟨4096 + d, by omega⟩)
  gate' d := A.a1 (ix2 b ⟨5120 + d, by omega⟩)

/-- The last layer's weights. -/
def Args.wts (A : Args) : Wts where
  wf e d := A.a5 (ix2 e d)
  wo e d := A.a6 (ix2 e d)
  n2 d := A.a7 (ix1 d)
  w1 e f := A.a8 (ix3 3 e f)
  w2 f d := A.a9 (ix3 3 f d)
  nf d := A.a10 (ix1 d)

/-- The result's array: every token's row. -/
def Args.res (A : Args) : Vec Ideal S2x16384x1024 .f32 := fun i =>
  out (A.tok ⟨(i 0).val, (i 0).isLt⟩ ⟨(i 1).val, (i 1).isLt⟩) A.wts ⟨(i 2).val, (i 2).isLt⟩

/-- The array at an index. -/
theorem res_at (A : Args) (b : Fin 2) (i : Fin 16384) (d : Fin 1024) : A.res (ix3 b i d) = out (A.tok b i) A.wts d := rfl

end Cert.Proof.Mlp

namespace Cert.Proof.Mlp.Ref

open Cert.Reference2Ideal Cert.Reference2Ideal.Gen Cert.Reference2Ideal.Value
open Idealize.ShloMosaic Idealize.SL.Sem Idealize.ShloMosaic.TcCoe

/-- The mixers' gate at an index. -/
theorem gate_at (a1 : Vec Ideal S2x6144 .f32) (b : Fin 2) (d : Fin 1024) : gate a1 (ix3 b 0 d) = a1 (ix2 b ⟨2048 + d, by omega⟩) := by
  pointwise [gate, mods]

/-- The shift at an index. -/
theorem shift_at (a1 : Vec Ideal S2x6144 .f32) (b : Fin 2) (d : Fin 1024) : shift a1 (ix3 b 0 d) = a1 (ix2 b ⟨3072 + d, by omega⟩) := by
  pointwise [shift, mods]

/-- The scale at an index. -/
theorem scale_at (a1 : Vec Ideal S2x6144 .f32) (b : Fin 2) (d : Fin 1024) : scale a1 (ix3 b 0 d) = a1 (ix2 b ⟨4096 + d, by omega⟩) := by
  pointwise [scale, mods]

/-- The channel mixer's gate at an index. -/
theorem gate'_at (a1 : Vec Ideal S2x6144 .f32) (b : Fin 2) (d : Fin 1024) : gate' a1 (ix3 b 0 d) = a1 (ix2 b ⟨5120 + d, by omega⟩) := by
  pointwise [gate', mods]

/-- The mixers' outputs side by side, at an index. -/
theorem joined_at (a2 : Vec Ideal S2x16384x256 .f32) (a3 : Vec Ideal S2x16384x512 .f32) (a4 : Vec Ideal S2x16384x256 .f32)
    (a5 : Vec Ideal S256x256 .f32) (b : Fin 2) (i : Fin 16384) (e : Fin 1024) : joined a2 a3 a4 a5 (ix3 b i e)
      = if h1 : (e : ℕ) < 256 then ∑ x : Fin 256, a2 (ix3 b i x) * a5 (ix2 x ⟨e, h1⟩)
        else if h2 : (e : ℕ) < 768 then a3 (ix3 b i ⟨e - 256, by omega⟩) else a4 (ix3 b i ⟨e - 768, by omega⟩) := by
  pointwise [joined]
  have := e.isLt
  by_cases h1 : (e : ℕ) < 256
  · simp only [dif_pos h1]
  · by_cases h2 : (e : ℕ) < 768
    · simp only [dif_neg h1, dif_pos h2, dif_pos (show (e : ℕ) - 256 < 512 by omega)]
    · simp only [dif_neg h1, dif_neg h2, dif_neg (show ¬ (e : ℕ) - 256 < 512 by omega)]
      simp only [show (e : ℕ) - 256 - 512 = e - 768 by omega]

/-- The rows after the mixers, at an index. -/
theorem mixed_at (a0 : Vec Ideal S2x16384x1024 .f32) (g : Vec Ideal S2x1x1024 .f32) (j : Vec Ideal S2x16384x1024 .f32)
    (a6 : Vec Ideal S1024x1024 .f32) (b : Fin 2) (i : Fin 16384) (d : Fin 1024) : mixed a0 g j a6 (ix3 b i d)
      = a0 (ix3 b i d) + g (ix3 b 0 d) * ∑ e : Fin 1024, j (ix3 b i e) * a6 (ix2 e d) := by
  pointwise [mixed, spread]

/-- A norm at an index. -/
theorem norm_at (v : Vec Ideal S2x16384x1024 .f32) (g : Vec Ideal S1024 .f32) (b : Fin 2) (i : Fin 16384) (d : Fin 1024) :
    norm v g (ix3 b i d) = rms (fun x => v (ix3 b i x)) (fun x => g (ix1 x)) d := by
  unfold rms
  pointwise [norm]

/-- Rows scaled and shifted, at an index. -/
theorem moved_at (v : Vec Ideal S2x16384x1024 .f32) (s t : Vec Ideal S2x1x1024 .f32) (b : Fin 2) (i : Fin 16384) (d : Fin 1024) :
    moved v s t (ix3 b i d) = v (ix3 b i d) * (Ideal.ofBits .f32 0x3F800000#32 + s (ix3 b 0 d)) + t (ix3 b 0 d) := by
  pointwise [moved, spread]

/-- The hidden layer at an index. -/
theorem hidden_at (h : Vec Ideal S2x16384x1024 .f32) (a8 : Vec Ideal S4x1024x4096 .f32) (b : Fin 2) (i : Fin 16384) (f : Fin 4096) :
    hidden h a8 (ix3 b i f) = hid (fun x => h (ix3 b i x)) (fun x => a8 (ix3 3 x f)) := by
  unfold hid
  pointwise [hidden]

/-- The rows after the channel mixer, at an index. -/
theorem stepped_at (v : Vec Ideal S2x16384x1024 .f32) (g : Vec Ideal S2x1x1024 .f32) (u : Vec Ideal S2x16384x4096 .f32)
    (a9 : Vec Ideal S4x4096x1024 .f32) (b : Fin 2) (i : Fin 16384) (d : Fin 1024) : stepped v g u a9 (ix3 b i d)
      = v (ix3 b i d) + g (ix3 b 0 d) * ∑ f : Fin 4096, u (ix3 b i f) * u (ix3 b i f) * a9 (ix3 3 f d) := by
  pointwise [stepped, spread]

/-- The steps of the reference, of the given arguments, give every token's row. -/
theorem steps_out (A : Args) (X : Vec Ideal S2x16384x1024 .f32) (hX : X = mixed A.a0 (gate A.a1) (joined A.a2 A.a3 A.a4 A.a5) A.a6) :
    norm (stepped X (gate' A.a1) (hidden (moved (norm X A.a7) (scale A.a1) (shift A.a1)) A.a8) A.a9) A.a10 = A.res := by
  have hm : ∀ b i d, X (ix3 b i d) = mid (A.tok b i) A.wts d := fun b i d => by
    rw [hX, mixed_at, gate_at]
    simp only [joined_at]
    rfl
  funext i
  obtain ⟨b, q, o, rfl⟩ : ∃ (b : Fin 2) (q : Fin 16384) (o : Fin 1024), i = ix3 b q o := ⟨i 0, i 1, i 2, by
    funext a
    match a with
    | ⟨0, _⟩ => rfl
    | ⟨1, _⟩ => rfl
    | ⟨2, _⟩ => rfl⟩
  rw [res_at, norm_at, out]
  simp only [stepped_at, hidden_at, moved_at, norm_at, hm, gate'_at, scale_at, shift_at]
  rfl

/-- The reference's result, of arguments equal to the given. -/
theorem res_out (m : (ℓ : Loc nD τ sig) → Buf (Elt Ideal) ℓ) (c : Dev nD) (A : Args)
    (h0 : B m c main_arg0 = A.a0) (h1 : B m c main_arg1 = A.a1) (h2 : B m c main_arg2 = A.a2) (h3 : B m c main_arg3 = A.a3)
    (h4 : B m c main_arg4 = A.a4) (h5 : B m c main_arg5 = A.a5) (h6 : B m c main_arg6 = A.a6) (h7 : B m c main_arg7 = A.a7)
    (h8 : B m c main_arg8 = A.a8) (h9 : B m c main_arg9 = A.a9) (h10 : B m c main_arg10 = A.a10) :
    res_main_v55 m c = A.res := by
  rw [res_eq, refMixed, h0, h1, h2, h3, h4, h5, h6, h7, h8, h9, h10]
  exact steps_out A _ rfl

end Cert.Proof.Mlp.Ref

end
-- ==== Proof.MlpPoint.lean ====
module

public import proofs.«01_k».proof.Proof.MlpHost
public import proofs.«01_k».proof.Proof.MlpRef
public import proofs.«01_k».proof.Proof.Gen.Kernel2Ideal.Value
public import Idealize.ShloMosaic.Lib.Pipeline.Value
public import Idealize.ShloMosaic.Lib.Pipeline.ValueKit
public import Idealize.ShloMosaic.Lib.Pipeline.Covers

/-!
# Where a point's blocks of the second call lie

A point is a batch and a block of 1024 tokens. Each window's block at a point is found in its array.
-/

@[expose] public section

set_option maxRecDepth 16384

noncomputable section

namespace Cert.Proof.Mlp

open Cert.Kernel2Ideal Cert.Kernel2Ideal.Gen
open Idealize.ShloMosaic Idealize.SL.Sem Idealize.ShloMosaic.TcCoe

/-- A point's batch. -/
def pb (t : Fin cfg0.N) : Fin 2 := grid0.coords t 0

/-- A point's block of tokens. -/
def pi (t : Fin cfg0.N) : Fin 16 := grid0.coords t 1

/-- A token of a point's block. -/
def row (t : Fin cfg0.N) (r : Fin 1024) : Fin 16384 := ⟨pi t * 1024 + r, by omega⟩

/-- A small number survives as a machine word. -/
theorem word_small (n : ℕ) (h : n < 16) : (BitVec.ofNat 32 n).toNat = n := by
  rw [BitVec.toNat_ofNat]; omega

/-- Of the arrays over the tokens a point takes its batch and its block of tokens. -/
theorem idx_tok : ∀ t : Fin cfg0.N,
    win0_0.index t = ![(grid0.coords t 0).val, (grid0.coords t 1).val, 0]
      ∧ win0_5.index t = ![(grid0.coords t 0).val, (grid0.coords t 1).val, 0]
      ∧ win0_6.index t = ![(grid0.coords t 0).val, (grid0.coords t 1).val, 0]
      ∧ win0_7.index t = ![(grid0.coords t 0).val, (grid0.coords t 1).val, 0]
      ∧ win0_16.index t = ![(grid0.coords t 0).val, (grid0.coords t 1).val, 0] :=
  (by decide +kernel : ∀ t : Fin grid0.N,
    win0_0.index t = ![(grid0.coords t 0).val, (grid0.coords t 1).val, 0]
      ∧ win0_5.index t = ![(grid0.coords t 0).val, (grid0.coords t 1).val, 0]
      ∧ win0_6.index t = ![(grid0.coords t 0).val, (grid0.coords t 1).val, 0]
      ∧ win0_7.index t = ![(grid0.coords t 0).val, (grid0.coords t 1).val, 0]
      ∧ win0_16.index t = ![(grid0.coords t 0).val, (grid0.coords t 1).val, 0])

/-- Of the modulation it takes its batch's parts: two gates, a shift and a scale. -/
theorem idx_mod : ∀ t : Fin cfg0.N,
    win0_1.index t = ![(grid0.coords t 0).val, 2, 0, 0]
      ∧ win0_2.index t = ![(grid0.coords t 0).val, 3, 0, 0]
      ∧ win0_3.index t = ![(grid0.coords t 0).val, 4, 0, 0]
      ∧ win0_4.index t = ![(grid0.coords t 0).val, 5, 0, 0] :=
  (by decide +kernel : ∀ t : Fin grid0.N,
    win0_1.index t = ![(grid0.coords t 0).val, 2, 0, 0]
      ∧ win0_2.index t = ![(grid0.coords t 0).val, 3, 0, 0]
      ∧ win0_3.index t = ![(grid0.coords t 0).val, 4, 0, 0]
      ∧ win0_4.index t = ![(grid0.coords t 0).val, 5, 0, 0])

/-- Of the weights it takes all, of the channel mixer's those of the last layer. -/
theorem idx_wts : ∀ t : Fin cfg0.N,
    win0_8.index t = ![0, 0]
      ∧ win0_9.index t = ![0, 0]
      ∧ win0_10.index t = ![0, 0]
      ∧ win0_11.index t = ![0, 0]
      ∧ win0_12.index t = ![0, 0]
      ∧ win0_15.index t = ![0, 0]
      ∧ win0_13.index t = ![3, 0, 0]
      ∧ win0_14.index t = ![3, 0, 0] :=
  (by decide +kernel : ∀ t : Fin grid0.N,
    win0_8.index t = ![0, 0]
      ∧ win0_9.index t = ![0, 0]
      ∧ win0_10.index t = ![0, 0]
      ∧ win0_11.index t = ![0, 0]
      ∧ win0_12.index t = ![0, 0]
      ∧ win0_15.index t = ![0, 0]
      ∧ win0_13.index t = ![3, 0, 0]
      ∧ win0_14.index t = ![3, 0, 0])

/-- Where a point's block of the residual rows lies. -/
theorem read0 (X : Vec Ideal S2x16384x1024 .f32) (t : Fin cfg0.N) (r : Fin 1024) (d : Fin 1024) :
    (win0_0.blk t).view.read (Elt Ideal) X (ix3 0 r d) = X (ix3 (pb t) (row t r) d) := by
  rw [View.read_apply]
  exact congrArg X (by blk_ext [idx_tok t] <;> rfl)

/-- Where a point's block of the mixers' gate lies. -/
theorem read1 (X : Vec Ideal S8x6x1x1024 .f32) (t : Fin cfg0.N) (d : Fin 1024) :
    (win0_1.blk t).view.read (Elt Ideal) X (ix4 0 0 0 d) = X (ix4 ⟨pb t, by omega⟩ 2 0 d) := by
  rw [View.read_apply]
  exact congrArg X (by blk_ext [idx_mod t] <;> rfl)

/-- Where a point's block of the shift lies. -/
theorem read2 (X : Vec Ideal S8x6x1x1024 .f32) (t : Fin cfg0.N) (d : Fin 1024) :
    (win0_2.blk t).view.read (Elt Ideal) X (ix4 0 0 0 d) = X (ix4 ⟨pb t, by omega⟩ 3 0 d) := by
  rw [View.read_apply]
  exact congrArg X (by blk_ext [idx_mod t] <;> rfl)

/-- Where a point's block of the scale lies. -/
theorem read3 (X : Vec Ideal S8x6x1x1024 .f32) (t : Fin cfg0.N) (d : Fin 1024) :
    (win0_3.blk t).view.read (Elt Ideal) X (ix4 0 0 0 d) = X (ix4 ⟨pb t, by omega⟩ 4 0 d) := by
  rw [View.read_apply]
  exact congrArg X (by blk_ext [idx_mod t] <;> rfl)

/-- Where a point's block of the channel mixer's gate lies. -/
theorem read4 (X : Vec Ideal S8x6x1x1024 .f32) (t : Fin cfg0.N) (d : Fin 1024) :
    (win0_4.blk t).view.read (Elt Ideal) X (ix4 0 0 0 d) = X (ix4 ⟨pb t, by omega⟩ 5 0 d) := by
  rw [View.read_apply]
  exact congrArg X (by blk_ext [idx_mod t] <;> rfl)

/-- Where a point's block of the Fourier mixing lies. -/
theorem read5 (X : Vec Ideal S2x16384x256 .f32) (t : Fin cfg0.N) (r : Fin 1024) (d : Fin 256) :
    (win0_5.blk t).view.read (Elt Ideal) X (ix3 0 r d) = X (ix3 (pb t) (row t r) d) := by
  rw [View.read_apply]
  exact congrArg X (by blk_ext [idx_tok t] <;> rfl)

/-- Where a point's block of the attention lies. -/
theorem read6 (X : Vec Ideal S2x16384x512 .bf16) (t : Fin cfg0.N) (r : Fin 1024) (d : Fin 512) :
    (win0_6.blk t).view.read (Elt Ideal) X (ix3 0 r d) = X (ix3 (pb t) (row t r) d) := by
  rw [View.read_apply]
  exact congrArg X (by blk_ext [idx_tok t] <;> rfl)

/-- Where a point's block of the convolution lies. -/
theorem read7 (X : Vec Ideal S2x16384x256 .bf16) (t : Fin cfg0.N) (r : Fin 1024) (d : Fin 256) :
    (win0_7.blk t).view.read (Elt Ideal) X (ix3 0 r d) = X (ix3 (pb t) (row t r) d) := by
  rw [View.read_apply]
  exact congrArg X (by blk_ext [idx_tok t] <;> rfl)

/-- The block of the Fourier mixing's map is the whole array. -/
theorem read8 (X : Vec Ideal S256x256 .bf16) (t : Fin cfg0.N) (x : Fin 256) (d : Fin 256) :
    (win0_8.blk t).view.read (Elt Ideal) X (ix2 x d) = X (ix2 x d) := by
  rw [View.read_apply]
  exact congrArg X (by blk_ext [idx_wts t])

/-- The block of the projection's first rows is the whole array. -/
theorem read9 (X : Vec Ideal S256x1024 .bf16) (t : Fin cfg0.N) (x : Fin 256) (d : Fin 1024) :
    (win0_9.blk t).view.read (Elt Ideal) X (ix2 x d) = X (ix2 x d) := by
  rw [View.read_apply]
  exact congrArg X (by blk_ext [idx_wts t])

/-- The block of the projection's middle rows is the whole array. -/
theorem read10 (X : Vec Ideal S512x1024 .bf16) (t : Fin cfg0.N) (x : Fin 512) (d : Fin 1024) :
    (win0_10.blk t).view.read (Elt Ideal) X (ix2 x d) = X (ix2 x d) := by
  rw [View.read_apply]
  exact congrArg X (by blk_ext [idx_wts t])

/-- The block of the projection's last rows is the whole array. -/
theorem read11 (X : Vec Ideal S256x1024 .bf16) (t : Fin cfg0.N) (x : Fin 256) (d : Fin 1024) :
    (win0_11.blk t).view.read (Elt Ideal) X (ix2 x d) = X (ix2 x d) := by
  rw [View.read_apply]
  exact congrArg X (by blk_ext [idx_wts t])

/-- The block of the gains before the channel mixer is the whole array. -/
theorem read12 (X : Vec Ideal S1x1024 .f32) (t : Fin cfg0.N) (x : Fin 1) (d : Fin 1024) :
    (win0_12.blk t).view.read (Elt Ideal) X (ix2 x d) = X (ix2 x d) := by
  rw [View.read_apply]
  exact congrArg X (by blk_ext [idx_wts t])

/-- The block of the first products is the last layer's. -/
theorem read13 (X : Vec Ideal S4x1024x4096 .bf16) (t : Fin cfg0.N) (x : Fin 1024) (d : Fin 4096) :
    (win0_13.blk t).view.read (Elt Ideal) X (ix3 0 x d) = X (ix3 3 x d) := by
  rw [View.read_apply]
  exact congrArg X (by blk_ext [idx_wts t])

/-- The block of the second products is the last layer's. -/
theorem read14 (X : Vec Ideal S4x4096x1024 .bf16) (t : Fin cfg0.N) (x : Fin 4096) (d : Fin 1024) :
    (win0_14.blk t).view.read (Elt Ideal) X (ix3 0 x d) = X (ix3 3 x d) := by
  rw [View.read_apply]
  exact congrArg X (by blk_ext [idx_wts t])

/-- The block of the final gains is the whole array. -/
theorem read15 (X : Vec Ideal S1x1024 .f32) (t : Fin cfg0.N) (x : Fin 1) (d : Fin 1024) :
    (win0_15.blk t).view.read (Elt Ideal) X (ix2 x d) = X (ix2 x d) := by
  rw [View.read_apply]
  exact congrArg X (by blk_ext [idx_wts t])

/-- Where a point's block of the result lies. -/
theorem emb16 (t : Fin cfg0.N) (r d : Fin 1024) : (win0_16.blk t).view.emb (ix3 0 r d)
    = (ix3 (pb t) (row t r) d : S2x16384x1024.Idx) := by
  blk_ext [idx_tok t] <;> rfl

/-- The blocks of the result tile it. -/
theorem covers16 : (cfg0.win 16).Covers :=
  (cfg0.win 16).covers_of_indexMap_surj rfl (by decide) fun β =>
    ⟨fun a => match a with
      | ⟨0, _⟩ => (⟨(β 0).val, (β 0).isLt⟩ : Fin 2)
      | ⟨1, _⟩ => (⟨(β 1).val, (β 1).isLt⟩ : Fin 16), fun a => by
      have h0 := word_small (β 0).val (lt_of_lt_of_le (β 0).isLt (by decide : 2 ≤ 16))
      have h1 := word_small (β 1).val (β 1).isLt
      match a with
      | ⟨0, _⟩ => exact h0
      | ⟨1, _⟩ => exact h1
      | ⟨2, _⟩ => exact (Nat.lt_one_iff.mp (β 2).isLt).symm⟩

end Cert.Proof.Mlp

end
-- ==== Proof.MlpOut.lean ====
module

public import proofs.«01_k».proof.Proof.MlpPoint

/-!
# The second call's result

Every grid point reads its tokens and the weights and writes its tokens' rows; the blocks tile the result.
-/

@[expose] public section

set_option maxRecDepth 16384

noncomputable section

namespace Cert.Proof.Mlp

open Cert.Kernel2Ideal Cert.Kernel2Ideal.Gen
open Idealize.ShloMosaic Idealize.SL.Sem Idealize.ShloMosaic.TcCoe

variable (m : (ℓ : Loc nD τ sig) → Buf (Elt Ideal) ℓ) (c : Dev nD)

/-- A device's eleven arguments. -/
def args : Args where
  a0 := A m c main_arg0
  a1 := A m c main_arg1
  a2 := A m c main_arg2
  a3 := A m c main_arg3
  a4 := A m c main_arg4
  a5 := A m c main_arg5
  a6 := A m c main_arg6
  a7 := A m c main_arg7
  a8 := A m c main_arg8
  a9 := A m c main_arg9
  a10 := A m c main_arg10

/-- The blocks a point reads: its tokens and the weights. -/
theorem point_blk (t : Fin cfg0.N) : Blk (fun r => (args m c).tok (pb t) (row t r)) (args m c).wts (iblk m c 0 t) (iblk m c 1 t)
    (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) where
  x r d := by
    have h : iblk m c 0 t = (win0_0.blk t).view.read (Elt Ideal) (V m c main_arg0) := rfl
    rw [h, V_x]
    exact read0 _ t r d
  gate r d := by
    have h : iblk m c 1 t = (win0_1.blk t).view.read (Elt Ideal) (V m c main_v1) := rfl
    rw [h, V_mod]
    exact (read1 _ t d).trans (modArr_at _ _ (pb t).isLt 2 d)
  shift r d := by
    have h : iblk m c 2 t = (win0_2.blk t).view.read (Elt Ideal) (V m c main_v1) := rfl
    rw [h, V_mod]
    exact (read2 _ t d).trans (modArr_at _ _ (pb t).isLt 3 d)
  scale r d := by
    have h : iblk m c 3 t = (win0_3.blk t).view.read (Elt Ideal) (V m c main_v1) := rfl
    rw [h, V_mod]
    exact (read3 _ t d).trans (modArr_at _ _ (pb t).isLt 4 d)
  gate' r d := by
    have h : iblk m c 4 t = (win0_4.blk t).view.read (Elt Ideal) (V m c main_v1) := rfl
    rw [h, V_mod]
    exact (read4 _ t d).trans (modArr_at _ _ (pb t).isLt 5 d)
  yf r d := by
    have h : iblk m c 5 t = (win0_5.blk t).view.read (Elt Ideal) (V m c main_arg2) := rfl
    rw [h, V_yf]
    exact read5 _ t r d
  att r d := by
    have h : iblk m c 6 t = (win0_6.blk t).view.read (Elt Ideal) (V m c main_v12) := rfl
    rw [h, V_att]
    exact read6 _ t r d
  yc r d := by
    have h : iblk m c 7 t = (win0_7.blk t).view.read (Elt Ideal) (V m c main_v13) := rfl
    rw [h, V_yc]
    exact read7 _ t r d
  wf e d := by
    have h : iblk m c 8 t = (win0_8.blk t).view.read (Elt Ideal) (V m c main_v2) := rfl
    rw [h, V_wf]
    exact read8 _ t e d
  wof e d := by
    have h : iblk m c 9 t = (win0_9.blk t).view.read (Elt Ideal) (V m c main_v4) := rfl
    rw [h, V_woF]
    exact (read9 _ t e d).trans (woF_at _ e d)
  woa e d := by
    have h : iblk m c 10 t = (win0_10.blk t).view.read (Elt Ideal) (V m c main_v6) := rfl
    rw [h, V_woA]
    exact (read10 _ t e d).trans (woA_at _ e d)
  woc e d := by
    have h : iblk m c 11 t = (win0_11.blk t).view.read (Elt Ideal) (V m c main_v8) := rfl
    rw [h, V_woC]
    exact (read11 _ t e d).trans (woC_at _ e d)
  n2 d := by
    have h : iblk m c 12 t = (win0_12.blk t).view.read (Elt Ideal) (V m c main_v9) := rfl
    rw [h, V_n2]
    exact (read12 _ t 0 d).trans (gains_at _ d)
  w1 e f := by
    have h : iblk m c 13 t = (win0_13.blk t).view.read (Elt Ideal) (V m c main_v10) := rfl
    rw [h, V_w1]
    exact read13 _ t e f
  w2 f d := by
    have h : iblk m c 14 t = (win0_14.blk t).view.read (Elt Ideal) (V m c main_v11) := rfl
    rw [h, V_w2]
    exact read14 _ t f d
  nf d := by
    have h : iblk m c 15 t = (win0_15.blk t).view.read (Elt Ideal) (V m c main_v14) := rfl
    rw [h, V_nf]
    exact (read15 _ t 0 d).trans (gains_at _ d)

/-- The block a point writes is its tokens' rows. -/
theorem point_out (t : Fin cfg0.N) (r d : Fin 1024) : out0_16 (iblk m c 0 t) (iblk m c 1 t)
    (iblk m c 2 t) (iblk m c 3 t) (iblk m c 4 t) (iblk m c 5 t) (iblk m c 6 t) (iblk m c 7 t) (iblk m c 8 t) (iblk m c 9 t)
    (iblk m c 10 t) (iblk m c 11 t) (iblk m c 12 t) (iblk m c 13 t) (iblk m c 14 t) (iblk m c 15 t) (ix3 0 r d)
      = (args m c).res (ix3 (pb t) (row t r) d) := by
  rw [outBlk_at (point_blk m c t), res_at]

/-- After the run the result's array holds every token's row. -/
theorem arr_out : (dats m 0 c).arrAt 16 (cfgs 0).N = (args m c).res := by
  have key : ∀ (t : Fin cfg0.N) (y : S1x1024x1024.Idx), (dats m 0 c).after 16 t y
      = (args m c).res ((win0_16.blk t).view.emb y) := fun t y => by
    obtain ⟨r, d, rfl⟩ : ∃ (r d : Fin 1024), y = (ix3 0 r d : S1x1024x1024.Idx) := ⟨y 1, y 2, by
      funext a
      match a with
      | ⟨0, _⟩ => exact Subsingleton.elim (α := Fin 1) _ _
      | ⟨1, _⟩ => rfl
      | ⟨2, _⟩ => rfl⟩
    rw [after0_16, emb16]
    exact point_out m c t r d
  exact (dats m 0 c).arrAt_eq_of_covers 16 _ covers16 fun t _ y => key t y

end Cert.Proof.Mlp

end
-- ==== Proof.PrepPoint.lean ====
module

public import proofs.«01_k».proof.Proof.Gen.Kernel3Ideal.Value
public import Idealize.ShloMosaic.Lib.Pipeline.Value
public import Idealize.ShloMosaic.Lib.Pipeline.ValueKit
public import Idealize.ShloMosaic.Lib.Pipeline.Covers

/-!
# Where a point's blocks of the third call lie

A point is a batch and a block of 512 tokens. Each window's block at a point is found in its array.
-/

@[expose] public section

set_option maxRecDepth 16384

noncomputable section

namespace Cert.Proof.Prep

open Cert.Kernel3Ideal Cert.Kernel3Ideal.Gen
open Idealize.ShloMosaic Idealize.SL.Sem Idealize.ShloMosaic.TcCoe

/-- A point's batch. -/
def pb (t : Fin cfg0.N) : Fin 2 := grid0.coords t 0

/-- A point's block of tokens. -/
def pi (t : Fin cfg0.N) : Fin 32 := grid0.coords t 1

/-- A token of a point's block. -/
def row (t : Fin cfg0.N) (r : Fin 512) : Fin 16384 := ⟨pi t * 512 + r, by omega⟩

/-- A small number survives as a machine word. -/
theorem word_small (n : ℕ) (h : n < 32) : (BitVec.ofNat 32 n).toNat = n := by
  rw [BitVec.toNat_ofNat]; omega

/-- Of the arrays over the tokens a point takes its batch and its block of tokens. -/
theorem idx_tok : ∀ t : Fin cfg0.N,
    win0_0.index t = ![(grid0.coords t 0).val, (grid0.coords t 1).val, 0]
      ∧ win0_1.index t = ![(grid0.coords t 0).val, 0, 0, 0]
      ∧ win0_2.index t = ![(grid0.coords t 0).val, 1, 0, 0]
      ∧ win0_12.index t = ![(grid0.coords t 1).val, 0]
      ∧ win0_13.index t = ![(grid0.coords t 1).val, 0] :=
  (by decide +kernel : ∀ t : Fin grid0.N,
    win0_0.index t = ![(grid0.coords t 0).val, (grid0.coords t 1).val, 0]
      ∧ win0_1.index t = ![(grid0.coords t 0).val, 0, 0, 0]
      ∧ win0_2.index t = ![(grid0.coords t 0).val, 1, 0, 0]
      ∧ win0_12.index t = ![(grid0.coords t 1).val, 0]
      ∧ win0_13.index t = ![(grid0.coords t 1).val, 0])

/-- Of the results too. -/
theorem idx_res : ∀ t : Fin cfg0.N,
    win0_15.index t = ![(grid0.coords t 0).val, (grid0.coords t 1).val, 0]
      ∧ win0_16.index t = ![(grid0.coords t 0).val, (grid0.coords t 1).val, 0]
      ∧ win0_17.index t = ![(grid0.coords t 0).val, 0, (grid0.coords t 1).val, 0, 0]
      ∧ win0_18.index t = ![(grid0.coords t 0).val, 0, (grid0.coords t 1).val, 0]
      ∧ win0_19.index t = ![(grid0.coords t 0).val, (grid0.coords t 1).val, 0] :=
  (by decide +kernel : ∀ t : Fin grid0.N,
    win0_15.index t = ![(grid0.coords t 0).val, (grid0.coords t 1).val, 0]
      ∧ win0_16.index t = ![(grid0.coords t 0).val, (grid0.coords t 1).val, 0]
      ∧ win0_17.index t = ![(grid0.coords t 0).val, 0, (grid0.coords t 1).val, 0, 0]
      ∧ win0_18.index t = ![(grid0.coords t 0).val, 0, (grid0.coords t 1).val, 0]
      ∧ win0_19.index t = ![(grid0.coords t 0).val, (grid0.coords t 1).val, 0])

/-- Of the weights it takes all. -/
theorem idx_wts : ∀ t : Fin cfg0.N,
    win0_3.index t = ![0, 0] ∧ win0_4.index t = ![0, 0] ∧ win0_5.index t = ![0, 0] ∧ win0_6.index t = ![0, 0]
      ∧ win0_7.index t = ![0, 0] ∧ win0_8.index t = ![0, 0] ∧ win0_9.index t = ![0, 0] ∧ win0_10.index t = ![0, 0]
      ∧ win0_11.index t = ![0, 0] ∧ win0_14.index t = ![0, 0] :=
  (by decide +kernel : ∀ t : Fin grid0.N,
    win0_3.index t = ![0, 0] ∧ win0_4.index t = ![0, 0] ∧ win0_5.index t = ![0, 0] ∧ win0_6.index t = ![0, 0]
      ∧ win0_7.index t = ![0, 0] ∧ win0_8.index t = ![0, 0] ∧ win0_9.index t = ![0, 0] ∧ win0_10.index t = ![0, 0]
      ∧ win0_11.index t = ![0, 0] ∧ win0_14.index t = ![0, 0])

/-- Where a point's block of the residual rows lies. -/
theorem read0 (X : Vec Ideal S2x16384x1024 .f32) (t : Fin cfg0.N) (r : Fin 512) (d : Fin 1024) :
    (win0_0.blk t).view.read (Elt Ideal) X (ix3 0 r d) = X (ix3 (pb t) (row t r) d) := by
  rw [View.read_apply]
  exact congrArg X (by blk_ext [idx_tok t] <;> rfl)

/-- Where a point's block of the shift lies. -/
theorem read1 (X : Vec Ideal S8x6x1x1024 .f32) (t : Fin cfg0.N) (d : Fin 1024) :
    (win0_1.blk t).view.read (Elt Ideal) X (ix4 0 0 0 d) = X (ix4 ⟨pb t, by omega⟩ 0 0 d) := by
  rw [View.read_apply]
  exact congrArg X (by blk_ext [idx_tok t] <;> rfl)

/-- Where a point's block of the scale lies. -/
theorem read2 (X : Vec Ideal S8x6x1x1024 .f32) (t : Fin cfg0.N) (d : Fin 1024) :
    (win0_2.blk t).view.read (Elt Ideal) X (ix4 0 0 0 d) = X (ix4 ⟨pb t, by omega⟩ 1 0 d) := by
  rw [View.read_apply]
  exact congrArg X (by blk_ext [idx_tok t] <;> rfl)

/-- The block of the first norm's gains is the whole array. -/
theorem read3 (X : Vec Ideal S1x1024 .f32) (t : Fin cfg0.N) (x : Fin 1) (d : Fin 1024) :
    (win0_3.blk t).view.read (Elt Ideal) X (ix2 x d) = X (ix2 x d) := by
  rw [View.read_apply]
  exact congrArg X (by blk_ext [idx_wts t])

/-- The block of the input projection is the whole array. -/
theorem read4 (X : Vec Ideal S1024x1408 .bf16) (t : Fin cfg0.N) (x : Fin 1024) (d : Fin 1408) :
    (win0_4.blk t).view.read (Elt Ideal) X (ix2 x d) = X (ix2 x d) := by
  rw [View.read_apply]
  exact congrArg X (by blk_ext [idx_wts t])

/-- The block of the gains of the queries' latent is the whole array. -/
theorem read5 (X : Vec Ideal S1x256 .f32) (t : Fin cfg0.N) (x : Fin 1) (d : Fin 256) :
    (win0_5.blk t).view.read (Elt Ideal) X (ix2 x d) = X (ix2 x d) := by
  rw [View.read_apply]
  exact congrArg X (by blk_ext [idx_wts t])

/-- The block of the queries' projection is the whole array. -/
theorem read6 (X : Vec Ideal S256x1024 .bf16) (t : Fin cfg0.N) (x : Fin 256) (d : Fin 1024) :
    (win0_6.blk t).view.read (Elt Ideal) X (ix2 x d) = X (ix2 x d) := by
  rw [View.read_apply]
  exact congrArg X (by blk_ext [idx_wts t])

/-- The block of the swapped queries' projection is the whole array. -/
theorem read7 (X : Vec Ideal S256x1024 .bf16) (t : Fin cfg0.N) (x : Fin 256) (d : Fin 1024) :
    (win0_7.blk t).view.read (Elt Ideal) X (ix2 x d) = X (ix2 x d) := by
  rw [View.read_apply]
  exact congrArg X (by blk_ext [idx_wts t])

/-- The block of the gains of the keys' and values' latent is the whole array. -/
theorem read8 (X : Vec Ideal S1x128 .f32) (t : Fin cfg0.N) (x : Fin 1) (d : Fin 128) :
    (win0_8.blk t).view.read (Elt Ideal) X (ix2 x d) = X (ix2 x d) := by
  rw [View.read_apply]
  exact congrArg X (by blk_ext [idx_wts t])

/-- The block of the keys' projection is the whole array. -/
theorem read9 (X : Vec Ideal S128x1024 .bf16) (t : Fin cfg0.N) (x : Fin 128) (d : Fin 1024) :
    (win0_9.blk t).view.read (Elt Ideal) X (ix2 x d) = X (ix2 x d) := by
  rw [View.read_apply]
  exact congrArg X (by blk_ext [idx_wts t])

/-- The block of the values' projection is the whole array. -/
theorem read10 (X : Vec Ideal S640x128 .bf16) (t : Fin cfg0.N) (x : Fin 640) (d : Fin 128) :
    (win0_10.blk t).view.read (Elt Ideal) X (ix2 x d) = X (ix2 x d) := by
  rw [View.read_apply]
  exact congrArg X (by blk_ext [idx_wts t])

/-- The block of the Fourier mixing's tables is the whole array. -/
theorem read11 (X : Vec Ideal S256x512 .bf16) (t : Fin cfg0.N) (x : Fin 256) (d : Fin 512) :
    (win0_11.blk t).view.read (Elt Ideal) X (ix2 x d) = X (ix2 x d) := by
  rw [View.read_apply]
  exact congrArg X (by blk_ext [idx_wts t])

/-- Where a point's block of the first rotary table lies. -/
theorem read12 (X : Vec Ideal S16384x128 .f32) (t : Fin cfg0.N) (r : Fin 512) (l : Fin 128) :
    (win0_12.blk t).view.read (Elt Ideal) X (ix2 r l) = X (ix2 (row t r) l) := by
  rw [View.read_apply]
  exact congrArg X (by blk_ext [idx_tok t] <;> rfl)

/-- Where a point's block of the second rotary table lies. -/
theorem read13 (X : Vec Ideal S16384x128 .f32) (t : Fin cfg0.N) (r : Fin 512) (l : Fin 128) :
    (win0_13.blk t).view.read (Elt Ideal) X (ix2 r l) = X (ix2 (row t r) l) := by
  rw [View.read_apply]
  exact congrArg X (by blk_ext [idx_tok t] <;> rfl)

/-- The block of the ones is the whole array. -/
theorem read14 (X : Vec Ideal S640x1 .f32) (t : Fin cfg0.N) (x : Fin 640) (d : Fin 1) :
    (win0_14.blk t).view.read (Elt Ideal) X (ix2 x d) = X (ix2 x d) := by
  rw [View.read_apply]
  exact congrArg X (by blk_ext [idx_wts t])

/-- Where a point's block of the queries lies. -/
theorem emb15 (t : Fin cfg0.N) (r : Fin 512) (d : Fin 1024) : (win0_15.blk t).view.emb (ix3 0 r d)
    = (ix3 (pb t) (row t r) d : S2x16384x1024.Idx) := by
  blk_ext [idx_res t] <;> rfl

/-- Where a point's block of the keys lies. -/
theorem emb16 (t : Fin cfg0.N) (r : Fin 512) (d : Fin 1024) : (win0_16.blk t).view.emb (ix3 0 r d)
    = (ix3 (pb t) (row t r) d : S2x16384x1024.Idx) := by
  blk_ext [idx_res t] <;> rfl

/-- Where a point's block of the values lies. -/
theorem emb17 (t : Fin cfg0.N) (h : Fin 8) (k : Fin 80) (r : Fin 512) : (win0_17.blk t).view.emb (ix5 0 h 0 k r)
    = (ix5 (pb t) h (pi t) k r : S2x8x32x80x512.Idx) := by
  blk_ext [idx_res t] <;> rfl

/-- Where a point's block of the Fourier mixing lies. -/
theorem emb18 (t : Fin cfg0.N) (p : Fin 2) (r : Fin 512) (j : Fin 256) : (win0_18.blk t).view.emb (ix4 0 p r j)
    = (ix4 (pb t) p (row t r) j : S2x2x16384x256.Idx) := by
  blk_ext [idx_res t] <;> rfl

/-- Where a point's block of the gated channels lies. -/
theorem emb19 (t : Fin cfg0.N) (r : Fin 512) (j : Fin 256) : (win0_19.blk t).view.emb (ix3 0 r j)
    = (ix3 (pb t) (row t r) j : S2x16384x256.Idx) := by
  blk_ext [idx_res t] <;> rfl

/-- The blocks of the queries tile them. -/
theorem covers15 : (cfg0.win 15).Covers :=
  (cfg0.win 15).covers_of_indexMap_surj rfl (by decide) fun β =>
    ⟨fun a => match a with
      | ⟨0, _⟩ => (⟨(β 0).val, (β 0).isLt⟩ : Fin 2)
      | ⟨1, _⟩ => (⟨(β 1).val, (β 1).isLt⟩ : Fin 32), fun a => by
      have h0 := word_small (β 0).val (lt_of_lt_of_le (β 0).isLt (by decide : 2 ≤ 32))
      have h1 := word_small (β 1).val (β 1).isLt
      match a with
      | ⟨0, _⟩ => exact h0
      | ⟨1, _⟩ => exact h1
      | ⟨2, _⟩ => exact (Nat.lt_one_iff.mp (β 2).isLt).symm⟩

/-- The blocks of the keys tile them. -/
theorem covers16 : (cfg0.win 16).Covers :=
  (cfg0.win 16).covers_of_indexMap_surj rfl (by decide) fun β =>
    ⟨fun a => match a with
      | ⟨0, _⟩ => (⟨(β 0).val, (β 0).isLt⟩ : Fin 2)
      | ⟨1, _⟩ => (⟨(β 1).val, (β 1).isLt⟩ : Fin 32), fun a => by
      have h0 := word_small (β 0).val (lt_of_lt_of_le (β 0).isLt (by decide : 2 ≤ 32))
      have h1 := word_small (β 1).val (β 1).isLt
      match a with
      | ⟨0, _⟩ => exact h0
      | ⟨1, _⟩ => exact h1
      | ⟨2, _⟩ => exact (Nat.lt_one_iff.mp (β 2).isLt).symm⟩

/-- The blocks of the values tile them. -/
theorem covers17 : (cfg0.win 17).Covers :=
  (cfg0.win 17).covers_of_indexMap_surj rfl (by decide) fun β =>
    ⟨fun a => match a with
      | ⟨0, _⟩ => (⟨(β 0).val, (β 0).isLt⟩ : Fin 2)
      | ⟨1, _⟩ => (⟨(β 2).val, (β 2).isLt⟩ : Fin 32), fun a => by
      have h0 := word_small (β 0).val (lt_of_lt_of_le (β 0).isLt (by decide : 2 ≤ 32))
      have h2 := word_small (β 2).val (β 2).isLt
      match a with
      | ⟨0, _⟩ => exact h0
      | ⟨1, _⟩ => exact (Nat.lt_one_iff.mp (β 1).isLt).symm
      | ⟨2, _⟩ => exact h2
      | ⟨3, _⟩ => exact (Nat.lt_one_iff.mp (β 3).isLt).symm
      | ⟨4, _⟩ => exact (Nat.lt_one_iff.mp (β 4).isLt).symm⟩

/-- The blocks of the Fourier mixing tile it. -/
theorem covers18 : (cfg0.win 18).Covers :=
  (cfg0.win 18).covers_of_indexMap_surj rfl (by decide) fun β =>
    ⟨fun a => match a with
      | ⟨0, _⟩ => (⟨(β 0).val, (β 0).isLt⟩ : Fin 2)
      | ⟨1, _⟩ => (⟨(β 2).val, (β 2).isLt⟩ : Fin 32), fun a => by
      have h0 := word_small (β 0).val (lt_of_lt_of_le (β 0).isLt (by decide : 2 ≤ 32))
      have h2 := word_small (β 2).val (β 2).isLt
      match a with
      | ⟨0, _⟩ => exact h0
      | ⟨1, _⟩ => exact (Nat.lt_one_iff.mp (β 1).isLt).symm
      | ⟨2, _⟩ => exact h2
      | ⟨3, _⟩ => exact (Nat.lt_one_iff.mp (β 3).isLt).symm⟩

/-- The blocks of the gated channels tile them. -/
theorem covers19 : (cfg0.win 19).Covers :=
  (cfg0.win 19).covers_of_indexMap_surj rfl (by decide) fun β =>
    ⟨fun a => match a with
      | ⟨0, _⟩ => (⟨(β 0).val, (β 0).isLt⟩ : Fin 2)
      | ⟨1, _⟩ => (⟨(β 1).val, (β 1).isLt⟩ : Fin 32), fun a => by
      have h0 := word_small (β 0).val (lt_of_lt_of_le (β 0).isLt (by decide : 2 ≤ 32))
      have h1 := word_small (β 1).val (β 1).isLt
      match a with
      | ⟨0, _⟩ => exact h0
      | ⟨1, _⟩ => exact h1
      | ⟨2, _⟩ => exact (Nat.lt_one_iff.mp (β 2).isLt).symm⟩

end Cert.Proof.Prep

end
-- ==== Proof.PrepHost.lean ====
module

public import proofs.«01_k».proof.Proof.Gen.Kernel3Ideal.Frame
public import Idealize.ShloMosaic.Lib.Pointwise
public import Idealize.ShloMosaic.Lib.Pipeline.Value
public import Idealize.ShloMosaic.Lib.Claim
public import Idealize.ShloMosaic.Lib.StableHlo.RunRead

/-!
# What the preparation finds

The arrays of the third call as expressions of its arguments: the modulation laid out, the weights' columns rearranged by
heads, and the tables of the rotary positions and of the Fourier mixing.
-/

@[expose] public section

set_option maxRecDepth 16384

noncomputable section

namespace Cert.Proof.Prep

open Cert.Kernel3Ideal Cert.Kernel3Ideal.Gen
open Idealize.ShloMosaic Idealize.SL.Sem Idealize.ShloMosaic.TcCoe

section
variable {F : FTy → Type} [FloatOps F]

/-- The modulation: eight rows, of which two are the batches', each in six parts. -/
def modArr (a1 : Vec F S2x6144 .f32) : Vec F S8x6x1x1024 .f32 :=
  shapeCast S8x6x1x1024 (pad S8x6144 ![0, 0] ![6, 0] ![0, 0] a1 (sitofp .f32 (constantI S_ 32 0#32)) pads_S2x6144_S8x6144_060_000 h_S_)
    shapeCasts_S8x6144_S8x6x1x1024

/-- The divisor of a remainder, with one in place of zero. -/
def period (n : BitVec 32) : IVec S_ 32 :=
  select (cmpi .eq (constantI S_ 32 n) (constantI S_ 32 0#32)) (constantI S_ 32 1#32) (constantI S_ 32 n)

/-- The products of two numbers below 64, over 64, before their sign is set right. -/
def dftRem : IVec S64x64 32 :=
  Host.remsi (muli (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0)))) (broadcastInDim S64x64 ![] bcast_S_S64x64 (period 64#32))

/-- The angles of the Fourier mixing. -/
def dftAng : Vec F S64x64 .f32 :=
  mulf (sitofp .f32 (select (andi (cmpi .ne (cmpi .slt dftRem (broadcastInDim S64x64 ![] bcast_S_S64x64 (constantI S_ 32 0#32))) (broadcastInDim S64x64 ![] bcast_S_S64x64 (cmpi .slt (period 64#32) (constantI S_ 32 0#32)))) (cmpi .ne dftRem (broadcastInDim S64x64 ![] bcast_S_S64x64 (constantI S_ 32 0#32)))) (addi dftRem (broadcastInDim S64x64 ![] bcast_S_S64x64 (period 64#32))) dftRem)) (broadcastInDim S64x64 ![] bcast_S_S64x64 (constant S_ .f32 0x3DC90FDB#32))

/-- One where the groups are the same. -/
def eye : Vec F S4x4 .f32 :=
  uitofp .f32 (cmpi .eq (addi (iotaInDim S4x4 32 0) (broadcastInDim S4x4 ![] bcast_S_S4x4 (constantI S_ 32 0#32))) (iotaInDim S4x4 32 1))

/-- A table for every group. -/
def kron (v : Vec F S64x64 .f32) : Vec F S256x256 .f32 :=
  shapeCast S256x256 (mulf (broadcastInDim S4x64x4x64 ![0, 1, 2, 3] bcast_S4x1x4x1_S4x64x4x64_0_1_2_3 (broadcastInDim S4x1x4x1 ![0, 2] bcast_S4x4_S4x1x4x1_0_2 eye)) (broadcastInDim S4x64x4x64 ![0, 1, 2, 3] bcast_S1x64x1x64_S4x64x4x64_0_1_2_3 (broadcastInDim S1x64x1x64 ![1, 3] bcast_S64x64_S1x64x1x64_1_3 v))) shapeCasts_S4x64x4x64_S256x256

/-- The tables of the Fourier mixing side by side. -/
def dftArr : Vec F S256x512 .bf16 :=
  truncf .bf16 (concatenate S256x512 1 [⟨S256x256, kron (Host.cos dftAng)⟩, ⟨S256x256, Host.negf (kron (Host.sin dftAng))⟩] concatenates_S256x256_S256x256_S256x512_d1) bitsLt_bf16_f32

/-- The tokens over the grid's width, before the rounding is set right. -/
def rowQuo : IVec S16384 32 := Host.divsi (iotaInDim S16384 32 0) (broadcastInDim S16384 ![] bcast_S_S16384 (constantI S_ 32 64#32))

/-- The tokens' remainders, before their sign is set right. -/
def colRem : IVec S16384 32 := Host.remsi (iotaInDim S16384 32 0) (broadcastInDim S16384 ![] bcast_S_S16384 (period 64#32))

/-- The frequencies. -/
def freq : Vec F S8 .f32 :=
  Host.powf (broadcastInDim S8 ![] bcast_S_S8 (constant S_ .f32 0x461C4000#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))

/-- A number of every token times the frequencies. -/
def turns (v : IVec S16384 32) : Vec F S16384x8 .f32 :=
  mulf (broadcastInDim S16384x8 ![0, 1] bcast_S16384x1_S16384x8_0_1 (broadcastInDim S16384x1 ![0] bcast_S16384_S16384x1_0 (sitofp .f32 v))) (broadcastInDim S16384x8 ![0, 1] bcast_S1x8_S16384x8_0_1 (broadcastInDim S1x8 ![1] bcast_S8_S1x8_1 freq))

/-- The rotary angles: the token's row of the grid and its column, times the frequencies. -/
def ropeAng : Vec F S16384x16 .f32 :=
  concatenate S16384x16 1 [⟨S16384x8, turns (select (andi (cmpi .ne (signi (iotaInDim S16384 32 0)) (broadcastInDim S16384 ![] bcast_S_S16384 (signi (constantI S_ 32 64#32)))) (cmpi .ne (Host.remsi (iotaInDim S16384 32 0) (broadcastInDim S16384 ![] bcast_S_S16384 (constantI S_ 32 64#32))) (broadcastInDim S16384 ![] bcast_S_S16384 (constantI S_ 32 0#32)))) (subi rowQuo (broadcastInDim S16384 ![] bcast_S_S16384 (constantI S_ 32 1#32))) rowQuo)⟩, ⟨S16384x8, turns (select (andi (cmpi .ne (cmpi .slt colRem (broadcastInDim S16384 ![] bcast_S_S16384 (constantI S_ 32 0#32))) (broadcastInDim S16384 ![] bcast_S_S16384 (cmpi .slt (period 64#32) (constantI S_ 32 0#32)))) (cmpi .ne colRem (broadcastInDim S16384 ![] bcast_S_S16384 (constantI S_ 32 0#32)))) (addi colRem (broadcastInDim S16384 ![] bcast_S_S16384 (period 64#32))) colRem)⟩] concatenates_S16384x8_S16384x8_S16384x16_d1

/-- Four runs of lanes side by side. -/
def cat4 (z : Vec F S16384x64 .f32) (u v : Vec F S16384x16 .f32) (w : Vec F S16384x32 .f32) : Vec F S16384x128 .f32 :=
  concatenate S16384x128 1 [⟨S16384x64, z⟩, ⟨S16384x16, u⟩, ⟨S16384x16, v⟩, ⟨S16384x32, w⟩] concatenates_S16384x64_S16384x16_S16384x16_S16384x32_S16384x128_d1

/-- A rotary table by lanes: two runs of sixteen after 64 zeros. -/
def lanes (u v : Vec F S16384x16 .f32) : Vec F S16384x128 .f32 :=
  cat4 (broadcastInDim S16384x64 ![] bcast_S_S16384x64 (constant S_ .f32 0x00000000#32)) u v
    (broadcastInDim S16384x32 ![] bcast_S_S16384x32 (constant S_ .f32 0x00000000#32))

/-- A zero matrix's zero, as the padding takes it. -/
def fill : Vec F S_ .f32 := sitofp .f32 (constantI S_ 32 0#32)

/-- Eight runs of columns side by side. -/
def cat8 (a : Vec F S1024x640 .f32) (b : Vec F S1024x64 .f32) (c d : Vec F S1024x32 .f32) (e : Vec F S1024x64 .f32) (f g : Vec F S1024x32 .f32)
    (h : Vec F S1024x512 .f32) : Vec F S1024x1408 .f32 :=
  concatenate S1024x1408 1 [⟨S1024x640, a⟩, ⟨S1024x64, b⟩, ⟨S1024x32, c⟩, ⟨S1024x32, d⟩, ⟨S1024x64, e⟩, ⟨S1024x32, f⟩, ⟨S1024x32, g⟩, ⟨S1024x512, h⟩] concatenates_S1024x640_S1024x64_S1024x32_S1024x32_S1024x64_S1024x32_S1024x32_S1024x512_S1024x1408_d1

/-- The columns of the shared rotary key. -/
def w1Rot (a3 : Vec F S1024x1184 .f32) : Vec F S1024x32 .f32 := extractStridedSlice S1024x32 ![0, 640] a3 slices_S1024x1184_S1024x32_0_640

/-- Their halves swapped. -/
def w1Swap (a3 : Vec F S1024x1184 .f32) : Vec F S1024x32 .f32 :=
  concatenate S1024x32 1 [⟨S1024x16, extractStridedSlice S1024x16 ![0, 16] (w1Rot a3) slices_S1024x32_S1024x16_0_16⟩, ⟨S1024x16, extractStridedSlice S1024x16 ![0, 0] (w1Rot a3) slices_S1024x32_S1024x16_0_0⟩] concatenates_S1024x16_S1024x16_S1024x32_d1

/-- 64 columns of zeros. -/
def gap64 : Vec F S1024x64 .f32 := broadcastInDim S1024x64 ![] bcast_S_S1024x64 (constant S_ .f32 0x00000000#32)

/-- 32 columns of zeros. -/
def gap32 : Vec F S1024x32 .f32 := broadcastInDim S1024x32 ![] bcast_S_S1024x32 (constant S_ .f32 0x00000000#32)

/-- The input projection by the columns that the body cuts: the shared rotary key and its halves swapped stand in lanes of a head. -/
def w1Arr (a3 : Vec F S1024x1184 .f32) : Vec F S1024x1408 .bf16 :=
  truncf .bf16 (cat8 (extractStridedSlice S1024x640 ![0, 0] a3 slices_S1024x1184_S1024x640_0_0) gap64 (w1Rot a3) gap32 gap64 (w1Swap a3)
    gap32 (extractStridedSlice S1024x512 ![0, 672] a3 slices_S1024x1184_S1024x512_0_672)) bitsLt_bf16_f32

/-- The queries' projection by heads of 96. -/
def uqHeads (a5 : Vec F S256x768 .f32) : Vec F S256x8x96 .f32 := shapeCast S256x8x96 a5 shapeCasts_S256x768_S256x8x96

/-- The queries' projection, each head padded to 128 lanes. -/
def wqaArr (a5 : Vec F S256x768 .f32) : Vec F S256x1024 .bf16 :=
  truncf .bf16 (shapeCast S256x1024 (pad S256x8x128 ![0, 0, 0] ![0, 0, 32] ![0, 0, 0] (shapeCast S256x8x96 (shapeCast S256x768 (uqHeads a5) shapeCasts_S256x8x96_S256x768) shapeCasts_S256x768_S256x8x96) fill pads_S256x8x96_S256x8x128_000_000_0320 h_S_) shapeCasts_S256x8x128_S256x1024) bitsLt_bf16_f32

/-- Its rotary lanes with their halves swapped, in the same places, and zero elsewhere. -/
def wqbArr (a5 : Vec F S256x768 .f32) : Vec F S256x1024 .bf16 :=
  have rope : Vec F S256x8x32 .f32 := extractStridedSlice S256x8x32 ![0, 0, 64] (uqHeads a5) slices_S256x8x96_S256x8x32_0_0_64
  truncf .bf16 (shapeCast S256x1024 (pad S256x8x128 ![0, 0, 64] ![0, 0, 32] ![0, 0, 0] (concatenate S256x8x32 2 [⟨S256x8x16, extractStridedSlice S256x8x16 ![0, 0, 16] rope slices_S256x8x32_S256x8x16_0_0_16⟩, ⟨S256x8x16, extractStridedSlice S256x8x16 ![0, 0, 0] rope slices_S256x8x32_S256x8x16_0_0_0⟩] concatenates_S256x8x16_S256x8x16_S256x8x32_d2) fill pads_S256x8x32_S256x8x128_000_000_64320 h_S_) shapeCasts_S256x8x128_S256x1024) bitsLt_bf16_f32

/-- The keys' and values' projection by heads. -/
def ukvHeads (a7 : Vec F S128x1024 .f32) : Vec F S128x8x128 .f32 := shapeCast S128x8x128 a7 shapeCasts_S128x1024_S128x8x128

/-- The keys' part, each head padded to 128 lanes. -/
def wkArr (a7 : Vec F S128x1024 .f32) : Vec F S128x1024 .bf16 :=
  truncf .bf16 (shapeCast S128x1024 (pad S128x8x128 ![0, 0, 0] ![0, 0, 64] ![0, 0, 0] (shapeCast S128x8x64 (shapeCast S128x512 (extractStridedSlice S128x8x64 ![0, 0, 0] (ukvHeads a7) slices_S128x8x128_S128x8x64_0_0_0) shapeCasts_S128x8x64_S128x512) shapeCasts_S128x512_S128x8x64) fill pads_S128x8x64_S128x8x128_000_000_0640 h_S_) shapeCasts_S128x8x128_S128x1024) bitsLt_bf16_f32

/-- The values' part by rows, each head padded to 80. -/
def wvArr (a7 : Vec F S128x1024 .f32) : Vec F S640x128 .bf16 :=
  truncf .bf16 (transpose S640x128 [1, 0] (shapeCast S128x640 (pad S128x8x80 ![0, 0, 0] ![0, 0, 16] ![0, 0, 0] (extractStridedSlice S128x8x64 ![0, 0, 64] (ukvHeads a7) slices_S128x8x128_S128x8x64_0_0_64) fill pads_S128x8x64_S128x8x80_000_000_0160 h_S_) shapeCasts_S128x8x80_S128x640) transposes_S128x640_S640x128_1_0) bitsLt_bf16_f32

/-- One in every head's row 64. -/
def voneArr : Vec F S640x1 .f32 := fun i => FloatOps.ofBits .f32 (lit0 (S640x1.rowMajor i))

variable (m : (ℓ : Loc nD τ sig) → Buf (Elt F) ℓ) (c : Dev nD)

/-- The contents of one buffer on a device. -/
abbrev A (r : Ref sig .tc) := m ((c.tc : Thread nD τ).loc r)

/-- The operations before the call. -/
abbrev line : List (HloOp τ sig (Elt F)) := hostOps0 ++ (hostOps0_1 ++ (hostOps0_2 ++ (hostOps0_3 ++ (hostOps0_4
    ++ (hostOps0_5 ++ (hostOps0_6 ++ (hostOps0_7 ++ (hostOps0_8 ++ (hostOps0_9 ++ (hostOps0_10 ++ (hostOps0_11 ++ (hostOps0_12
    ++ (hostOps0_13 ++ (hostOps0_14 ++ (hostOps0_15 ++ (hostOps0_16 ++ (hostOps0_17 ++ (hostOps0_18 ++ hostOps0_19))))))))))))))))))

/-- What the call finds is what the operations before it leave, one after the other. -/
theorem V_eq (b : Ref sig .tc) : V m c b = StableHlo.after line (fun b => m (c, b)) (Proc.devRef .tc b) := by
  rfl

/-- What the first of these operations leave. -/
abbrev U (n : ℕ) (b : Ref sig .tc) := StableHlo.upto line (fun b => m (c, b)) n (Proc.devRef .tc b)

end

end Cert.Proof.Prep

end
-- ==== Proof.PrepFound.lean ====
module

public import proofs.«01_k».proof.Proof.PrepHost

/-!
# The preparation's arrays

The operations before the third call leave in its windows' arrays the expressions of its arguments.
-/

@[expose] public section

set_option maxRecDepth 16384

noncomputable section

namespace Cert.Proof.Prep

open Cert.Kernel3Ideal Cert.Kernel3Ideal.Gen
open Idealize.ShloMosaic Idealize.SL.Sem Idealize.ShloMosaic.TcCoe

variable {F : FTy → Type} [FloatOps F] (m : (ℓ : Loc nD τ sig) → Buf (Elt F) ℓ) (c : Dev nD)

/-- What the call finds in the arrays of its windows. -/
structure Found : Prop where
  x : V m c main_arg0 = A m c main_arg0
  mod : V m c main_v1 = modArr (A m c main_arg1)
  g1 : V m c main_v96 = shapeCast S1x1024 (A m c main_arg2 : Vec F S1024 .f32) shapeCasts_S1024_S1x1024
  w1 : V m c main_v68 = w1Arr (A m c main_arg3)
  qg : V m c main_v94 = shapeCast S1x256 (A m c main_arg4 : Vec F S256 .f32) shapeCasts_S256_S1x256
  wqa : V m c main_v78 = wqaArr (A m c main_arg5)
  wqb : V m c main_v81 = wqbArr (A m c main_arg5)
  kvg : V m c main_v95 = shapeCast S1x128 (A m c main_arg6 : Vec F S128 .f32) shapeCasts_S128_S1x128
  wk : V m c main_v88 = wkArr (A m c main_arg7)
  wv : V m c main_v93 = wvArr (A m c main_arg7)
  dft : V m c main_v25 = dftArr
  ta : V m c main_v56 = lanes (Host.cos ropeAng) (Host.cos ropeAng)
  tb : V m c main_v58 = lanes (Host.negf (Host.sin ropeAng)) (Host.sin ropeAng)
  vone : V m c main_cst = voneArr

/-- Four runs of lanes equal piece by piece. -/
theorem cat4_congr {z z' : Vec F S16384x64 .f32} {u u' v v' : Vec F S16384x16 .f32} {w w' : Vec F S16384x32 .f32}
    (hz : z = z') (hu : u = u') (hv : v = v') (hw : w = w') : cat4 z u v w = cat4 z' u' v' w' := by
  rw [hz, hu, hv, hw]

/-- Eight runs of columns equal piece by piece. -/
theorem cat8_congr {a a' : Vec F S1024x640 .f32} {b b' : Vec F S1024x64 .f32} {c c' d d' : Vec F S1024x32 .f32} {e e' : Vec F S1024x64 .f32}
    {f f' g g' : Vec F S1024x32 .f32} {h h' : Vec F S1024x512 .f32} (ha : a = a') (hb : b = b') (hc : c = c') (hd : d = d')
    (he : e = e') (hf : f = f') (hg : g = g') (hh : h = h') : cat8 a b c d e f g h = cat8 a' b' c' d' e' f' g' h' := by
  rw [ha, hb, hc, hd, he, hf, hg, hh]

set_option maxHeartbeats 4000000 in
/-- The operations before the call leave just that. -/
theorem found : Found m c where
  x := by rw [V_eq]; after_reads_simp
  mod := by rw [V_eq]; after_reads_simp; rfl
  g1 := by rw [V_eq]; after_reads_simp; rfl
  w1 := by
    rw [V_eq]
    after_reads_simp
    refine congrArg (fun v : Vec F S1024x1408 .f32 => (truncf .bf16 v bitsLt_bf16_f32 : Vec F S1024x1408 .bf16)) (cat8_congr ?_ ?_ ?_ ?_ ?_ ?_ ?_ ?_)
    · show U m c 149 main_v65 = _; after_reads_simp
    · show U m c 149 main_v63 = _; after_reads_simp; rfl
    · show U m c 149 main_v59 = _; after_reads_simp; rfl
    · show U m c 149 main_v64 = _; after_reads_simp; rfl
    · show U m c 149 main_v63 = _; after_reads_simp; rfl
    · show U m c 149 main_v62 = _; after_reads_simp; rfl
    · show U m c 149 main_v64 = _; after_reads_simp; rfl
    · show U m c 149 main_v66 = _; after_reads_simp
  qg := by rw [V_eq]; after_reads_simp; rfl
  wqa := by rw [V_eq]; after_reads_simp; rfl
  wqb := by rw [V_eq]; after_reads_simp; rfl
  kvg := by rw [V_eq]; after_reads_simp; rfl
  wk := by rw [V_eq]; after_reads_simp; rfl
  wv := by rw [V_eq]; after_reads_simp; rfl
  dft := by
    rw [V_eq]
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append, StableHlo.TRef.binary,
      StableHlo.TRef.nullary, StableHlo.TRef.ternary, StableHlo.TRef.unary, StableHlo.TRef.toBuf, StableHlo.TRef.ofBuf, cast_eq]
    after_results_simp
    after_results_loop
    rfl
  ta := by
    rw [V_eq]
    after_reads_simp
    refine cat4_congr ?_ ?_ ?_ ?_
    · show U m c 136 main_v54 = _; after_reads_simp
    · show U m c 136 main_v52 = _; after_reads_simp; rfl
    · show U m c 136 main_v52 = _; after_reads_simp; rfl
    · show U m c 136 main_v55 = _; after_reads_simp
  tb := by
    rw [V_eq]
    after_reads_simp
    refine cat4_congr ?_ ?_ ?_ ?_
    · show U m c 138 main_v54 = _; after_reads_simp
    · show U m c 138 main_v57 = _; after_reads_simp; rfl
    · show U m c 138 main_v53 = _; after_reads_simp; rfl
    · show U m c 138 main_v55 = _; after_reads_simp
  vone := by rw [V_eq]; after_reads_simp; rfl

end Cert.Proof.Prep

end
-- ==== Proof.PrepRow.lean ====
module

public import Idealize.ShloMosaic.Lib.Pointwise
public import Idealize.ShloMosaic.Lib.IdealHost

/-!
# One token of the latents' preparation

The formula of one token's queries, keys, values, Fourier mixing and gated channels, and the few facts about sums and
products that lead the call's arrangement back to it.
-/

@[expose] public section

set_option maxRecDepth 16384

noncomputable section

namespace Cert.Proof.Prep

open Idealize.ShloMosaic

/-- What the call is given of one token: its row, its batch's shift and scale, and its rotary tables. -/
structure Tok where
  /-- the residual row -/
  x : Fin 1024 → EReal
  /-- the shift -/
  shift : Fin 1024 → EReal
  /-- the scale -/
  scale : Fin 1024 → EReal
  /-- the cosines of its position -/
  cos : Fin 16 → EReal
  /-- the sines of its position -/
  sin : Fin 16 → EReal

/-- The layer's weights. -/
structure Wts where
  /-- the gains of the first norm -/
  g1 : Fin 1024 → EReal
  /-- the input projection -/
  win : Fin 1024 → Fin 1184 → EReal
  /-- the gains of the queries' latent -/
  qg : Fin 256 → EReal
  /-- the queries' projection -/
  wuq : Fin 256 → Fin 768 → EReal
  /-- the gains of the keys' and values' latent -/
  kvg : Fin 128 → EReal
  /-- the keys' and values' projection -/
  wukv : Fin 128 → Fin 1024 → EReal
  /-- the cosines of the Fourier mixing -/
  dc : Fin 64 → Fin 64 → EReal
  /-- its sines -/
  ds : Fin 64 → Fin 64 → EReal

/-- A row over its root mean square, times the gains; `N` is the row's length as a word. -/
def rms {n : ℕ} (N : BitVec 32) (v g : Fin n → EReal) (d : Fin n) : EReal :=
  v d * Ideal.rsqrt (Ideal.div (∑ x, v x * v x) (Ideal.ofBits .f32 N) + Ideal.ofBits .f32 0x358637BD#32) * g d

/-- The input projection's input. -/
def inp (T : Tok) (W : Wts) (d : Fin 1024) : EReal :=
  rms 0x44800000#32 T.x W.g1 d * (Ideal.ofBits .f32 0x3F800000#32 + T.scale d) + T.shift d

/-- The input projection. -/
def z (T : Tok) (W : Wts) (j : Fin 1184) : EReal := ∑ x, inp T W x * W.win x j

/-- The queries' latent, normed. -/
def cqn (T : Tok) (W : Wts) (e : Fin 256) : EReal := rms 0x43800000#32 (fun x : Fin 256 => z T W ⟨256 + x, by omega⟩) W.qg e

/-- The keys' and values' latent, normed. -/
def ckvn (T : Tok) (W : Wts) (e : Fin 128) : EReal := rms 0x43000000#32 (fun x : Fin 128 => z T W ⟨512 + x, by omega⟩) W.kvg e

/-- The queries of all heads. -/
def q (T : Tok) (W : Wts) (j : Fin 768) : EReal := ∑ e, cqn T W e * W.wuq e j

/-- The keys and values of all heads. -/
def kv (T : Tok) (W : Wts) (j : Fin 1024) : EReal := ∑ e, ckvn T W e * W.wukv e j

/-- A head's 128 lanes: its plain part, its rotary part turned, and zeros. -/
def lane (T : Tok) (v : Fin 64 → EReal) (r : Fin 32 → EReal) (l : Fin 128) : EReal :=
  if h1 : (l : ℕ) < 64 then v ⟨l, h1⟩
  else if h2 : (l : ℕ) < 80 then
    r ⟨l - 64, by omega⟩ * T.cos ⟨l - 64, by omega⟩ - r ⟨l - 48, by omega⟩ * T.sin ⟨l - 64, by omega⟩
  else if h3 : (l : ℕ) < 96 then
    r ⟨l - 80, by omega⟩ * T.sin ⟨l - 80, by omega⟩ + r ⟨l - 64, by omega⟩ * T.cos ⟨l - 80, by omega⟩
  else 0

/-- The scale of the queries. -/
def qs : EReal := Ideal.ofBits .f32 0x3E16C740#32

/-- A head's queries. -/
def qOut (T : Tok) (W : Wts) (h : Fin 8) (l : Fin 128) : EReal :=
  lane T (fun l => q T W ⟨h * 96 + l, by omega⟩) (fun l => q T W ⟨h * 96 + 64 + l, by omega⟩) l * qs

/-- A head's keys. -/
def kOut (T : Tok) (W : Wts) (h : Fin 8) (l : Fin 128) : EReal :=
  lane T (fun l => kv T W ⟨h * 128 + l, by omega⟩) (fun l => z T W ⟨640 + l, by omega⟩) l

/-- A head's values, a one and zeros. -/
def vOut (T : Tok) (W : Wts) (h : Fin 8) (r : Fin 80) : EReal :=
  if h1 : (r : ℕ) < 64 then kv T W ⟨h * 128 + 64 + r, by omega⟩ else if (r : ℕ) = 64 then 1 else 0

/-- The Fourier mixing: part `p`, channel `j` of group `g`. -/
def fOut (T : Tok) (W : Wts) (p : Fin 2) (g : Fin 4) (j : Fin 64) : EReal :=
  ∑ i : Fin 64, z T W ⟨g * 64 + i, by omega⟩ * if p = 0 then W.dc i j else -W.ds i j

/-- The gated channels. -/
def uOut (T : Tok) (W : Wts) (j : Fin 256) : EReal :=
  z T W ⟨672 + j, by omega⟩ * Ideal.logistic (z T W ⟨928 + j, by omega⟩)

/-- Two runs of sixteen lanes after 64 zeros, and zeros after them. -/
def runs (u v : Fin 16 → EReal) (l : Fin 128) : EReal :=
  if h1 : (l : ℕ) < 64 then 0 else if h2 : (l : ℕ) < 80 then u ⟨l - 64, by omega⟩
  else if h3 : (l : ℕ) < 96 then v ⟨l - 80, by omega⟩ else 0

/-- The queries' scale is a positive real, so it may be taken out of a sum. -/
theorem add_qs (a b : EReal) : (a + b) * qs = a * qs + b * qs := by
  have h : qs = (((9881408 : ℝ) / 67108864 : ℝ) : EReal) := by
    simp [qs, Ideal.ofBits, Ideal.ieee, -EReal.coe_mul]; norm_num
  rw [h]
  exact EReal.right_distrib_of_nonneg_of_ne_top (by positivity) (EReal.coe_ne_top _) a b

/-- A sum over the groups' channels of which one group's count. -/
theorem sum_group (f : Fin 256 → EReal) (g : Fin 4) (k : Fin 64 → EReal)
    (h : ∀ (g' : Fin 4) (i : Fin 64), f ⟨g' * 64 + i, by omega⟩ = if g' = g then k i else 0) : ∑ e, f e = ∑ i, k i := by
  have e1 : ∑ e, f e = ∑ p : Fin 4 × Fin 64, f ⟨p.1 * 64 + p.2, by omega⟩ := by
    refine (Equiv.sum_comp (finProdFinEquiv (m := 4) (n := 64)) f).symm.trans (Finset.sum_congr rfl fun p _ => ?_)
    exact congrArg f (Fin.ext (by show (p.2 : ℕ) + 64 * p.1 = p.1 * 64 + p.2; omega))
  rw [e1, Fintype.sum_prod_type, Finset.sum_eq_single g]
  · exact Finset.sum_congr rfl fun i _ => by rw [h, if_pos rfl]
  · exact fun g' _ hg => Finset.sum_eq_zero fun i _ => by rw [h, if_neg hg]
  · exact fun hg => absurd (Finset.mem_univ g) hg

end Cert.Proof.Prep

end
-- ==== Proof.PrepAt.lean ====
module

public import proofs.«01_k».proof.Proof.PrepHost
public import proofs.«01_k».proof.Proof.PrepRow

/-!
# The preparation's arrays at an index

Each array that the third call finds, read where the body's results depend on it.
-/

@[expose] public section

set_option maxRecDepth 16384

noncomputable section

namespace Cert.Proof.Prep

open Cert.Kernel3Ideal Cert.Kernel3Ideal.Gen
open Idealize.ShloMosaic

/-- A part of a batch's modulation. -/
theorem modArr_at (a1 : Vec Ideal S2x6144 .f32) (b : Fin 8) (hb : (b : ℕ) < 2) (k : Fin 6) (d : Fin 1024) :
    modArr a1 (ix4 b k 0 d) = a1 (ix2 ⟨b, hb⟩ ⟨1024 * k + d, by omega⟩) := by
  pointwise [modArr]
  rw [dif_pos ⟨hb, by omega⟩]
  simp only [Nat.mul_comm]

/-- The eight runs of columns at an index. -/
theorem cat8_at (a : Vec Ideal S1024x640 .f32) (b : Vec Ideal S1024x64 .f32) (c d : Vec Ideal S1024x32 .f32) (e : Vec Ideal S1024x64 .f32)
    (f g : Vec Ideal S1024x32 .f32) (h : Vec Ideal S1024x512 .f32) (x : Fin 1024) (j : Fin 1408) :
    cat8 a b c d e f g h (ix2 x j)
      = if h1 : (j : ℕ) < 640 then a (ix2 x ⟨j, h1⟩) else if h2 : (j : ℕ) < 704 then b (ix2 x ⟨j - 640, by omega⟩)
        else if h3 : (j : ℕ) < 736 then c (ix2 x ⟨j - 704, by omega⟩) else if h4 : (j : ℕ) < 768 then d (ix2 x ⟨j - 736, by omega⟩)
        else if h5 : (j : ℕ) < 832 then e (ix2 x ⟨j - 768, by omega⟩) else if h6 : (j : ℕ) < 864 then f (ix2 x ⟨j - 832, by omega⟩)
        else if h7 : (j : ℕ) < 896 then g (ix2 x ⟨j - 864, by omega⟩) else h (ix2 x ⟨j - 896, by omega⟩) := by
  pointwise [cat8]
  have := j.isLt
  by_cases h1 : (j : ℕ) < 640
  · simp only [dif_pos h1]
  by_cases h2 : (j : ℕ) < 704
  · simp only [dif_neg h1, dif_pos h2, dif_pos (show (j : ℕ) - 640 < 64 by omega)]
  by_cases h3 : (j : ℕ) < 736
  · simp only [dif_neg h1, dif_neg h2, dif_pos h3, Nat.sub_sub, Nat.reduceAdd, dif_neg (show ¬ (j : ℕ) - 640 < 64 by omega),
      dif_pos (show (j : ℕ) - 704 < 32 by omega)]
  by_cases h4 : (j : ℕ) < 768
  · simp only [dif_neg h1, dif_neg h2, dif_neg h3, dif_pos h4, Nat.sub_sub, Nat.reduceAdd, dif_neg (show ¬ (j : ℕ) - 640 < 64 by omega),
      dif_neg (show ¬ (j : ℕ) - 704 < 32 by omega), dif_pos (show (j : ℕ) - 736 < 32 by omega)]
  by_cases h5 : (j : ℕ) < 832
  · simp only [dif_neg h1, dif_neg h2, dif_neg h3, dif_neg h4, dif_pos h5, Nat.sub_sub, Nat.reduceAdd,
      dif_neg (show ¬ (j : ℕ) - 640 < 64 by omega), dif_neg (show ¬ (j : ℕ) - 704 < 32 by omega),
      dif_neg (show ¬ (j : ℕ) - 736 < 32 by omega), dif_pos (show (j : ℕ) - 768 < 64 by omega)]
  by_cases h6 : (j : ℕ) < 864
  · simp only [dif_neg h1, dif_neg h2, dif_neg h3, dif_neg h4, dif_neg h5, dif_pos h6, Nat.sub_sub, Nat.reduceAdd,
      dif_neg (show ¬ (j : ℕ) - 640 < 64 by omega), dif_neg (show ¬ (j : ℕ) - 704 < 32 by omega),
      dif_neg (show ¬ (j : ℕ) - 736 < 32 by omega), dif_neg (show ¬ (j : ℕ) - 768 < 64 by omega),
      dif_pos (show (j : ℕ) - 832 < 32 by omega)]
  by_cases h7 : (j : ℕ) < 896
  · simp only [dif_neg h1, dif_neg h2, dif_neg h3, dif_neg h4, dif_neg h5, dif_neg h6, dif_pos h7, Nat.sub_sub, Nat.reduceAdd,
      dif_neg (show ¬ (j : ℕ) - 640 < 64 by omega), dif_neg (show ¬ (j : ℕ) - 704 < 32 by omega),
      dif_neg (show ¬ (j : ℕ) - 736 < 32 by omega), dif_neg (show ¬ (j : ℕ) - 768 < 64 by omega),
      dif_neg (show ¬ (j : ℕ) - 832 < 32 by omega), dif_pos (show (j : ℕ) - 864 < 32 by omega)]
  · simp only [dif_neg h1, dif_neg h2, dif_neg h3, dif_neg h4, dif_neg h5, dif_neg h6, dif_neg h7, Nat.sub_sub, Nat.reduceAdd,
      dif_neg (show ¬ (j : ℕ) - 640 < 64 by omega), dif_neg (show ¬ (j : ℕ) - 704 < 32 by omega),
      dif_neg (show ¬ (j : ℕ) - 736 < 32 by omega), dif_neg (show ¬ (j : ℕ) - 768 < 64 by omega),
      dif_neg (show ¬ (j : ℕ) - 832 < 32 by omega), dif_neg (show ¬ (j : ℕ) - 864 < 32 by omega)]

/-- The shared rotary key's columns with their halves swapped. -/
theorem w1Swap_at (a3 : Vec Ideal S1024x1184 .f32) (x : Fin 1024) (k : Fin 32) : w1Swap a3 (ix2 x k)
    = if h : (k : ℕ) < 16 then a3 (ix2 x ⟨656 + k, by omega⟩) else a3 (ix2 x ⟨624 + k, by omega⟩) := by
  pointwise [w1Swap, w1Rot]
  by_cases h : (k : ℕ) < 16
  · simp only [dif_pos h]
    congr 2
    exact Fin.ext (by show 640 + (16 + (k : ℕ)) = 656 + k; omega)
  · simp only [dif_neg h]
    congr 2
    exact Fin.ext (by show 640 + ((k : ℕ) - 16) = 624 + k; omega)

/-- The input projection's columns at an index. -/
theorem w1Arr_at (a3 : Vec Ideal S1024x1184 .f32) (x : Fin 1024) (j : Fin 1408) : w1Arr a3 (ix2 x j)
    = cat8 (extractStridedSlice S1024x640 ![0, 0] a3 slices_S1024x1184_S1024x640_0_0) gap64 (w1Rot a3) gap32 gap64 (w1Swap a3)
    gap32 (extractStridedSlice S1024x512 ![0, 672] a3 slices_S1024x1184_S1024x512_0_672) (ix2 x j) := by
  pointwise [w1Arr]

end Cert.Proof.Prep

end
-- ==== Proof.PrepAt2.lean ====
module

public import proofs.«01_k».proof.Proof.PrepHost
public import proofs.«01_k».proof.Proof.PrepRow
public import Idealize.ShloMosaic.Lib.KernelVsHost

/-!
# The heads' weights and the tables at an index

The projections by heads, the rotary tables, the Fourier tables and the ones, read at an index.
-/

@[expose] public section

set_option maxRecDepth 16384

noncomputable section

namespace Cert.Proof.Prep

open Cert.Kernel3Ideal Cert.Kernel3Ideal.Gen
open Idealize.ShloMosaic

/-- A head's queries' columns. -/
theorem wqaArr_at (a5 : Vec Ideal S256x768 .f32) (e : Fin 256) (h : Fin 8) (l : Fin 96) :
    wqaArr a5 (ix2 e ⟨h * 128 + l, by omega⟩) = a5 (ix2 e ⟨h * 96 + l, by omega⟩) := by
  pointwise [wqaArr, uqHeads]
  simp only [show ((h : ℕ) * 128 + l) % 128 = l by omega, dif_pos l.isLt]

/-- A head's rotary columns, halves swapped. -/
theorem wqbArr_at (a5 : Vec Ideal S256x768 .f32) (e : Fin 256) (h : Fin 8) (k : Fin 32) :
    wqbArr a5 (ix2 e ⟨h * 128 + 64 + k, by omega⟩)
      = if k' : (k : ℕ) < 16 then a5 (ix2 e ⟨h * 96 + 80 + k, by omega⟩) else a5 (ix2 e ⟨h * 96 + 48 + k, by omega⟩) := by
  pointwise [wqbArr, uqHeads]
  simp only [show ((h : ℕ) * 128 + 64 + k) % 128 = 64 + k by omega]
  refine (dif_pos ?_).trans ?_
  · omega
  by_cases k' : (k : ℕ) < 16
  · refine (dif_pos ?_).trans (Eq.trans ?_ (dif_pos k').symm)
    · omega
    · exact congrArg (fun n => a5 (ix2 e n)) (Fin.ext (by show (h : ℕ) * 96 + (64 + (16 + (64 + k - 64))) = h * 96 + 80 + k; omega))
  · refine (dif_neg ?_).trans (Eq.trans ?_ (dif_neg k').symm)
    · omega
    · exact congrArg (fun n => a5 (ix2 e n)) (Fin.ext (by show (h : ℕ) * 96 + (64 + (64 + k - 64 - 16)) = h * 96 + 48 + k; omega))

/-- A head's keys' columns. -/
theorem wkArr_at (a7 : Vec Ideal S128x1024 .f32) (e : Fin 128) (h : Fin 8) (l : Fin 128) :
    wkArr a7 (ix2 e ⟨h * 128 + l, by omega⟩) = if (l : ℕ) < 64 then a7 (ix2 e ⟨h * 128 + l, by omega⟩) else 0 := by
  pointwise [wkArr, ukvHeads, fill]
  split_ifs
  · rfl
  · exact sitofp_zero (φ := .f32)

/-- A head's values' rows. -/
theorem wvArr_at (a7 : Vec Ideal S128x1024 .f32) (e : Fin 128) (h : Fin 8) (r : Fin 80) :
    wvArr a7 (ix2 ⟨h * 80 + r, by omega⟩ e) = if h' : (r : ℕ) < 64 then a7 (ix2 e ⟨h * 128 + 64 + r, by omega⟩) else 0 := by
  pointwise [wvArr, ukvHeads, fill]
  split_ifs
  · congr 2
    exact Fin.ext (by show (h : ℕ) * 128 + (64 + (r : ℕ)) = h * 128 + 64 + r; omega)
  · exact sitofp_zero (φ := .f32)

/-- A rotary table at an index. -/
theorem lanes_at (u v : Vec Ideal S16384x16 .f32) (i : Fin 16384) (l : Fin 128) :
    lanes u v (ix2 i l) = runs (fun k => u (ix2 i k)) (fun k => v (ix2 i k)) l := by
  unfold runs
  pointwise [lanes, cat4]
  by_cases h1 : (l : ℕ) < 64
  · rw [dif_pos h1, dif_pos h1]
  by_cases h2 : (l : ℕ) < 80
  · rw [dif_neg h1, dif_neg h1, dif_pos h2, dif_pos (show (l : ℕ) - 64 < 16 by omega)]
  by_cases h3 : (l : ℕ) < 96
  · simp only [dif_neg h1, dif_neg h2, dif_pos h3, dif_neg (show ¬ (l : ℕ) - 64 < 16 by omega), Nat.sub_sub, Nat.reduceAdd,
      dif_pos (show (l : ℕ) - 80 < 16 by omega)]
  · simp only [dif_neg h1, dif_neg h2, dif_neg h3, dif_neg (show ¬ (l : ℕ) - 64 < 16 by omega), Nat.sub_sub, Nat.reduceAdd,
      dif_neg (show ¬ (l : ℕ) - 80 < 16 by omega)]

/-- The bit 1 as a number. -/
theorem of_bit_one : FloatOps.uitofp (F := Ideal) .f32 1#1 = 1 := by
  simp [FloatOps.uitofp]

/-- The bit 0 as a number. -/
theorem of_bit_zero : FloatOps.uitofp (F := Ideal) .f32 0#1 = 0 := by
  simp [FloatOps.uitofp]

/-- The words of the ones. -/
theorem word_at : ∀ (h : Fin 8) (r : Fin 80), lit0 ⟨h * 80 + r, by omega⟩ = if (r : ℕ) = 64 then 0x3F800000#32 else 0x00000000#32 := by
  decide +kernel

/-- The ones at an index. -/
theorem voneArr_at (h : Fin 8) (r : Fin 80) :
    (voneArr : Vec Ideal S640x1 .f32) (ix2 ⟨h * 80 + r, by omega⟩ 0) = if (r : ℕ) = 64 then 1 else 0 := by
  have place : S640x1.rowMajor (ix2 ⟨h * 80 + r, by omega⟩ 0) = (⟨h * 80 + r, by omega⟩ : Fin 640) := by
    apply Fin.ext
    refine (Shape.rowMajor_val_two _).trans ?_
    simp
  refine (congrArg (fun k : Fin 640 => FloatOps.ofBits (F := Ideal) .f32 (lit0 k)) place).trans ?_
  refine (congrArg (FloatOps.ofBits (F := Ideal) .f32) (word_at h r)).trans ?_
  split_ifs
  · exact Ideal.ofBits_one_f32
  · exact Ideal.ofBits_zero_f32

/-- The groups' table at an index. -/
theorem eye_at (g g' : Fin 4) : (eye : Vec Ideal S4x4 .f32) (ix2 g g') = if g = g' then 1 else 0 := by
  pointwise [eye]
  have bit : ∀ g g' : Fin 4, IntOp.cmpi .eq (IntOp.addi (BitVec.ofNat 32 g) 0#32) (BitVec.ofNat 32 g') = if g = g' then 1#1 else 0#1 := by
    decide +kernel
  refine (congrArg (FloatOps.uitofp (F := Ideal) .f32) (bit g g')).trans ?_
  split_ifs
  · exact of_bit_one
  · exact of_bit_zero

/-- A table for every group at an index. -/
theorem kron_at (v : Vec Ideal S64x64 .f32) (g g' : Fin 4) (i j : Fin 64) :
    kron v (ix2 ⟨g * 64 + i, by omega⟩ ⟨g' * 64 + j, by omega⟩) = if g = g' then v (ix2 i j) else 0 := by
  have e : kron v (ix2 ⟨g * 64 + i, by omega⟩ ⟨g' * 64 + j, by omega⟩) = (eye : Vec Ideal S4x4 .f32) (ix2 g g') * v (ix2 i j) := by
    pointwise [kron]
  rw [e, eye_at]
  split_ifs
  · exact one_mul _
  · exact zero_mul _

/-- The Fourier tables at an index. -/
theorem dftArr_at (p : Fin 2) (g g' : Fin 4) (i j : Fin 64) :
    (dftArr : Vec Ideal S256x512 .bf16) (ix2 ⟨g * 64 + i, by omega⟩ ⟨p * 256 + (g' * 64 + j), by omega⟩)
      = (if p = 0 then (if g = g' then Host.cos (F := Ideal) (φ := .f32) (dftAng : Vec Ideal S64x64 .f32) (ix2 i j) else 0 : EReal)
          else -(if g = g' then Host.sin (F := Ideal) (φ := .f32) (dftAng : Vec Ideal S64x64 .f32) (ix2 i j) else 0 : EReal)) := by
  rw [← kron_at, ← kron_at]
  pointwise [dftArr]
  have hp : p = 0 ∨ p = 1 := by omega
  rcases hp with rfl | rfl
  · refine (dif_pos (show 0 * 256 + ((g' : ℕ) * 64 + j) < 256 by omega)).trans (Eq.trans ?_ (if_pos rfl).symm)
    congr 2
    exact Fin.ext (by show 0 * 256 + ((g' : ℕ) * 64 + j) = g' * 64 + j; omega)
  · refine (dif_neg (show ¬ 1 * 256 + ((g' : ℕ) * 64 + j) < 256 by omega)).trans (Eq.trans ?_ (if_neg (by decide)).symm)
    congr 3
    exact Fin.ext (by show 1 * 256 + ((g' : ℕ) * 64 + j) - 256 = g' * 64 + j; omega)

end Cert.Proof.Prep

end
-- ==== Proof.PrepBlk.lean ====
module

public import proofs.«01_k».proof.Proof.PrepRow
public import proofs.«01_k».proof.Proof.Gen.Kernel3Ideal.Value
public import Idealize.ShloMosaic.Lib.KernelVsHost

/-!
# The blocks that a grid point of the preparation writes

When the point's blocks are rows of tokens and the layer's weights in the call's layouts, its blocks of the five
results hold each token's values.
-/

@[expose] public section

set_option maxRecDepth 16384

noncomputable section

namespace Cert.Proof.Prep

open Cert.Kernel3Ideal Cert.Kernel3Ideal.Gen Cert.Kernel3Ideal.Value
open Idealize.ShloMosaic

/-- The first product. -/
theorem pay5_at (P0 : Vec Ideal S1x512x1024 .f32) (P1 : Vec Ideal S1x1024 .f32) (P2 P3 : Vec Ideal S1x1x1x1024 .f32)
    (P4 : Vec Ideal S1024x1408 .bf16) (r : Fin 512) (j : Fin 1408) :
    k0_pay5 (F := Ideal) P0 P1 P2 P3 P4 (ix2 r j)
      = ∑ x : Fin 1024, (rms 0x44800000#32 (fun d => P0 (ix3 0 r d)) (fun d => P1 (ix2 0 d)) x
          * (Ideal.ofBits .f32 0x3F800000#32 + P2 (ix4 0 0 0 x)) + P3 (ix4 0 0 0 x)) * P4 (ix2 x j) := by
  unfold rms
  pointwise [k0_pay5]

/-- The queries' latent, normed. -/
theorem pay12_at (v : FVec Ideal S512x1408 .f32) (w : Vec Ideal S1x256 .f32) (r : Fin 512) (e : Fin 256) :
    k0_pay12 (F := Ideal) v w (ix2 r e)
      = rms 0x43800000#32 (fun x : Fin 256 => v (ix2 r ⟨256 + x, by omega⟩)) (fun d => w (ix2 0 d)) e := by
  unfold rms
  pointwise [k0_pay12]

/-- The keys' and values' latent, normed. -/
theorem pay27_at (v : FVec Ideal S512x128 .f32) (w : Vec Ideal S1x128 .f32) (r : Fin 512) (e : Fin 128) :
    k0_pay27 (F := Ideal) v w (ix2 r e)
      = rms 0x43000000#32 (fun x : Fin 128 => v (ix2 r x)) (fun d => w (ix2 0 d)) e := by
  unfold rms
  pointwise [k0_pay27]

/-- A product with the queries' latent. -/
theorem pay14_at (v : FVec Ideal S512x256 .bf16) (w : Vec Ideal S256x1024 .bf16) (r : Fin 512) (j : Fin 1024) :
    k0_pay14 (F := Ideal) v w (ix2 r j) = ∑ e : Fin 256, v (ix2 r e) * w (ix2 e j) := by
  pointwise [k0_pay14]

/-- The keys. -/
theorem pay28_at (v : FVec Ideal S512x128 .f32) (u : Vec Ideal S1x128 .f32) (w : Vec Ideal S128x1024 .bf16) (r : Fin 512) (j : Fin 1024) :
    k0_pay28 (F := Ideal) v u w (ix2 r j) = ∑ e : Fin 128, k0_pay27 (F := Ideal) v u (ix2 r e) * w (ix2 e j) := by
  pointwise [k0_pay28]

/-- The values and the row of ones. -/
theorem pay39_at (v : FVec Ideal S512x128 .bf16) (w : Vec Ideal S640x128 .bf16) (o : Vec Ideal S640x1 .f32) (j : Fin 640) (r : Fin 512) :
    k0_pay39 (F := Ideal) v w o (ix2 j r) = (∑ e : Fin 128, v (ix2 r e) * w (ix2 j e)) + o (ix2 j 0) := by
  pointwise [k0_pay39]
  exact congrArg (· + o (ix2 j 0)) (Finset.sum_congr rfl fun e _ => mul_comm _ _)

/-- Which lanes are a head's plain part. -/
theorem pay11_at (l : Fin 128) : k0_pay11 (F := Ideal) (ix2 0 l) = if (l : ℕ) < 64 then 1 else 0 := by
  pointwise [k0_pay11]
  have bit : ∀ l : Fin 128, BitVec.setWidth 32 (IntOp.cmpi .slt (BitVec.ofNat 32 l) 64#32) = if (l : ℕ) < 64 then 1#32 else 0#32 := by
    decide +kernel
  rw [bit]
  split_ifs
  · simp [FloatOps.sitofp]
  · exact sitofp_zero (φ := .f32)

/-- The Fourier mixing's product. -/
theorem pay6_at (P0 : Vec Ideal S1x512x1024 .f32) (P1 : Vec Ideal S1x1024 .f32) (P2 P3 : Vec Ideal S1x1x1x1024 .f32)
    (P4 : Vec Ideal S1024x1408 .bf16) (w : Vec Ideal S256x512 .bf16) (r j : Fin 512) :
    k0_pay6 (F := Ideal) P0 P1 P2 P3 P4 w (ix2 r j)
      = ∑ e : Fin 256, k0_pay5 (F := Ideal) P0 P1 P2 P3 P4 (ix2 r ⟨e, by omega⟩) * w (ix2 e j) := by
  pointwise [k0_pay6]

/-- A point's fifteen blocks: those of 512 tokens and of the weights, as far as the results depend on them. -/
structure Blk (T : Fin 512 → Tok) (W : Wts) (x0 : Vec Ideal S1x512x1024 .f32) (x1 x2 : Vec Ideal S1x1x1x1024 .f32)
    (x3 : Vec Ideal S1x1024 .f32) (x4 : Vec Ideal S1024x1408 .bf16) (x5 : Vec Ideal S1x256 .f32) (x6 x7 : Vec Ideal S256x1024 .bf16)
    (x8 : Vec Ideal S1x128 .f32) (x9 : Vec Ideal S128x1024 .bf16) (x10 : Vec Ideal S640x128 .bf16) (x11 : Vec Ideal S256x512 .bf16)
    (x12 x13 : Vec Ideal S512x128 .f32) (x14 : Vec Ideal S640x1 .f32) : Prop where
  x : ∀ r d, x0 (ix3 0 r d) = (T r).x d
  shift : ∀ r d, x1 (ix4 0 0 0 d) = (T r).shift d
  scale : ∀ r d, x2 (ix4 0 0 0 d) = (T r).scale d
  g1 : ∀ d, x3 (ix2 0 d) = W.g1 d
  w1a : ∀ x (j : Fin 640), x4 (ix2 x ⟨j, by omega⟩) = W.win x ⟨j, by omega⟩
  w1r : ∀ x (k : Fin 32), x4 (ix2 x ⟨704 + k, by omega⟩) = W.win x ⟨640 + k, by omega⟩
  w1s : ∀ x (k : Fin 16), x4 (ix2 x ⟨832 + k, by omega⟩) = W.win x ⟨656 + k, by omega⟩
  w1t : ∀ x (k : Fin 16), x4 (ix2 x ⟨848 + k, by omega⟩) = W.win x ⟨640 + k, by omega⟩
  w1g : ∀ x (k : Fin 512), x4 (ix2 x ⟨896 + k, by omega⟩) = W.win x ⟨672 + k, by omega⟩
  qg : ∀ e, x5 (ix2 0 e) = W.qg e
  wqa : ∀ e (h : Fin 8) (l : Fin 96), x6 (ix2 e ⟨h * 128 + l, by omega⟩) = W.wuq e ⟨h * 96 + l, by omega⟩
  wqs : ∀ e (h : Fin 8) (k : Fin 16), x7 (ix2 e ⟨h * 128 + 64 + k, by omega⟩) = W.wuq e ⟨h * 96 + 80 + k, by omega⟩
  wqt : ∀ e (h : Fin 8) (k : Fin 16), x7 (ix2 e ⟨h * 128 + 80 + k, by omega⟩) = W.wuq e ⟨h * 96 + 64 + k, by omega⟩
  kvg : ∀ e, x8 (ix2 0 e) = W.kvg e
  wk : ∀ e (h : Fin 8) (l : Fin 128), x9 (ix2 e ⟨h * 128 + l, by omega⟩) = if (l : ℕ) < 64 then W.wukv e ⟨h * 128 + l, by omega⟩ else 0
  wv : ∀ e (h : Fin 8) (k : Fin 80), x10 (ix2 ⟨h * 80 + k, by omega⟩ e)
    = if k' : (k : ℕ) < 64 then W.wukv e ⟨h * 128 + 64 + k, by omega⟩ else 0
  dft : ∀ (p : Fin 2) (g g' : Fin 4) (i j : Fin 64), x11 (ix2 ⟨g * 64 + i, by omega⟩ ⟨p * 256 + (g' * 64 + j), by omega⟩)
    = if p = 0 then (if g = g' then W.dc i j else 0) else -(if g = g' then W.ds i j else 0)
  ta : ∀ r l, x12 (ix2 r l) = runs (T r).cos (T r).cos l
  tb : ∀ r l, x13 (ix2 r l) = runs (fun k => -(T r).sin k) (T r).sin l
  vone : ∀ (h : Fin 8) (k : Fin 80), x14 (ix2 ⟨h * 80 + k, by omega⟩ 0) = if (k : ℕ) = 64 then 1 else 0

section
variable {T : Fin 512 → Tok} {W : Wts} {x0 : Vec Ideal S1x512x1024 .f32} {x1 x2 : Vec Ideal S1x1x1x1024 .f32}
    {x3 : Vec Ideal S1x1024 .f32} {x4 : Vec Ideal S1024x1408 .bf16} {x5 : Vec Ideal S1x256 .f32} {x6 x7 : Vec Ideal S256x1024 .bf16}
    {x8 : Vec Ideal S1x128 .f32} {x9 : Vec Ideal S128x1024 .bf16} {x10 : Vec Ideal S640x128 .bf16} {x11 : Vec Ideal S256x512 .bf16}
    {x12 x13 : Vec Ideal S512x128 .f32} {x14 : Vec Ideal S640x1 .f32}
    (B : Blk T W x0 x1 x2 x3 x4 x5 x6 x7 x8 x9 x10 x11 x12 x13 x14)
include B

/-- A column of the first product. -/
theorem z_at (r : Fin 512) (j : Fin 1408) (k : Fin 1184) (h : ∀ x, x4 (ix2 x j) = W.win x k) :
    k0_pay5 (F := Ideal) x0 x3 x2 x1 x4 (ix2 r j) = z (T r) W k := by
  rw [pay5_at, z]
  refine Finset.sum_congr rfl fun x _ => ?_
  rw [h, B.scale r, B.shift r, inp]
  simp only [B.x, B.g1]

/-- A column of the Fourier input or of a latent. -/
theorem za_at (r : Fin 512) (j : ℕ) (h : j < 640) (h1 : j < 1408) (h2 : j < 1184) :
    k0_pay5 (F := Ideal) x0 x3 x2 x1 x4 (ix2 r ⟨j, h1⟩) = z (T r) W ⟨j, h2⟩ :=
  z_at B r _ _ fun x => B.w1a x ⟨j, h⟩

/-- The queries' latent, normed. -/
theorem cqn_at (r : Fin 512) (e : Fin 256) :
    k0_pay12 (F := Ideal) (k0_pay5 x0 x3 x2 x1 x4) x5 (ix2 r e) = cqn (T r) W e := by
  rw [pay12_at, cqn]
  simp only [B.qg]
  congr 1
  exact funext fun x => za_at B r _ (by omega) _ _

/-- The keys' and values' latent, normed. -/
theorem ckvn_at (r : Fin 512) (e : Fin 128) :
    k0_pay27 (F := Ideal) (extractStridedSlice S512x128 ![0, 512] (k0_pay5 x0 x3 x2 x1 x4) slices_S512x1408_o0_512_S512x128) x8 (ix2 r e)
      = ckvn (T r) W e := by
  rw [pay27_at, ckvn]
  simp only [B.kvg]
  congr 1
  refine funext fun x => ?_
  pointwise []
  exact za_at B r _ (by omega) _ _

/-- A head's queries before they are turned. -/
theorem qa_at (r : Fin 512) (h : Fin 8) (l : Fin 128) (hl : (l : ℕ) < 96) (k : Fin 768) (hk : (h : ℕ) * 96 + l = k) :
    k0_pay14 (F := Ideal) (k0_pay12 (k0_pay5 x0 x3 x2 x1 x4) x5) x6 (ix2 r ⟨h * 128 + l, by omega⟩) = q (T r) W k := by
  have hb : (h : ℕ) * 96 + l < 768 := by omega
  obtain rfl : k = ⟨h * 96 + l, hb⟩ := Fin.ext hk.symm
  rw [pay14_at, q]
  exact Finset.sum_congr rfl fun e _ => by rw [cqn_at B]; exact congrArg _ (B.wqa e h ⟨l, hl⟩)

/-- A head's rotary queries with their halves swapped: the first half. -/
theorem qs_at (r : Fin 512) (h : Fin 8) (l : Fin 128) (hl : 64 ≤ (l : ℕ)) (hl' : (l : ℕ) < 80) (k : Fin 768) (hk : (h : ℕ) * 96 + 16 + l = k) :
    k0_pay14 (F := Ideal) (k0_pay12 (k0_pay5 x0 x3 x2 x1 x4) x5) x7 (ix2 r ⟨h * 128 + l, by omega⟩) = q (T r) W k := by
  rw [pay14_at, q]
  refine Finset.sum_congr rfl fun e _ => ?_
  rw [cqn_at B]
  have e1 : (⟨h * 128 + l, by omega⟩ : Fin 1024) = ⟨h * 128 + 64 + (⟨l - 64, by omega⟩ : Fin 16), by omega⟩ :=
    Fin.ext (by show (h : ℕ) * 128 + l = h * 128 + 64 + (l - 64); omega)
  rw [e1]
  exact congrArg _ ((B.wqs e h ⟨l - 64, by omega⟩).trans
    (congrArg (W.wuq e) (Fin.ext (by show (h : ℕ) * 96 + 80 + (l - 64) = k; omega))))

/-- The second half. -/
theorem qt_at (r : Fin 512) (h : Fin 8) (l : Fin 128) (hl : 80 ≤ (l : ℕ)) (hl' : (l : ℕ) < 96) (k : Fin 768) (hk : (h : ℕ) * 96 + l = k + 16) :
    k0_pay14 (F := Ideal) (k0_pay12 (k0_pay5 x0 x3 x2 x1 x4) x5) x7 (ix2 r ⟨h * 128 + l, by omega⟩) = q (T r) W k := by
  rw [pay14_at, q]
  refine Finset.sum_congr rfl fun e _ => ?_
  rw [cqn_at B]
  have e1 : (⟨h * 128 + l, by omega⟩ : Fin 1024) = ⟨h * 128 + 80 + (⟨l - 80, by omega⟩ : Fin 16), by omega⟩ :=
    Fin.ext (by show (h : ℕ) * 128 + l = h * 128 + 80 + (l - 80); omega)
  rw [e1]
  exact congrArg _ ((B.wqt e h ⟨l - 80, by omega⟩).trans
    (congrArg (W.wuq e) (Fin.ext (by show (h : ℕ) * 96 + 64 + (l - 80) = k; omega))))

/-- The queries' block. -/
theorem q_at (r : Fin 512) (h : Fin 8) (l : Fin 128) :
    E15 (F := Ideal) x0 x3 x2 x1 x4 x5 x6 x12 x7 x13 (ix3 0 r ⟨h * 128 + l, by omega⟩) = qOut (T r) W h l := by
  have hm : ((h : ℕ) * 128 + l) % 128 = l := by omega
  have i1 : ix15_1 (ix3 0 r ⟨h * 128 + l, by omega⟩) = ix2 r l := by
    funext a
    match a with
    | ⟨0, _⟩ => rfl
    | ⟨1, _⟩ => exact Fin.ext hm
  have i2 : ix15_2 (ix3 0 r ⟨h * 128 + l, by omega⟩) = ix2 0 l := by
    funext a
    match a with
    | ⟨0, _⟩ => rfl
    | ⟨1, _⟩ => exact Fin.ext hm
  have i0 : ix15_0 (ix3 0 r ⟨h * 128 + l, by omega⟩) = ix2 r ⟨h * 128 + l, by omega⟩ := by
    funext a
    match a with
    | ⟨0, _⟩ => rfl
    | ⟨1, _⟩ => rfl
  have e : E15 (F := Ideal) x0 x3 x2 x1 x4 x5 x6 x12 x7 x13 (ix3 0 r ⟨h * 128 + l, by omega⟩)
      = k0_pay14 (F := Ideal) (k0_pay12 (k0_pay5 x0 x3 x2 x1 x4) x5) x6 (ix15_0 (ix3 0 r ⟨h * 128 + l, by omega⟩))
          * ((x12 (ix15_1 (ix3 0 r ⟨h * 128 + l, by omega⟩)) + k0_pay11 (F := Ideal) (ix15_2 (ix3 0 r ⟨h * 128 + l, by omega⟩))) * qs)
        + k0_pay14 (F := Ideal) (k0_pay12 (k0_pay5 x0 x3 x2 x1 x4) x5) x7 (ix15_0 (ix3 0 r ⟨h * 128 + l, by omega⟩))
          * (x13 (ix15_1 (ix3 0 r ⟨h * 128 + l, by omega⟩)) * qs) := rfl
  rw [e, i0, i1, i2, B.ta, B.tb, pay11_at, qOut]
  unfold runs lane
  by_cases h1 : (l : ℕ) < 64
  · simp only [dif_pos h1, if_pos h1, zero_add, one_mul, zero_mul, mul_zero, add_zero]
    rw [qa_at B r h l (by omega) ⟨h * 96 + (⟨l, h1⟩ : Fin 64), by omega⟩ rfl]
  by_cases h2 : (l : ℕ) < 80
  · simp only [dif_neg h1, if_neg h1, dif_pos h2, add_zero, ← mul_assoc]
    rw [qa_at B r h l (by omega) ⟨h * 96 + 64 + (⟨l - 64, by omega⟩ : Fin 32), by omega⟩ (by show (h : ℕ) * 96 + l = h * 96 + 64 + (l - 64); omega),
      qs_at B r h l (by omega) h2 ⟨h * 96 + 64 + (⟨l - 48, by omega⟩ : Fin 32), by omega⟩ (by show (h : ℕ) * 96 + 16 + l = h * 96 + 64 + (l - 48); omega),
      ← add_qs, mul_neg, ← sub_eq_add_neg]
  by_cases h3 : (l : ℕ) < 96
  · simp only [dif_neg h1, if_neg h1, dif_neg h2, dif_pos h3, add_zero, ← mul_assoc]
    rw [qa_at B r h l (by omega) ⟨h * 96 + 64 + (⟨l - 64, by omega⟩ : Fin 32), by omega⟩ (by show (h : ℕ) * 96 + l = h * 96 + 64 + (l - 64); omega),
      qt_at B r h l (by omega) h3 ⟨h * 96 + 64 + (⟨l - 80, by omega⟩ : Fin 32), by omega⟩ (by show (h : ℕ) * 96 + l = h * 96 + 64 + (l - 80) + 16; omega),
      ← add_qs, add_comm]
  · simp only [dif_neg h1, if_neg h1, dif_neg h2, dif_neg h3, add_zero, zero_mul, mul_zero]

/-- The keys' block. -/
theorem k_at (r : Fin 512) (h : Fin 8) (l : Fin 128) :
    E16 (F := Ideal) x0 x3 x2 x1 x4 x8 x9 x12 x13 (ix3 0 r ⟨h * 128 + l, by omega⟩) = kOut (T r) W h l := by
  have hm : ((h : ℕ) * 128 + l) % 128 = l := by omega
  have i2 : ix16_2 (ix3 0 r ⟨h * 128 + l, by omega⟩) = ix2 r l := by
    funext a
    match a with
    | ⟨0, _⟩ => rfl
    | ⟨1, _⟩ => exact Fin.ext hm
  have i0 : ix16_0 (ix3 0 r ⟨h * 128 + l, by omega⟩) = ix2 r ⟨h * 128 + l, by omega⟩ := by
    funext a
    match a with
    | ⟨0, _⟩ => rfl
    | ⟨1, _⟩ => rfl
  have i1 : ix16_1 (ix3 0 r ⟨h * 128 + l, by omega⟩) = ix2 r ⟨640 + l, by omega⟩ := by
    funext a
    match a with
    | ⟨0, _⟩ => rfl
    | ⟨1, _⟩ => exact Fin.ext (by show ((h : ℕ) * 128 + l) % 128 + 640 = 640 + l; omega)
  have i3 : ix16_3 (ix3 0 r ⟨h * 128 + l, by omega⟩) = ix2 r ⟨768 + l, by omega⟩ := by
    funext a
    match a with
    | ⟨0, _⟩ => rfl
    | ⟨1, _⟩ => exact Fin.ext (by show ((h : ℕ) * 128 + l) % 128 + 768 = 768 + l; omega)
  have e : E16 (F := Ideal) x0 x3 x2 x1 x4 x8 x9 x12 x13 (ix3 0 r ⟨h * 128 + l, by omega⟩)
      = k0_pay28 (F := Ideal) (extractStridedSlice S512x128 ![0, 512] (k0_pay5 x0 x3 x2 x1 x4) slices_S512x1408_o0_512_S512x128) x8 x9
          (ix16_0 (ix3 0 r ⟨h * 128 + l, by omega⟩))
        + (k0_pay5 (F := Ideal) x0 x3 x2 x1 x4 (ix16_1 (ix3 0 r ⟨h * 128 + l, by omega⟩)) * x12 (ix16_2 (ix3 0 r ⟨h * 128 + l, by omega⟩))
          + k0_pay5 (F := Ideal) x0 x3 x2 x1 x4 (ix16_3 (ix3 0 r ⟨h * 128 + l, by omega⟩)) * x13 (ix16_2 (ix3 0 r ⟨h * 128 + l, by omega⟩))) := rfl
  rw [e, i0, i1, i2, i3, B.ta, B.tb, kOut, pay28_at]
  simp only [ckvn_at B, B.wk]
  unfold runs lane
  by_cases h1 : (l : ℕ) < 64
  · simp only [dif_pos h1, if_pos h1, mul_zero, add_zero]
    rfl
  simp only [if_neg h1, mul_zero, Finset.sum_const_zero, zero_add, dif_neg h1]
  by_cases h2 : (l : ℕ) < 80
  · simp only [dif_pos h2]
    have e1 : k0_pay5 (F := Ideal) x0 x3 x2 x1 x4 (ix2 r ⟨640 + l, by omega⟩) = z (T r) W ⟨640 + (⟨l - 64, by omega⟩ : Fin 32), by omega⟩ :=
      z_at B r _ _ fun x => (congrArg (fun j => x4 (ix2 x j)) (Fin.ext (by show 640 + (l : ℕ) = 704 + (l - 64); omega))).trans (B.w1r x ⟨l - 64, by omega⟩)
    have e2 : k0_pay5 (F := Ideal) x0 x3 x2 x1 x4 (ix2 r ⟨768 + l, by omega⟩) = z (T r) W ⟨640 + (⟨l - 48, by omega⟩ : Fin 32), by omega⟩ :=
      z_at B r _ _ fun x => (congrArg (fun j => x4 (ix2 x j)) (Fin.ext (by show 768 + (l : ℕ) = 832 + (l - 64); omega))).trans
        ((B.w1s x ⟨l - 64, by omega⟩).trans (congrArg (W.win x) (Fin.ext (by show 656 + ((l : ℕ) - 64) = 640 + (l - 48); omega))))
    rw [e1, e2, mul_neg, ← sub_eq_add_neg]
  by_cases h3 : (l : ℕ) < 96
  · simp only [dif_neg h2, dif_pos h3]
    have e1 : k0_pay5 (F := Ideal) x0 x3 x2 x1 x4 (ix2 r ⟨640 + l, by omega⟩) = z (T r) W ⟨640 + (⟨l - 64, by omega⟩ : Fin 32), by omega⟩ :=
      z_at B r _ _ fun x => (congrArg (fun j => x4 (ix2 x j)) (Fin.ext (by show 640 + (l : ℕ) = 704 + (l - 64); omega))).trans (B.w1r x ⟨l - 64, by omega⟩)
    have e2 : k0_pay5 (F := Ideal) x0 x3 x2 x1 x4 (ix2 r ⟨768 + l, by omega⟩) = z (T r) W ⟨640 + (⟨l - 80, by omega⟩ : Fin 32), by omega⟩ :=
      z_at B r _ _ fun x => (congrArg (fun j => x4 (ix2 x j)) (Fin.ext (by show 768 + (l : ℕ) = 848 + (l - 80); omega))).trans (B.w1t x ⟨l - 80, by omega⟩)
    rw [e1, e2, add_comm]
  · simp only [dif_neg h2, dif_neg h3, mul_zero, add_zero]

/-- The values' block. -/
theorem v_at (h : Fin 8) (k : Fin 80) (r : Fin 512) :
    E17 (F := Ideal) x0 x3 x2 x1 x4 x8 x10 x14 (ix5 0 h 0 k r) = vOut (T r) W h k := by
  have i0 : ix17_0 (ix5 0 h 0 k r) = ix2 ⟨h * 80 + k, by omega⟩ r := by
    funext a
    match a with
    | ⟨0, _⟩ => rfl
    | ⟨1, _⟩ => rfl
  have e : E17 (F := Ideal) x0 x3 x2 x1 x4 x8 x10 x14 (ix5 0 h 0 k r)
      = k0_pay39 (F := Ideal) (k0_pay27 (extractStridedSlice S512x128 ![0, 512] (k0_pay5 x0 x3 x2 x1 x4) slices_S512x1408_o0_512_S512x128) x8) x10 x14
          (ix17_0 (ix5 0 h 0 k r)) := rfl
  rw [e, i0, pay39_at, B.vone, vOut]
  simp only [ckvn_at B, B.wv]
  by_cases h1 : (k : ℕ) < 64
  · simp only [dif_pos h1, if_neg (show ¬ (k : ℕ) = 64 by omega), add_zero]
    rfl
  · simp only [dif_neg h1, mul_zero, Finset.sum_const_zero, zero_add]

/-- The Fourier mixing's block. -/
theorem f_at (p : Fin 2) (r : Fin 512) (g : Fin 4) (j : Fin 64) :
    E18 (F := Ideal) x0 x3 x2 x1 x4 x11 (ix4 0 p r ⟨g * 64 + j, by omega⟩) = fOut (T r) W p g j := by
  have i0 : ix18_0 (ix4 0 p r ⟨g * 64 + j, by omega⟩) = ix2 r ⟨p * 256 + (g * 64 + j), by omega⟩ := by
    funext a
    match a with
    | ⟨0, _⟩ => rfl
    | ⟨1, _⟩ => rfl
  show k0_pay6 (F := Ideal) x0 x3 x2 x1 x4 x11 (ix18_0 _) = _
  rw [i0, pay6_at]
  refine sum_group _ g _ fun g' i => ?_
  rw [B.dft]
  by_cases hg : g' = g
  · subst hg
    simp only [if_true]
    exact congrArg (· * _) (za_at B r _ (by omega) _ _)
  · simp only [if_neg hg, neg_zero, ite_self, mul_zero]

/-- The gated channels' block. -/
theorem u_at (r : Fin 512) (j : Fin 256) : E19 (F := Ideal) x0 x3 x2 x1 x4 (ix3 0 r j) = uOut (T r) W j := by
  have i0 : ix19_0 (ix3 0 r j) = ix2 r ⟨896 + j, by omega⟩ := by
    funext a
    match a with
    | ⟨0, _⟩ => rfl
    | ⟨1, _⟩ => exact Fin.ext (by show (j : ℕ) + 896 = 896 + j; omega)
  have i1 : ix19_1 (ix3 0 r j) = ix2 r ⟨1152 + j, by omega⟩ := by
    funext a
    match a with
    | ⟨0, _⟩ => rfl
    | ⟨1, _⟩ => exact Fin.ext (by show (j : ℕ) + 1152 = 1152 + j; omega)
  show k0_pay5 (F := Ideal) x0 x3 x2 x1 x4 (ix19_0 _) * Ideal.logistic (k0_pay5 (F := Ideal) x0 x3 x2 x1 x4 (ix19_1 _)) = _
  have e1 : k0_pay5 (F := Ideal) x0 x3 x2 x1 x4 (ix2 r ⟨896 + j, by omega⟩) = z (T r) W ⟨672 + j, by omega⟩ :=
    z_at B r _ _ fun x => B.w1g x ⟨j, by omega⟩
  have e2 : k0_pay5 (F := Ideal) x0 x3 x2 x1 x4 (ix2 r ⟨1152 + j, by omega⟩) = z (T r) W ⟨928 + j, by omega⟩ :=
    z_at B r _ _ fun x => (congrArg (fun j => x4 (ix2 x j)) (Fin.ext (by show 1152 + (j : ℕ) = 896 + (256 + j); omega))).trans
      ((B.w1g x ⟨256 + j, by omega⟩).trans (congrArg (W.win x) (Fin.ext (by show 672 + (256 + (j : ℕ)) = 928 + j; omega))))
  rw [i0, i1, e1, e2, uOut]

end

end Cert.Proof.Prep

end
-- ==== Proof.PrepVal.lean ====
module

public import proofs.«01_k».proof.Proof.PrepBlk

/-!
# The blocks of the third call, piece by piece

A point's five blocks are the closed forms of its fifteen.
-/

@[expose] public section

set_option maxRecDepth 16384

noncomputable section

namespace Cert.Proof.Prep

open Cert.Kernel3Ideal Cert.Kernel3Ideal.Gen Cert.Kernel3Ideal.Value
open Idealize.ShloMosaic

/-- Four zero offsets. -/
theorem zero4 : (![0, 0, 0, 0] : Fin 4 → ℕ) = fun _ => 0 := by funext a; fin_cases a <;> rfl
/-- Three. -/
theorem zero3 : (![0, 0, 0] : Fin 3 → ℕ) = fun _ => 0 := by funext a; fin_cases a <;> rfl
/-- Two. -/
theorem zero2 : (![0, 0] : Fin 2 → ℕ) = fun _ => 0 := by funext a; fin_cases a <;> rfl

/-- The rows' block is read whole. -/
theorem ld0 (X : Vec Ideal S1x512x1024 .f32) : View.ld X r0_0 = X := View.ld_unit_zero (S := S1x512x1024) zero3 _ X
/-- The gains' block is read whole. -/
theorem ld1 (X : Vec Ideal S1x1024 .f32) : View.ld X r0_1 = X := View.ld_unit_zero (S := S1x1024) zero2 _ X
/-- The shift's and the scale's blocks are read whole. -/
theorem ld2 (X : Vec Ideal S1x1x1x1024 .f32) : View.ld X r0_2 = X := View.ld_unit_zero (S := S1x1x1x1024) zero4 _ X
/-- The input projection's block is read whole. -/
theorem ld3 (X : Vec Ideal S1024x1408 .bf16) : View.ld X r0_3 = X := View.ld_unit_zero (S := S1024x1408) zero2 _ X
/-- The Fourier tables' block is read whole. -/
theorem ld4 (X : Vec Ideal S256x512 .bf16) : View.ld X r0_4 = X := View.ld_unit_zero (S := S256x512) zero2 _ X
/-- The rotary tables' blocks are read whole. -/
theorem ld7 (X : Vec Ideal S512x128 .f32) : View.ld X r0_7 = X := View.ld_unit_zero (S := S512x128) zero2 _ X
/-- The block of the queries' gains is read whole. -/
theorem ld8 (X : Vec Ideal S1x256 .f32) : View.ld X r0_8 = X := View.ld_unit_zero (S := S1x256) zero2 _ X
/-- The blocks of the queries' projections are read whole. -/
theorem ld9 (X : Vec Ideal S256x1024 .bf16) : View.ld X r0_9 = X := View.ld_unit_zero (S := S256x1024) zero2 _ X
/-- The block of the keys' gains is read whole. -/
theorem ld18 (X : Vec Ideal S1x128 .f32) : View.ld X r0_18 = X := View.ld_unit_zero (S := S1x128) zero2 _ X
/-- The block of the keys' projection is read whole. -/
theorem ld19 (X : Vec Ideal S128x1024 .bf16) : View.ld X r0_19 = X := View.ld_unit_zero (S := S128x1024) zero2 _ X
/-- The block of the values' projection is read whole. -/
theorem ld20 (X : Vec Ideal S640x128 .bf16) : View.ld X r0_20 = X := View.ld_unit_zero (S := S640x128) zero2 _ X
/-- The block of the ones is read whole. -/
theorem ld21 (X : Vec Ideal S640x1 .f32) : View.ld X r0_21 = X := View.ld_unit_zero (S := S640x1) zero2 _ X

variable (x0 : Vec Ideal S1x512x1024 .f32) (x1 x2 : Vec Ideal S1x1x1x1024 .f32)
    (x3 : Vec Ideal S1x1024 .f32) (x4 : Vec Ideal S1024x1408 .bf16) (x5 : Vec Ideal S1x256 .f32) (x6 x7 : Vec Ideal S256x1024 .bf16)
    (x8 : Vec Ideal S1x128 .f32) (x9 : Vec Ideal S128x1024 .bf16) (x10 : Vec Ideal S640x128 .bf16) (x11 : Vec Ideal S256x512 .bf16)
    (x12 x13 : Vec Ideal S512x128 .f32) (x14 : Vec Ideal S640x1 .f32)

/-- The queries' block. -/
theorem val15 (y : S1x512x1024.Idx) : out0_15 x0 x1 x2 x3 x4 x5 x6 x7 x8 x9 x10 x11 x12 x13 x14 y
    = E15 x0 x3 x2 x1 x4 x5 x6 x12 x7 x13 y := by
  unfold out0_15 k0_pay55 k0_pay54 k0_pay53 k0_pay52 k0_pay51 k0_pay50 k0_pay49 k0_pay48 k0_pay46
  simp only [ld0, ld1, ld2, ld3, ld7, ld8, ld9]
  exact canon15_eq x0 x3 x2 x1 x4 x5 x6 x12 x7 x13 y

/-- The keys' block. -/
theorem val16 (y : S1x512x1024.Idx) : out0_16 x0 x1 x2 x3 x4 x5 x6 x7 x8 x9 x10 x11 x12 x13 x14 y
    = E16 x0 x3 x2 x1 x4 x8 x9 x12 x13 y := by
  unfold out0_16 k0_pay58 k0_pay57 k0_pay56 k0_pay49 k0_pay48 k0_pay46
  simp only [ld0, ld1, ld2, ld3, ld7, ld18, ld19]
  exact canon16_eq x0 x3 x2 x1 x4 x8 x9 x12 x13 y

/-- The values' block. -/
theorem val17 (y : S1x8x1x80x512.Idx) : out0_17 x0 x1 x2 x3 x4 x5 x6 x7 x8 x9 x10 x11 x12 x13 x14 y
    = E17 x0 x3 x2 x1 x4 x8 x10 x14 y := by
  unfold out0_17 k0_pay59 k0_pay56 k0_pay46
  simp only [ld0, ld1, ld2, ld3, ld18, ld20, ld21]
  exact canon17_eq x0 x3 x2 x1 x4 x8 x10 x14 y

/-- The Fourier mixing's block. -/
theorem val18 (y : S1x2x512x256.Idx) : out0_18 x0 x1 x2 x3 x4 x5 x6 x7 x8 x9 x10 x11 x12 x13 x14 y
    = E18 x0 x3 x2 x1 x4 x11 y := by
  unfold out0_18 k0_pay47
  simp only [ld0, ld1, ld2, ld3, ld4]
  exact canon18_eq x0 x3 x2 x1 x4 x11 y

/-- The gated channels' block. -/
theorem val19 (y : S1x512x256.Idx) : out0_19 x0 x1 x2 x3 x4 x5 x6 x7 x8 x9 x10 x11 x12 x13 x14 y
    = E19 x0 x3 x2 x1 x4 y := by
  unfold out0_19 k0_pay46
  simp only [ld0, ld1, ld2, ld3]
  exact canon19_eq x0 x3 x2 x1 x4 y

end Cert.Proof.Prep

end
-- ==== Proof.PrepRef.lean ====
module

public import proofs.«01_k».proof.Proof.Gen.Reference3Ideal.Run
public import proofs.«01_k».proof.Proof.PrepHost
public import proofs.«01_k».proof.Proof.PrepRow

/-!
# The third reference at an index

The reference of the latents, the heads, the rotary turns and the Fourier mixing, read at an index: an entry of each of its
results is the formula of its token.
-/

@[expose] public section

set_option maxRecDepth 16384

noncomputable section

namespace Cert.Proof.Prep

open Cert.Reference3Ideal Cert.Reference3Ideal.Gen
open Idealize.ShloMosaic

/-- The call's eight arguments and the tables it computes. -/
structure Args where
  /-- the residual rows -/
  a0 : Vec Ideal S2x16384x1024 .f32
  /-- the modulation -/
  a1 : Vec Ideal S2x6144 .f32
  /-- the gains of the first norm -/
  a2 : Vec Ideal S1024 .f32
  /-- the input projection -/
  a3 : Vec Ideal S1024x1184 .f32
  /-- the gains of the queries' latent -/
  a4 : Vec Ideal S256 .f32
  /-- the queries' projection -/
  a5 : Vec Ideal S256x768 .f32
  /-- the gains of the keys' and values' latent -/
  a6 : Vec Ideal S128 .f32
  /-- the keys' and values' projection -/
  a7 : Vec Ideal S128x1024 .f32
  /-- the cosines of the positions -/
  co : Vec Ideal S16384x16 .f32
  /-- the sines of the positions -/
  si : Vec Ideal S16384x16 .f32
  /-- the cosines of the Fourier mixing -/
  dc : Vec Ideal S64x64 .f32
  /-- its sines -/
  ds : Vec Ideal S64x64 .f32

/-- One token of a batch. -/
def Args.tok (A : Args) (b : Fin 2) (i : Fin 16384) : Tok where
  x d := A.a0 (ix3 b i d)
  shift d := A.a1 (ix2 b ⟨d, by omega⟩)
  scale d := A.a1 (ix2 b ⟨1024 + d, by omega⟩)
  cos k := A.co (ix2 i k)
  sin k := A.si (ix2 i k)

/-- The layer's weights. -/
def Args.wts (A : Args) : Wts where
  g1 d := A.a2 (ix1 d)
  win x j := A.a3 (ix2 x j)
  qg e := A.a4 (ix1 e)
  wuq e j := A.a5 (ix2 e j)
  kvg e := A.a6 (ix1 e)
  wukv e j := A.a7 (ix2 e j)
  dc i j := A.dc (ix2 i j)
  ds i j := A.ds (ix2 i j)

/-- The queries of every token. -/
def Args.res0 (A : Args) : Vec Ideal S2x16384x1024 .bf16 := fun i =>
  qOut (A.tok ⟨(i 0).val, (i 0).isLt⟩ ⟨(i 1).val, (i 1).isLt⟩) A.wts
    ⟨(i 2).val / 128, by have : (i 2).val < 1024 := (i 2).isLt; omega⟩ ⟨(i 2).val % 128, by omega⟩

/-- The keys of every token. -/
def Args.res1 (A : Args) : Vec Ideal S2x16384x1024 .bf16 := fun i =>
  kOut (A.tok ⟨(i 0).val, (i 0).isLt⟩ ⟨(i 1).val, (i 1).isLt⟩) A.wts
    ⟨(i 2).val / 128, by have : (i 2).val < 1024 := (i 2).isLt; omega⟩ ⟨(i 2).val % 128, by omega⟩

/-- The values of every token. -/
def Args.res2 (A : Args) : Vec Ideal S2x8x32x80x512 .bf16 := fun i =>
  vOut (A.tok ⟨(i 0).val, (i 0).isLt⟩ ⟨(i 2).val * 512 + (i 4).val, by
      have h2 : (i 2).val < 32 := (i 2).isLt
      have h4 : (i 4).val < 512 := (i 4).isLt
      omega⟩) A.wts ⟨(i 1).val, (i 1).isLt⟩ ⟨(i 3).val, (i 3).isLt⟩

/-- The Fourier mixing of every token. -/
def Args.res3 (A : Args) : Vec Ideal S2x2x16384x256 .f32 := fun i =>
  fOut (A.tok ⟨(i 0).val, (i 0).isLt⟩ ⟨(i 2).val, (i 2).isLt⟩) A.wts ⟨(i 1).val, (i 1).isLt⟩
    ⟨(i 3).val / 64, by have : (i 3).val < 256 := (i 3).isLt; omega⟩ ⟨(i 3).val % 64, by omega⟩

/-- The gated channels of every token. -/
def Args.res4 (A : Args) : Vec Ideal S2x16384x256 .bf16 := fun i =>
  uOut (A.tok ⟨(i 0).val, (i 0).isLt⟩ ⟨(i 1).val, (i 1).isLt⟩) A.wts ⟨(i 2).val, (i 2).isLt⟩

/-- The queries at an index. -/
theorem res0_at (A : Args) (b : Fin 2) (i : Fin 16384) (h : Fin 8) (l : Fin 128) :
    A.res0 (ix3 b i ⟨h * 128 + l, by omega⟩) = qOut (A.tok b i) A.wts h l := by
  have e1 : (⟨((h : ℕ) * 128 + l) / 128, by omega⟩ : Fin 8) = h := Fin.ext (by show ((h : ℕ) * 128 + l) / 128 = h; omega)
  have e2 : (⟨((h : ℕ) * 128 + l) % 128, by omega⟩ : Fin 128) = l := Fin.ext (by show ((h : ℕ) * 128 + l) % 128 = l; omega)
  show qOut (A.tok b i) A.wts ⟨((h : ℕ) * 128 + l) / 128, _⟩ ⟨((h : ℕ) * 128 + l) % 128, _⟩ = _
  rw [e1, e2]

/-- The keys at an index. -/
theorem res1_at (A : Args) (b : Fin 2) (i : Fin 16384) (h : Fin 8) (l : Fin 128) :
    A.res1 (ix3 b i ⟨h * 128 + l, by omega⟩) = kOut (A.tok b i) A.wts h l := by
  have e1 : (⟨((h : ℕ) * 128 + l) / 128, by omega⟩ : Fin 8) = h := Fin.ext (by show ((h : ℕ) * 128 + l) / 128 = h; omega)
  have e2 : (⟨((h : ℕ) * 128 + l) % 128, by omega⟩ : Fin 128) = l := Fin.ext (by show ((h : ℕ) * 128 + l) % 128 = l; omega)
  show kOut (A.tok b i) A.wts ⟨((h : ℕ) * 128 + l) / 128, _⟩ ⟨((h : ℕ) * 128 + l) % 128, _⟩ = _
  rw [e1, e2]

/-- The values at an index. -/
theorem res2_at (A : Args) (b : Fin 2) (h : Fin 8) (t : Fin 32) (k : Fin 80) (r : Fin 512) :
    A.res2 (ix5 b h t k r) = vOut (A.tok b ⟨t * 512 + r, by omega⟩) A.wts h k := rfl

/-- The Fourier mixing at an index. -/
theorem res3_at (A : Args) (b p : Fin 2) (i : Fin 16384) (g : Fin 4) (j : Fin 64) :
    A.res3 (ix4 b p i ⟨g * 64 + j, by omega⟩) = fOut (A.tok b i) A.wts p g j := by
  have e1 : (⟨((g : ℕ) * 64 + j) / 64, by omega⟩ : Fin 4) = g := Fin.ext (by show ((g : ℕ) * 64 + j) / 64 = g; omega)
  have e2 : (⟨((g : ℕ) * 64 + j) % 64, by omega⟩ : Fin 64) = j := Fin.ext (by show ((g : ℕ) * 64 + j) % 64 = j; omega)
  show fOut (A.tok b i) A.wts p ⟨((g : ℕ) * 64 + j) / 64, _⟩ ⟨((g : ℕ) * 64 + j) % 64, _⟩ = _
  rw [e1, e2]

/-- The gated channels at an index. -/
theorem res4_at (A : Args) (b : Fin 2) (i : Fin 16384) (j : Fin 256) : A.res4 (ix3 b i j) = uOut (A.tok b i) A.wts j := rfl

end Cert.Proof.Prep

namespace Cert.Proof.Prep.Ref

open Cert.Reference3Ideal Cert.Reference3Ideal.Gen Cert.Reference3Ideal.Value
open Idealize.ShloMosaic Idealize.SL.Sem Idealize.ShloMosaic.TcCoe

variable (V : Valuation τ sig (Elt Ideal))

/-- The arguments that a valuation holds. -/
def ofV : Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  co := res_main_v26 V
  si := res_main_v27 V
  dc := Host.cos (F := Ideal) (φ := .f32) (res_main_v158 V)
  ds := Host.sin (F := Ideal) (φ := .f32) (res_main_v158 V)

/-- The input projection at an index. -/
theorem v54_at (b : Fin 2) (i : Fin 16384) (j : Fin 1184) :
    (res_main_v54 V : Vec Ideal S2x16384x1184 .f32) (ix3 b i j) = z ((ofV V).tok b i) (ofV V).wts j := by
  unfold z inp rms
  pointwise [res_main_v54, res_main_v28]
  rfl

/-- The queries of all heads at an index. -/
theorem v74_at (b : Fin 2) (i : Fin 16384) (h : Fin 8) (l : Fin 96) :
    (res_main_v74 V : Vec Ideal S2x16384x8x96 .f32) (ix4 b i h l) = q ((ofV V).tok b i) (ofV V).wts ⟨h * 96 + l, by omega⟩ := by
  unfold q cqn rms
  simp only [← v54_at]
  pointwise [res_main_v74, res_main_v56]
  rfl

/-- The keys and values of all heads at an index. -/
theorem v110_at (b : Fin 2) (i : Fin 16384) (h : Fin 8) (l : Fin 128) :
    (res_main_v110 V : Vec Ideal S2x16384x8x128 .f32) (ix4 b i h l) = kv ((ofV V).tok b i) (ofV V).wts ⟨h * 128 + l, by omega⟩ := by
  unfold kv ckvn rms
  simp only [← v54_at]
  pointwise [res_main_v110, res_main_v57]
  rfl

/-- The cosines at an index. -/
theorem cos_at (b : Fin 2) (i : Fin 16384) (k : Fin 16) :
    (res_main_v26 V : Vec Ideal S16384x16 .f32) (ix2 i k) = ((ofV V).tok b i).cos k := rfl

/-- The sines at an index. -/
theorem sin_at (b : Fin 2) (i : Fin 16384) (k : Fin 16) :
    (res_main_v27 V : Vec Ideal S16384x16 .f32) (ix2 i k) = ((ofV V).tok b i).sin k := rfl

end Cert.Proof.Prep.Ref

end
-- ==== Proof.PrepOut.lean ====
module

public import proofs.«01_k».proof.Proof.PrepPoint
public import proofs.«01_k».proof.Proof.PrepFound
public import proofs.«01_k».proof.Proof.PrepAt
public import proofs.«01_k».proof.Proof.PrepAt2
public import proofs.«01_k».proof.Proof.PrepVal
public import proofs.«01_k».proof.Proof.PrepRef

/-!
# The third call's results

Every grid point reads its tokens and the weights and writes its tokens' parts of the five results; the blocks tile them.
-/

@[expose] public section

set_option maxRecDepth 16384

noncomputable section

namespace Cert.Proof.Prep

open Cert.Kernel3Ideal Cert.Kernel3Ideal.Gen
open Idealize.ShloMosaic Idealize.SL.Sem Idealize.ShloMosaic.TcCoe

variable (m : (ℓ : Loc nD τ sig) → Buf (Elt Ideal) ℓ) (c : Dev nD)

/-- A device's eight arguments and the tables. -/
def args : Args where
  a0 := A m c main_arg0
  a1 := A m c main_arg1
  a2 := A m c main_arg2
  a3 := A m c main_arg3
  a4 := A m c main_arg4
  a5 := A m c main_arg5
  a6 := A m c main_arg6
  a7 := A m c main_arg7
  co := Host.cos (F := Ideal) (φ := .f32) (ropeAng (F := Ideal))
  si := Host.sin (F := Ideal) (φ := .f32) (ropeAng (F := Ideal))
  dc := Host.cos (F := Ideal) (φ := .f32) (dftAng (F := Ideal))
  ds := Host.sin (F := Ideal) (φ := .f32) (dftAng (F := Ideal))

/-- A column of the first 640 of the input projection. -/
theorem w1a_at (a3 : Vec Ideal S1024x1184 .f32) (x : Fin 1024) (j : Fin 640) :
    w1Arr a3 (ix2 x ⟨j, by omega⟩) = a3 (ix2 x ⟨j, by omega⟩) := by
  rw [w1Arr_at, cat8_at, dif_pos j.isLt]
  pointwise []

/-- A column of the shared rotary key. -/
theorem w1r_at (a3 : Vec Ideal S1024x1184 .f32) (x : Fin 1024) (k : Fin 32) :
    w1Arr a3 (ix2 x ⟨704 + k, by omega⟩) = a3 (ix2 x ⟨640 + k, by omega⟩) := by
  rw [w1Arr_at, cat8_at]
  simp only [dif_neg (show ¬ 704 + (k : ℕ) < 640 by omega), dif_neg (show ¬ 704 + (k : ℕ) < 704 by omega),
    dif_pos (show 704 + (k : ℕ) < 736 by omega), Nat.add_sub_cancel_left]
  pointwise [w1Rot]

/-- A column of it with its halves swapped. -/
theorem w1w_at (a3 : Vec Ideal S1024x1184 .f32) (x : Fin 1024) (k : Fin 32) :
    w1Arr a3 (ix2 x ⟨832 + k, by omega⟩) = w1Swap a3 (ix2 x k) := by
  rw [w1Arr_at, cat8_at]
  simp only [dif_neg (show ¬ 832 + (k : ℕ) < 640 by omega), dif_neg (show ¬ 832 + (k : ℕ) < 704 by omega),
    dif_neg (show ¬ 832 + (k : ℕ) < 736 by omega), dif_neg (show ¬ 832 + (k : ℕ) < 768 by omega),
    dif_neg (show ¬ 832 + (k : ℕ) < 832 by omega), dif_pos (show 832 + (k : ℕ) < 864 by omega), Nat.add_sub_cancel_left]

/-- A column of the gated channels. -/
theorem w1g_at (a3 : Vec Ideal S1024x1184 .f32) (x : Fin 1024) (k : Fin 512) :
    w1Arr a3 (ix2 x ⟨896 + k, by omega⟩) = a3 (ix2 x ⟨672 + k, by omega⟩) := by
  rw [w1Arr_at, cat8_at]
  simp only [dif_neg (show ¬ 896 + (k : ℕ) < 640 by omega), dif_neg (show ¬ 896 + (k : ℕ) < 704 by omega),
    dif_neg (show ¬ 896 + (k : ℕ) < 736 by omega), dif_neg (show ¬ 896 + (k : ℕ) < 768 by omega),
    dif_neg (show ¬ 896 + (k : ℕ) < 832 by omega), dif_neg (show ¬ 896 + (k : ℕ) < 864 by omega),
    dif_neg (show ¬ 896 + (k : ℕ) < 896 by omega), Nat.add_sub_cancel_left]
  pointwise []

/-- The blocks a point reads: its tokens and the weights. -/
theorem point_blk (t : Fin cfg0.N) : Blk (fun r => (args m c).tok (pb t) (row t r)) (args m c).wts (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) where
  x r d := by
    have h : iblk m c 0 t = (win0_0.blk t).view.read (Elt Ideal) (V m c main_arg0) := rfl
    rw [h, (found m c).x]
    exact read0 _ t r d
  shift r d := by
    have h : iblk m c 1 t = (win0_1.blk t).view.read (Elt Ideal) (V m c main_v1) := rfl
    rw [h, (found m c).mod]
    refine (read1 _ t d).trans ((modArr_at _ _ (pb t).isLt 0 d).trans (congrArg (A m c main_arg1) ?_))
    exact congrArg (fun n => (ix2 (pb t) n : S2x6144.Idx)) (Fin.ext (Nat.zero_add d.val))
  scale r d := by
    have h : iblk m c 2 t = (win0_2.blk t).view.read (Elt Ideal) (V m c main_v1) := rfl
    rw [h, (found m c).mod]
    exact (read2 _ t d).trans (modArr_at _ _ (pb t).isLt 1 d)
  g1 d := by
    have h : iblk m c 3 t = (win0_3.blk t).view.read (Elt Ideal) (V m c main_v96) := rfl
    rw [h, (found m c).g1]
    refine (read3 _ t 0 d).trans ?_
    pointwise []
    rfl
  w1a x j := by
    have h : iblk m c 4 t = (win0_4.blk t).view.read (Elt Ideal) (V m c main_v68) := rfl
    rw [h, (found m c).w1]
    exact (read4 _ t x _).trans (w1a_at _ x j)
  w1r x k := by
    have h : iblk m c 4 t = (win0_4.blk t).view.read (Elt Ideal) (V m c main_v68) := rfl
    rw [h, (found m c).w1]
    exact (read4 _ t x _).trans (w1r_at _ x k)
  w1s x k := by
    have h : iblk m c 4 t = (win0_4.blk t).view.read (Elt Ideal) (V m c main_v68) := rfl
    rw [h, (found m c).w1]
    exact (read4 _ t x _).trans ((w1w_at _ x ⟨k, by omega⟩).trans ((w1Swap_at _ x _).trans (dif_pos k.isLt)))
  w1t x k := by
    have h : iblk m c 4 t = (win0_4.blk t).view.read (Elt Ideal) (V m c main_v68) := rfl
    rw [h, (found m c).w1]
    refine (read4 _ t x _).trans ((congrArg (fun n => w1Arr (A m c main_arg3 : Vec Ideal S1024x1184 .f32) (ix2 x n)) (Fin.ext ?_)).trans
      ((w1w_at _ x ⟨16 + k, by omega⟩).trans ((w1Swap_at _ x _).trans ((dif_neg ?_).trans (congrArg (fun n => (A m c main_arg3 : Vec Ideal S1024x1184 .f32) (ix2 x n)) (Fin.ext ?_))))))
    · show 848 + (k : ℕ) = 832 + (16 + k)
      omega
    · show ¬ 16 + (k : ℕ) < 16
      omega
    · show 624 + (16 + (k : ℕ)) = 640 + k
      omega
  w1g x k := by
    have h : iblk m c 4 t = (win0_4.blk t).view.read (Elt Ideal) (V m c main_v68) := rfl
    rw [h, (found m c).w1]
    exact (read4 _ t x _).trans (w1g_at _ x k)
  qg e := by
    have h : iblk m c 5 t = (win0_5.blk t).view.read (Elt Ideal) (V m c main_v94) := rfl
    rw [h, (found m c).qg]
    refine (read5 _ t 0 e).trans ?_
    pointwise []
    rfl
  wqa e h' l := by
    have h : iblk m c 6 t = (win0_6.blk t).view.read (Elt Ideal) (V m c main_v78) := rfl
    rw [h, (found m c).wqa]
    exact (read6 _ t e _).trans (wqaArr_at _ e h' l)
  wqs e h' k := by
    have h : iblk m c 7 t = (win0_7.blk t).view.read (Elt Ideal) (V m c main_v81) := rfl
    rw [h, (found m c).wqb]
    exact (read7 _ t e _).trans ((wqbArr_at _ e h' ⟨k, by omega⟩).trans (dif_pos k.isLt))
  wqt e h' k := by
    have h : iblk m c 7 t = (win0_7.blk t).view.read (Elt Ideal) (V m c main_v81) := rfl
    rw [h, (found m c).wqb]
    refine (read7 _ t e _).trans ((congrArg (fun n => wqbArr (A m c main_arg5 : Vec Ideal S256x768 .f32) (ix2 e n)) (Fin.ext ?_)).trans
      ((wqbArr_at _ e h' ⟨16 + k, by omega⟩).trans ((dif_neg ?_).trans (congrArg (fun n => (A m c main_arg5 : Vec Ideal S256x768 .f32) (ix2 e n)) (Fin.ext ?_)))))
    · show (h' : ℕ) * 128 + 80 + k = h' * 128 + 64 + (16 + k)
      omega
    · show ¬ 16 + (k : ℕ) < 16
      omega
    · show (h' : ℕ) * 96 + 48 + (16 + k) = h' * 96 + 64 + k
      omega
  kvg e := by
    have h : iblk m c 8 t = (win0_8.blk t).view.read (Elt Ideal) (V m c main_v95) := rfl
    rw [h, (found m c).kvg]
    refine (read8 _ t 0 e).trans ?_
    pointwise []
    rfl
  wk e h' l := by
    have h : iblk m c 9 t = (win0_9.blk t).view.read (Elt Ideal) (V m c main_v88) := rfl
    rw [h, (found m c).wk]
    exact (read9 _ t e _).trans (wkArr_at _ e h' l)
  wv e h' k := by
    have h : iblk m c 10 t = (win0_10.blk t).view.read (Elt Ideal) (V m c main_v93) := rfl
    rw [h, (found m c).wv]
    exact (read10 _ t _ e).trans (wvArr_at _ e h' k)
  dft p g g' i j := by
    have h : iblk m c 11 t = (win0_11.blk t).view.read (Elt Ideal) (V m c main_v25) := rfl
    rw [h, (found m c).dft]
    exact (read11 _ t _ _).trans (dftArr_at p g g' i j)
  ta r l := by
    have h : iblk m c 12 t = (win0_12.blk t).view.read (Elt Ideal) (V m c main_v56) := rfl
    rw [h, (found m c).ta]
    exact (read12 _ t r l).trans (lanes_at _ _ (row t r) l)
  tb r l := by
    have h : iblk m c 13 t = (win0_13.blk t).view.read (Elt Ideal) (V m c main_v58) := rfl
    rw [h, (found m c).tb]
    exact (read13 _ t r l).trans (lanes_at _ _ (row t r) l)
  vone h' k := by
    have h : iblk m c 14 t = (win0_14.blk t).view.read (Elt Ideal) (V m c main_cst) := rfl
    rw [h, (found m c).vone]
    exact (read14 _ t _ 0).trans (voneArr_at h' k)

/-- A lane of eight heads is a head and a lane of it. -/
theorem lane_split (n : Fin 1024) : ∃ (h : Fin 8) (l : Fin 128), n = ⟨h * 128 + l, by omega⟩ :=
  ⟨⟨n / 128, by omega⟩, ⟨n % 128, by omega⟩, Fin.ext (by show n.val = n.val / 128 * 128 + n.val % 128; omega)⟩

/-- A channel of four groups is a group and a channel of it. -/
theorem group_split (n : Fin 256) : ∃ (g : Fin 4) (j : Fin 64), n = ⟨g * 64 + j, by omega⟩ :=
  ⟨⟨n / 64, by omega⟩, ⟨n % 64, by omega⟩, Fin.ext (by show n.val = n.val / 64 * 64 + n.val % 64; omega)⟩

/-- After the run the first result's array holds every token's queries. -/
theorem arr_q : (dats m 0 c).arrAt 15 (cfgs 0).N = (args m c).res0 := by
  have key : ∀ (t : Fin cfg0.N) (y : S1x512x1024.Idx), (dats m 0 c).after 15 t y
      = (args m c).res0 ((win0_15.blk t).view.emb y) := fun t y => by
    obtain ⟨r, n, rfl⟩ : ∃ (r : Fin 512) (n : Fin 1024), y = (ix3 0 r n : S1x512x1024.Idx) := ⟨y 1, y 2, by
      funext a
      match a with
      | ⟨0, _⟩ => exact Subsingleton.elim (α := Fin 1) _ _
      | ⟨1, _⟩ => rfl
      | ⟨2, _⟩ => rfl⟩
    obtain ⟨h, l, rfl⟩ := lane_split n
    rw [after0_15, emb15, val15, q_at (point_blk m c t), res0_at]
  exact (dats m 0 c).arrAt_eq_of_covers 15 _ covers15 fun t _ y => key t y

/-- The second's its keys. -/
theorem arr_k : (dats m 0 c).arrAt 16 (cfgs 0).N = (args m c).res1 := by
  have key : ∀ (t : Fin cfg0.N) (y : S1x512x1024.Idx), (dats m 0 c).after 16 t y
      = (args m c).res1 ((win0_16.blk t).view.emb y) := fun t y => by
    obtain ⟨r, n, rfl⟩ : ∃ (r : Fin 512) (n : Fin 1024), y = (ix3 0 r n : S1x512x1024.Idx) := ⟨y 1, y 2, by
      funext a
      match a with
      | ⟨0, _⟩ => exact Subsingleton.elim (α := Fin 1) _ _
      | ⟨1, _⟩ => rfl
      | ⟨2, _⟩ => rfl⟩
    obtain ⟨h, l, rfl⟩ := lane_split n
    rw [after0_16, emb16, val16, k_at (point_blk m c t), res1_at]
  exact (dats m 0 c).arrAt_eq_of_covers 16 _ covers16 fun t _ y => key t y

/-- The third's its values. -/
theorem arr_v : (dats m 0 c).arrAt 17 (cfgs 0).N = (args m c).res2 := by
  have key : ∀ (t : Fin cfg0.N) (y : S1x8x1x80x512.Idx), (dats m 0 c).after 17 t y
      = (args m c).res2 ((win0_17.blk t).view.emb y) := fun t y => by
    obtain ⟨h, k, r, rfl⟩ : ∃ (h : Fin 8) (k : Fin 80) (r : Fin 512), y = (ix5 0 h 0 k r : S1x8x1x80x512.Idx) := ⟨y 1, y 3, y 4, by
      funext a
      match a with
      | ⟨0, _⟩ => exact Subsingleton.elim (α := Fin 1) _ _
      | ⟨1, _⟩ => rfl
      | ⟨2, _⟩ => exact Subsingleton.elim (α := Fin 1) _ _
      | ⟨3, _⟩ => rfl
      | ⟨4, _⟩ => rfl⟩
    rw [after0_17, emb17, val17, v_at (point_blk m c t), res2_at]
    rfl
  exact (dats m 0 c).arrAt_eq_of_covers 17 _ covers17 fun t _ y => key t y

/-- The fourth's its Fourier mixing. -/
theorem arr_f : (dats m 0 c).arrAt 18 (cfgs 0).N = (args m c).res3 := by
  have key : ∀ (t : Fin cfg0.N) (y : S1x2x512x256.Idx), (dats m 0 c).after 18 t y
      = (args m c).res3 ((win0_18.blk t).view.emb y) := fun t y => by
    obtain ⟨p, r, n, rfl⟩ : ∃ (p : Fin 2) (r : Fin 512) (n : Fin 256), y = (ix4 0 p r n : S1x2x512x256.Idx) := ⟨y 1, y 2, y 3, by
      funext a
      match a with
      | ⟨0, _⟩ => exact Subsingleton.elim (α := Fin 1) _ _
      | ⟨1, _⟩ => rfl
      | ⟨2, _⟩ => rfl
      | ⟨3, _⟩ => rfl⟩
    obtain ⟨g, j, rfl⟩ := group_split n
    rw [after0_18, emb18, val18, f_at (point_blk m c t), res3_at]
  exact (dats m 0 c).arrAt_eq_of_covers 18 _ covers18 fun t _ y => key t y

/-- The fifth's its gated channels. -/
theorem arr_u : (dats m 0 c).arrAt 19 (cfgs 0).N = (args m c).res4 := by
  have key : ∀ (t : Fin cfg0.N) (y : S1x512x256.Idx), (dats m 0 c).after 19 t y
      = (args m c).res4 ((win0_19.blk t).view.emb y) := fun t y => by
    obtain ⟨r, j, rfl⟩ : ∃ (r : Fin 512) (j : Fin 256), y = (ix3 0 r j : S1x512x256.Idx) := ⟨y 1, y 2, by
      funext a
      match a with
      | ⟨0, _⟩ => exact Subsingleton.elim (α := Fin 1) _ _
      | ⟨1, _⟩ => rfl
      | ⟨2, _⟩ => rfl⟩
    rw [after0_19, emb19, val19, u_at (point_blk m c t), res4_at]
  exact (dats m 0 c).arrAt_eq_of_covers 19 _ covers19 fun t _ y => key t y

end Cert.Proof.Prep

end
-- ==== Proof.PrepRefOut.lean ====
module

public import proofs.«01_k».proof.Proof.PrepRef

/-!
# The third reference's results

Each result of the reference is the array of its formula over all tokens.
-/

@[expose] public section

set_option maxRecDepth 16384

noncomputable section

namespace Cert.Proof.Prep.Ref

open Cert.Reference3Ideal Cert.Reference3Ideal.Gen Cert.Reference3Ideal.Value
open Idealize.ShloMosaic Idealize.SL.Sem Idealize.ShloMosaic.TcCoe

variable (V : Valuation τ sig (Elt Ideal))

/-- The heads side by side. -/
theorem flat_at (Y : Vec Ideal S2x16384x8x128 .f32) (b : Fin 2) (i : Fin 16384) (h : Fin 8) (l : Fin 128) :
    truncf (F := Ideal) (φ := .f32) .bf16 (shapeCast S2x16384x1024 Y shapeCasts_S2x16384x8x128_S2x16384x1024) bitsLt_bf16_f32
      (ix3 b i ⟨h * 128 + l, by omega⟩) = Y (ix4 b i h l) := by
  pointwise []

/-- A head's three parts side by side. -/
theorem parts_at (P : Vec Ideal S2x16384x8x64 .f32) (R O : Vec Ideal S2x16384x8x32 .f32) (b : Fin 2) (i : Fin 16384) (h : Fin 8) (l : Fin 128) :
    concatenate S2x16384x8x128 3 [⟨S2x16384x8x64, P⟩, ⟨S2x16384x8x32, R⟩, ⟨S2x16384x8x32, O⟩]
      concatenates_S2x16384x8x64_S2x16384x8x32_S2x16384x8x32_S2x16384x8x128_d3 (ix4 b i h l)
    = if h1 : (l : ℕ) < 64 then P (ix4 b i h ⟨l, h1⟩) else if h2 : (l : ℕ) - 64 < 32 then R (ix4 b i h ⟨l - 64, h2⟩)
      else O (ix4 b i h ⟨l - 64 - 32, by omega⟩) := by
  pointwise []

/-- The reference's queries. -/
theorem q_out : val4 V (Proc.devRef .tc main_v137) = (ofV V).res0 := by
  rw [val4_main_v137]
  funext y
  obtain ⟨b, i, h, l, rfl⟩ : ∃ (b : Fin 2) (i : Fin 16384) (h : Fin 8) (l : Fin 128), y = ix3 b i ⟨h * 128 + l, by omega⟩ := by
    have hy : (y 2).val < 1024 := (y 2).isLt
    refine ⟨y 0, y 1, ⟨(y 2).val / 128, by omega⟩, ⟨(y 2).val % 128, by omega⟩, funext fun a => ?_⟩
    match a with
    | ⟨0, _⟩ => rfl
    | ⟨1, _⟩ => rfl
    | ⟨2, _⟩ => exact Fin.ext (by show (y 2).val = (y 2).val / 128 * 128 + (y 2).val % 128; omega)
  have hq := v74_at V b i h
  have hc := cos_at V b i
  have hs := sin_at V b i
  rw [res0_at, qOut]
  unfold lane res_main_v79 res_main_v80 res_main_v76 res_main_v77 res_main_v78 res_main_v130
  generalize res_main_v74 V = X at hq ⊢
  generalize res_main_v26 V = C at hc ⊢
  generalize res_main_v27 V = S at hs ⊢
  generalize (ofV V).tok b i = T at *
  generalize (ofV V).wts = W at *
  refine (flat_at _ b i h l).trans ((parts_at _ _ _ b i h l).trans ?_)
  by_cases h1 : (l : ℕ) < 64
  · rw [dif_pos h1, dif_pos h1]
    pointwise []
    rw [hq]
    rfl
  rw [dif_neg h1, dif_neg h1]
  by_cases h2 : (l : ℕ) < 80
  · rw [dif_pos h2, dif_pos (show (l : ℕ) - 64 < 32 by omega)]
    pointwise []
    rw [dif_pos (show (l : ℕ) - 64 < 16 by omega)]
    simp only [hq, hc, hs]
    simp only [show (h : ℕ) * 96 + (64 + (l - 64)) = h * 96 + 64 + (l - 64) by omega,
      show (h : ℕ) * 96 + (64 + (16 + (l - 64))) = h * 96 + 64 + (l - 48) by omega]
    rfl
  rw [dif_neg h2]
  by_cases h3 : (l : ℕ) < 96
  · rw [dif_pos h3, dif_pos (show (l : ℕ) - 64 < 32 by omega)]
    pointwise []
    rw [dif_neg (show ¬ (l : ℕ) - 64 < 16 by omega)]
    simp only [hq, hc, hs]
    simp only [show (l : ℕ) - 64 - 16 = l - 80 by omega, show (h : ℕ) * 96 + (64 + (l - 80)) = h * 96 + 64 + (l - 80) by omega,
      show (h : ℕ) * 96 + (64 + (16 + (l - 80))) = h * 96 + 64 + (l - 64) by omega]
    rfl
  · rw [dif_neg h3, dif_neg (show ¬ (l : ℕ) - 64 < 32 by omega), zero_mul]
    pointwise []

/-- The reference's keys. -/
theorem k_out : val4 V (Proc.devRef .tc main_v142) = (ofV V).res1 := by
  rw [val4_main_v142]
  funext y
  obtain ⟨b, i, h, l, rfl⟩ : ∃ (b : Fin 2) (i : Fin 16384) (h : Fin 8) (l : Fin 128), y = ix3 b i ⟨h * 128 + l, by omega⟩ := by
    have hy : (y 2).val < 1024 := (y 2).isLt
    refine ⟨y 0, y 1, ⟨(y 2).val / 128, by omega⟩, ⟨(y 2).val % 128, by omega⟩, funext fun a => ?_⟩
    match a with
    | ⟨0, _⟩ => rfl
    | ⟨1, _⟩ => rfl
    | ⟨2, _⟩ => exact Fin.ext (by show (y 2).val = (y 2).val / 128 * 128 + (y 2).val % 128; omega)
  have hk := v110_at V b i h
  have hz := v54_at V b i
  have hc := cos_at V b i
  have hs := sin_at V b i
  rw [res1_at, kOut]
  unfold lane res_main_v113 res_main_v114 res_main_v58 res_main_v130
  generalize res_main_v110 V = X at hk ⊢
  generalize res_main_v54 V = Z at hz ⊢
  generalize res_main_v26 V = C at hc ⊢
  generalize res_main_v27 V = S at hs ⊢
  generalize (ofV V).tok b i = T at *
  generalize (ofV V).wts = W at *
  refine (flat_at _ b i h l).trans ((parts_at _ _ _ b i h l).trans ?_)
  by_cases h1 : (l : ℕ) < 64
  · rw [dif_pos h1, dif_pos h1]
    pointwise []
    rw [hk]
  rw [dif_neg h1, dif_neg h1]
  by_cases h2 : (l : ℕ) < 80
  · rw [dif_pos h2, dif_pos (show (l : ℕ) - 64 < 32 by omega)]
    pointwise []
    rw [dif_pos (show (l : ℕ) - 64 < 16 by omega)]
    simp only [hz, hc, hs]
    simp only [show 16 + ((l : ℕ) - 64) = l - 48 by omega]
  rw [dif_neg h2]
  by_cases h3 : (l : ℕ) < 96
  · rw [dif_pos h3, dif_pos (show (l : ℕ) - 64 < 32 by omega)]
    pointwise []
    rw [dif_neg (show ¬ (l : ℕ) - 64 < 16 by omega)]
    simp only [hz, hc, hs]
    simp only [show (l : ℕ) - 64 - 16 = l - 80 by omega, show 16 + ((l : ℕ) - 80) = l - 64 by omega]
  · rw [dif_neg h3, dif_neg (show ¬ (l : ℕ) - 64 < 32 by omega)]
    pointwise []

/-- The reference's values. -/
theorem v_out : val4 V (Proc.devRef .tc main_v148) = (ofV V).res2 := by
  rw [val4_main_v148]
  funext y
  obtain ⟨b, h, t, k, r, rfl⟩ : ∃ (b : Fin 2) (h : Fin 8) (t : Fin 32) (k : Fin 80) (r : Fin 512), y = ix5 b h t k r :=
    ⟨y 0, y 1, y 2, y 3, y 4, funext fun a => match a with
      | ⟨0, _⟩ => rfl
      | ⟨1, _⟩ => rfl
      | ⟨2, _⟩ => rfl
      | ⟨3, _⟩ => rfl
      | ⟨4, _⟩ => rfl⟩
  have hk := v110_at V b ⟨t * 512 + r, by omega⟩ h
  rw [res2_at, vOut]
  generalize res_main_v110 V = X at hk ⊢
  pointwise []
  by_cases h1 : (k : ℕ) < 64
  · simp only [dif_pos h1, hk]
    exact congrArg _ (Fin.ext (by show (h : ℕ) * 128 + (64 + k) = h * 128 + 64 + k; omega))
  · simp only [dif_neg h1]
    by_cases h2 : (k : ℕ) = 64
    · rw [dif_pos (by omega), if_pos h2]
    · rw [dif_neg (by omega), if_neg h2]

/-- The reference's Fourier mixing. -/
theorem f_out : val4 V (Proc.devRef .tc main_v171) = (ofV V).res3 := by
  rw [val4_main_v171]
  funext y
  obtain ⟨b, p, i, g, j, rfl⟩ : ∃ (b p : Fin 2) (i : Fin 16384) (g : Fin 4) (j : Fin 64), y = ix4 b p i ⟨g * 64 + j, by omega⟩ := by
    have hy : (y 3).val < 256 := (y 3).isLt
    refine ⟨y 0, y 1, y 2, ⟨(y 3).val / 64, by omega⟩, ⟨(y 3).val % 64, by omega⟩, funext fun a => ?_⟩
    match a with
    | ⟨0, _⟩ => rfl
    | ⟨1, _⟩ => rfl
    | ⟨2, _⟩ => rfl
    | ⟨3, _⟩ => exact Fin.ext (by show (y 3).val = (y 3).val / 64 * 64 + (y 3).val % 64; omega)
  have hz := v54_at V b i
  have hd : ∀ i j, Host.cos (F := Ideal) (φ := .f32) (res_main_v158 V) (ix2 i j) = (ofV V).wts.dc i j := fun _ _ => rfl
  have hs : ∀ i j, Host.sin (F := Ideal) (φ := .f32) (res_main_v158 V) (ix2 i j) = (ofV V).wts.ds i j := fun _ _ => rfl
  rw [res3_at, fOut]
  unfold res_main_v159
  generalize res_main_v54 V = Z at hz ⊢
  generalize Host.cos (F := Ideal) (φ := .f32) (res_main_v158 V) = C at hd ⊢
  generalize Host.sin (F := Ideal) (φ := .f32) (res_main_v158 V) = S at hs ⊢
  generalize (ofV V).tok b i = T at *
  generalize (ofV V).wts = W at *
  pointwise []
  simp only [hz, hd, hs]
  have hp : p = 0 ∨ p = 1 := by omega
  rcases hp with rfl | rfl
  · exact dif_pos Nat.one_pos
  · exact dif_neg (lt_irrefl 1)

/-- The reference's gated channels. -/
theorem u_out : val4 V (Proc.devRef .tc main_v179) = (ofV V).res4 := by
  rw [val4_main_v179]
  funext y
  obtain ⟨b, i, j, rfl⟩ : ∃ (b : Fin 2) (i : Fin 16384) (j : Fin 256), y = ix3 b i j :=
    ⟨y 0, y 1, y 2, funext fun a => match a with
      | ⟨0, _⟩ => rfl
      | ⟨1, _⟩ => rfl
      | ⟨2, _⟩ => rfl⟩
  have hz := v54_at V b i
  rw [res4_at, uOut, Ideal.logistic]
  unfold res_main_v59
  generalize res_main_v54 V = Z at hz ⊢
  pointwise []
  simp only [hz]
  simp only [show 672 + (256 + (j : ℕ)) = 928 + j by omega]

/-- The reference's rotary angles are the call's. -/
theorem ang_eq : (res_main_v25 V : Vec Ideal S16384x16 .f32) = ropeAng := rfl

/-- So are its angles of the Fourier mixing. -/
theorem dft_eq : (res_main_v158 V : Vec Ideal S64x64 .f32) = dftAng := rfl

/-- The arguments that a valuation holds, of arrays equal to given ones. -/
theorem ofV_eq (A : Args) (h0 : V (Proc.devRef .tc main_arg0) = A.a0) (h1 : V (Proc.devRef .tc main_arg1) = A.a1)
    (h2 : V (Proc.devRef .tc main_arg2) = A.a2) (h3 : V (Proc.devRef .tc main_arg3) = A.a3)
    (h4 : V (Proc.devRef .tc main_arg4) = A.a4) (h5 : V (Proc.devRef .tc main_arg5) = A.a5)
    (h6 : V (Proc.devRef .tc main_arg6) = A.a6) (h7 : V (Proc.devRef .tc main_arg7) = A.a7)
    (hc : A.co = Host.cos (F := Ideal) (φ := .f32) (ropeAng (F := Ideal))) (hs : A.si = Host.sin (F := Ideal) (φ := .f32) (ropeAng (F := Ideal)))
    (hd : A.dc = Host.cos (F := Ideal) (φ := .f32) (dftAng (F := Ideal))) (he : A.ds = Host.sin (F := Ideal) (φ := .f32) (dftAng (F := Ideal))) :
    ofV V = A := by
  obtain ⟨a0, a1, a2, a3, a4, a5, a6, a7, co, si, dc, ds⟩ := A
  dsimp only at h0 h1 h2 h3 h4 h5 h6 h7 hc hs hd he
  subst h0 h1 h2 h3 h4 h5 h6 h7 hc hs hd he
  unfold ofV res_main_v26 res_main_v27
  rw [ang_eq, dft_eq]

end Cert.Proof.Prep.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.ReferenceIdeal
public import proofs.«01_k».proof.Proof.Gen.ReferenceIdeal.Run
public import proofs.«01_k».proof.Proof.Gen.Pre_finite_scores
public import proofs.«01_k».proof.Proof.RefOut
public import proofs.«01_k».proof.Proof.Finite
public import proofs.«01_k».proof.Proof.Same
public import proofs.«01_k».proof.Proof.MlpOut
public import proofs.«01_k».proof.Proof.PrepOut
public import proofs.«01_k».proof.Proof.PrepRefOut
public import Idealize.ShloMosaic.Adequacy
public import Idealize.ShloMosaic.Init

@[expose] public section

noncomputable section

namespace Cert.Proof

open Idealize.ShloMosaic Idealize.SL.Sem

/-- The kernel ends, its arguments unchanged and its counters at zero. -/
theorem frame_kernel : Cert.quiescent_Kernel (hKernel := Cert.Kernel.Gen.facts) := fun m ρ _ => by
  rw [Attn.defs_eq, Attn.mains_eq]
  exact (θ_run Cert.KernelIdeal.defs _ _).mono (fun _ h => h) (Attn.frame (F := Bits) m ρ)

/-- So does the kernel read over the extended reals. -/
theorem frame_ideal : Cert.quiescent_KernelIdeal (hKernelIdeal := Cert.KernelIdeal.Gen.facts) := fun m ρ _ =>
  Attn.frame (F := Ideal) m ρ

/-- So does the reference. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- From finite queries and keys both end with the attention of the arguments. -/
theorem attention : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Gen.facts) := by
  intro m g m' g' hpre hargs
  have hA : ∀ c, (Attn.args m c).Ok := fun c =>
    Attn.ok_of_pre (hPre := Cert.Pre_finite_scores.Gen.facts) (Attn.args m c) (hpre c)
  refine ⟨fun c => (Attn.args m c).out, ?_, ?_⟩
  · refine (θ_run Cert.KernelIdeal.defs _ _).mono (fun r h c => ?_) (θ_run_and (Attn.frame (F := Ideal) m g) (Attn.run_main m g))
    exact ⟨(h.2.out_eq c 5).trans (Attn.arr_out m c (hA c)), h.1.1 c⟩
  · refine (θ_run Cert.ReferenceIdeal.defs _ _).mono (fun r h c => ?_) (Cert.ReferenceIdeal.Value.run (F := Ideal) m' g')
    obtain ⟨h0, h1, h2, h3, h4, h5, h6, h7⟩ := hargs c
    exact ⟨(h c).1.trans (Attn.Ref.res_out m' c (hA c) h0 h1 h2 h3 h4 h5 h6 h7), (h c).2⟩

/-- The second kernel ends, its arguments unchanged and its counters at zero. -/
theorem frame_kernel2 : Cert.quiescent_Kernel2 (hKernel2 := Cert.Kernel2.Gen.facts) := fun m ρ _ =>
  Cert.Kernel2.Gen.frame m ρ

/-- So does the second kernel read over the extended reals. -/
theorem frame_ideal2 : Cert.quiescent_Kernel2Ideal (hKernel2Ideal := Cert.Kernel2Ideal.Gen.facts) := fun m ρ _ =>
  Cert.Kernel2Ideal.Gen.frame m ρ

/-- So does its reference. -/
theorem frame_reference2 : Cert.quiescent_Reference2Ideal (hReference2Ideal := Cert.Reference2Ideal.Gen.facts) := fun m ρ _ =>
  (θ_run Cert.Reference2Ideal.defs _ _).mono
    (fun r h => ⟨fun c => (h c).2, sem_eq_zero_of_no_sems (by decide) r.2⟩) (Cert.Reference2Ideal.Value.run (F := Ideal) m ρ)

/-- Both end with the rows after the output projection, the channel mixer and the final norm. -/
theorem mixer : Cert.algebraic_Kernel2Ideal_Reference2Ideal (hKernel2Ideal := Cert.Kernel2Ideal.Gen.facts)
    (hReference2Ideal := Cert.Reference2Ideal.Gen.facts) := by
  intro m g m' g' _ hargs
  refine ⟨fun c => (Mlp.args m c).res, ?_, ?_⟩
  · refine (θ_run Cert.Kernel2Ideal.defs _ _).mono (fun r h c => ?_) (Cert.Kernel2Ideal.Value.run_blocks (F := Ideal) m g)
    exact ⟨(h c).1.trans (Mlp.arr_out m c), (h c).2⟩
  · refine (θ_run Cert.Reference2Ideal.defs _ _).mono (fun r h c => ?_) (Cert.Reference2Ideal.Value.run (F := Ideal) m' g')
    obtain ⟨h0, h1, h2, h3, h4, h5, h6, h7, h8, h9, h10⟩ := hargs c
    exact ⟨(h c).1.trans (Mlp.Ref.res_out m' c (Mlp.args m c) h0 h1 h2 h3 h4 h5 h6 h7 h8 h9 h10), (h c).2⟩

/-- The third kernel ends, its arguments unchanged and its counters at zero. -/
theorem frame_kernel3 : Cert.quiescent_Kernel3 (hKernel3 := Cert.Kernel3.Gen.facts) := fun m ρ _ =>
  Cert.Kernel3.Gen.frame m ρ

/-- So does the third kernel read over the extended reals. -/
theorem frame_ideal3 : Cert.quiescent_Kernel3Ideal (hKernel3Ideal := Cert.Kernel3Ideal.Gen.facts) := fun m ρ _ =>
  Cert.Kernel3Ideal.Gen.frame m ρ

/-- So does its reference. -/
theorem frame_reference3 : Cert.quiescent_Reference3Ideal (hReference3Ideal := Cert.Reference3Ideal.Gen.facts) := fun m ρ _ =>
  (θ_run Cert.Reference3Ideal.defs _ _).mono
    (fun r h => ⟨fun c => (h c).2.2.2.2.2, sem_eq_zero_of_no_sems (by decide) r.2⟩) (Cert.Reference3Ideal.Value.run (F := Ideal) m ρ)

open Cert.Reference3Ideal.Value StableHlo in
/-- Both end with every token's queries, keys, values, Fourier mixing and gated channels. -/
theorem prep : Cert.algebraic_Kernel3Ideal_Reference3Ideal (hKernel3Ideal := Cert.Kernel3Ideal.Gen.facts)
    (hReference3Ideal := Cert.Reference3Ideal.Gen.facts) := by
  intro m g m' g' _ hargs
  refine ⟨fun c => (Prep.args m c).res0, fun c => (Prep.args m c).res1, fun c => (Prep.args m c).res2, fun c => (Prep.args m c).res3,
    fun c => (Prep.args m c).res4, ?_, ?_⟩
  · refine (θ_run Cert.Kernel3Ideal.defs _ _).mono (fun r h c => ?_) (Cert.Kernel3Ideal.Value.run_blocks (F := Ideal) m g)
    obtain ⟨q, k, v, f, u, keep⟩ := h c
    exact ⟨q.trans (Prep.arr_q m c), k.trans (Prep.arr_k m c), v.trans (Prep.arr_v m c), f.trans (Prep.arr_f m c),
      u.trans (Prep.arr_u m c), keep⟩
  · refine (θ_run Cert.Reference3Ideal.defs _ _).mono (fun r h c => ?_) (Cert.Reference3Ideal.Value.run (F := Ideal) m' g')
    obtain ⟨h0, h1, h2, h3, h4, h5, h6, h7⟩ := hargs c
    obtain ⟨q, k, v, f, u, keep⟩ := h c
    have e := Prep.Ref.ofV_eq (launchContents m' c) (Prep.args m c) h0 h1 h2 h3 h4 h5 h6 h7 rfl rfl rfl rfl
    exact ⟨q.trans ((val4_main_v137 _).symm.trans ((Prep.Ref.q_out _).trans (congrArg Prep.Args.res0 e))),
      k.trans ((val4_main_v142 _).symm.trans ((Prep.Ref.k_out _).trans (congrArg Prep.Args.res1 e))),
      v.trans ((val4_main_v148 _).symm.trans ((Prep.Ref.v_out _).trans (congrArg Prep.Args.res2 e))),
      f.trans ((val4_main_v171 _).symm.trans ((Prep.Ref.f_out _).trans (congrArg Prep.Args.res3 e))),
      u.trans ((val4_main_v179 _).symm.trans ((Prep.Ref.u_out _).trans (congrArg Prep.Args.res4 e))), keep⟩

/-- Everything claimed. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Pre_finite_scores.Gen.facts,
    frame_kernel, frame_ideal, fun m ρ _ => frame_ideal m ρ trivial, frame_reference,
    fun m ρ _ => frame_reference m ρ trivial, frame_kernel2, frame_ideal2, frame_reference2, frame_kernel3, frame_ideal3,
    frame_reference3, trivial, attention, trivial, mixer, trivial, prep⟩

end Cert.Proof

end
